-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "gamma_0_c" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "gamma_1_c" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "gamma_2_c" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "gamma_3_c" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111_1)) (v1 : (c : Dev Cert.KernelIdeal.nD) → Buf (Elt Ideal) ((c.tc : Thread Cert.KernelIdeal.nD Cert.KernelIdeal.τ).loc Cert.KernelIdeal.main_v111_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_1) = v0 c
          ∧ r.2.mem ((c.tc : Thread Cert.KernelIdeal.nD Cert.KernelIdeal.τ).loc Cert.KernelIdeal.main_v111_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_v323) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "gamma_0_d" .f32 0x3F617810#32 ((923521 / 1048576 : ℝ) : EReal)
  ∧ IdealRules.named_const.Statement Cert.Kernel5Ideal.κ "gamma_1_d" .f32 0x3F705F01#32 ((15752961 / 16777216 : ℝ) : EReal)
  ∧ IdealRules.named_const.Statement Cert.Kernel5Ideal.κ "gamma_2_d" .f32 0x3F7817E0#32 ((260144641 / 268435456 : ℝ) : EReal)
  ∧ IdealRules.named_const.Statement Cert.Kernel5Ideal.κ "gamma_3_d" .f32 0x3F7C05FC#32 ((4228250625 / 4294967296 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v86_1)) (v1 : (c : Dev Cert.Kernel5Ideal.nD) → Buf (Elt Ideal) ((c.tc : Thread Cert.Kernel5Ideal.nD Cert.Kernel5Ideal.τ).loc Cert.Kernel5Ideal.main_v86_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v86_1) = v0 c
          ∧ r.2.mem ((c.tc : Thread Cert.Kernel5Ideal.nD Cert.Kernel5Ideal.τ).loc Cert.Kernel5Ideal.main_v86_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v80) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x2560 : Shape := ⟨2, ![16384, 2560]⟩
abbrev S16384x1024 : Shape := ⟨2, ![16384, 1024]⟩
abbrev S528x2560 : Shape := ⟨2, ![528, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S4 : Shape := ⟨1, ![4]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S2048 : Shape := ⟨1, ![2048]⟩
abbrev S_ : Shape := ⟨0, ![]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16 : Shape := ⟨1, ![16]⟩
abbrev S16x1 : Shape := ⟨2, ![16, 1]⟩
abbrev S16x64 : Shape := ⟨2, ![16, 64]⟩
abbrev S16x128 : Shape := ⟨2, ![16, 128]⟩
abbrev S128 : Shape := ⟨1, ![128]⟩
abbrev S4x1x1 : Shape := ⟨3, ![4, 1, 1]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S1x128x1 : Shape := ⟨3, ![1, 128, 1]⟩
abbrev S4x128x1 : Shape := ⟨3, ![4, 128, 1]⟩
abbrev S1x16x1 : Shape := ⟨3, ![1, 16, 1]⟩
abbrev S4x16x1 : Shape := ⟨3, ![4, 16, 1]⟩
abbrev S4x16x128 : Shape := ⟨3, ![4, 16, 128]⟩
abbrev S8x4x128x128 : Shape := ⟨4, ![8, 4, 128, 128]⟩
abbrev S8x15x512 : Shape := ⟨3, ![8, 15, 512]⟩
abbrev S256x512 : Shape := ⟨2, ![256, 512]⟩
abbrev S256x1024 : Shape := ⟨2, ![256, 1024]⟩
abbrev S256x128 : Shape := ⟨2, ![256, 128]⟩
abbrev S16x512 : Shape := ⟨2, ![16, 512]⟩
abbrev S1x15x512 : Shape := ⟨3, ![1, 15, 512]⟩
abbrev S272x512 : Shape := ⟨2, ![272, 512]⟩
abbrev S1x16x128 : Shape := ⟨3, ![1, 16, 128]⟩
abbrev S15x512 : Shape := ⟨2, ![15, 512]⟩
abbrev S256 : Shape := ⟨1, ![256]⟩
abbrev S256x1 : Shape := ⟨2, ![256, 1]⟩

abbrev nBuf : Space → Nat
  | .hbm => 145
  | .vmem => 39
  | .smem => 0
  | _ => 0

abbrev hbmTy0_0 (i : Nat) : BufTy := match i % 128 with
  | 0 => ⟨S16384x2560, .f32⟩
  | 1 => ⟨S16384x1024, .f32⟩
  | 2 => ⟨S528x2560, .f32⟩
  | 3 => ⟨S1x4x128x128, .f32⟩
  | 4 => ⟨S1x512, .f32⟩
  | 5 => ⟨S1x1024x1024, .f32⟩
  | 6 => ⟨S1x1024, .f32⟩
  | 7 => ⟨S1x1024, .f32⟩
  | 8 => ⟨S4, .f32⟩
  | 9 => ⟨S4, .f32⟩
  | 10 => ⟨S4, .f32⟩
  | 11 => ⟨S4x128x128, .f32⟩
  | 12 => ⟨S4x128x128, .bf16⟩
  | 13 => ⟨S512, .f32⟩
  | 14 => ⟨S1x512, .f32⟩
  | 15 => ⟨S1024x1024, .f32⟩
  | 16 => ⟨S1024x1024, .bf16⟩
  | 17 => ⟨S1024, .f32⟩
  | 18 => ⟨S1x1024, .f32⟩
  | 19 => ⟨S1024, .f32⟩
  | 20 => ⟨S1x1024, .f32⟩
  | 21 => ⟨S2048, .i32⟩
  | 22 => ⟨S_, .i32⟩
  | 23 => ⟨S2048, .i32⟩
  | 24 => ⟨S2048, .i32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S2048, .f32⟩
  | 40 => ⟨S2048x1, .f32⟩
  | 41 => ⟨S1x64, .f32⟩
  | 42 => ⟨S2048x64, .f32⟩
  | 43 => ⟨S2048x64, .f32⟩
  | 44 => ⟨S2048x64, .f32⟩
  | 45 => ⟨S2048x64, .f32⟩
  | 46 => ⟨S2048x64, .f32⟩
  | 47 => ⟨S2048x128, .f32⟩
  | 48 => ⟨S2048x64, .f32⟩
  | 49 => ⟨S2048x128, .f32⟩
  | 50 => ⟨S16, .i32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S16, .f32⟩
  | 66 => ⟨S16x1, .f32⟩
  | 67 => ⟨S1x64, .f32⟩
  | 68 => ⟨S16x64, .f32⟩
  | 69 => ⟨S16x64, .f32⟩
  | 70 => ⟨S16x64, .f32⟩
  | 71 => ⟨S16x64, .f32⟩
  | 72 => ⟨S16x64, .f32⟩
  | 73 => ⟨S16x128, .f32⟩
  | 74 => ⟨S16x64, .f32⟩
  | 75 => ⟨S16x128, .f32⟩
  | 76 => ⟨S128, .f32⟩
  | 77 => ⟨S4, .f32⟩
  | 78 => ⟨S4x1x1, .f32⟩
  | 79 => ⟨S128x1, .f32⟩
  | 80 => ⟨S1x128, .f32⟩
  | 81 => ⟨S128x128, .f32⟩
  | 82 => ⟨S128x128, .f32⟩
  | 83 => ⟨S128x128, .f32⟩
  | 84 => ⟨S_, .f32⟩
  | 85 => ⟨S128x128, .f32⟩
  | 86 => ⟨S128x128, .i1⟩
  | 87 => ⟨S_, .f32⟩
  | 88 => ⟨S128x128, .f32⟩
  | 89 => ⟨S128x128, .f32⟩
  | 90 => ⟨S1x128x128, .f32⟩
  | 91 => ⟨S4x128x128, .f32⟩
  | 92 => ⟨S4x128x128, .f32⟩
  | 93 => ⟨S4x128x128, .f32⟩
  | 94 => ⟨S4x128x128, .f32⟩
  | 95 => ⟨S_, .f32⟩
  | 96 => ⟨S_, .f32⟩
  | 97 => ⟨S4x128x128, .i1⟩
  | 98 => ⟨S4x128x128, .f32⟩
  | 99 => ⟨S4x128x128, .f32⟩
  | 100 => ⟨S_, .f32⟩
  | 101 => ⟨S4x128x128, .f32⟩
  | 102 => ⟨S4x128x128, .f32⟩
  | 103 => ⟨S_, .f32⟩
  | 104 => ⟨S128, .f32⟩
  | 105 => ⟨S128, .f32⟩
  | 106 => ⟨S128x1, .f32⟩
  | 107 => ⟨S1x128x1, .f32⟩
  | 108 => ⟨S4x128x1, .f32⟩
  | 109 => ⟨S4x128x1, .f32⟩
  | 110 => ⟨S4x128x1, .f32⟩
  | 111 => ⟨S4x128x1, .f32⟩
  | 112 => ⟨S_, .f32⟩
  | 113 => ⟨S4x128x1, .f32⟩
  | 114 => ⟨S4x128x1, .f32⟩
  | 115 => ⟨S4x128x128, .f32⟩
  | 116 => ⟨S128, .f32⟩
  | 117 => ⟨S4, .f32⟩
  | 118 => ⟨S4x1x1, .f32⟩
  | 119 => ⟨S_, .f32⟩
  | 120 => ⟨S128, .f32⟩
  | 121 => ⟨S128, .f32⟩
  | 122 => ⟨S128x1, .f32⟩
  | 123 => ⟨S1x128x1, .f32⟩
  | 124 => ⟨S4x128x1, .f32⟩
  | 125 => ⟨S4x128x1, .f32⟩
  | 126 => ⟨S4x128x1, .f32⟩
  | 127 => ⟨S4x128x1, .f32⟩
  | _ => ⟨S16384x2560, .f32⟩

abbrev hbmTy0_1 (i : Nat) : BufTy := match i % 128 with
  | 0 => ⟨S4x128x128, .f32⟩
  | 1 => ⟨S16, .f32⟩
  | 2 => ⟨S4, .f32⟩
  | 3 => ⟨S4x1x1, .f32⟩
  | 4 => ⟨S_, .f32⟩
  | 5 => ⟨S16, .f32⟩
  | 6 => ⟨S16, .f32⟩
  | 7 => ⟨S16x1, .f32⟩
  | 8 => ⟨S1x16x1, .f32⟩
  | 9 => ⟨S4x16x1, .f32⟩
  | 10 => ⟨S4x16x1, .f32⟩
  | 11 => ⟨S4x16x1, .f32⟩
  | 12 => ⟨S4x16x1, .f32⟩
  | 13 => ⟨S4x16x128, .f32⟩
  | 14 => ⟨S16384x1024, .f32⟩
  | 15 => ⟨S8x4x128x128, .f32⟩
  | 16 => ⟨S8x15x512, .f32⟩
  | _ => ⟨S16384x2560, .f32⟩

abbrev hbmTy (i : Nat) : BufTy := match i / 128 with
  | 0 => hbmTy0_0 i
  | 1 => hbmTy0_1 i
  | _ => ⟨S16384x2560, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S16x128, .f32⟩
  | .local _ .vmem, ⟨20, _⟩ => ⟨S16x128, .f32⟩
  | .local _ .vmem, ⟨21, _⟩ => ⟨S4x16x128, .f32⟩
  | .local _ .vmem, ⟨22, _⟩ => ⟨S4x128x128, .f32⟩
  | .local _ .vmem, ⟨23, _⟩ => ⟨S4x128x128, .f32⟩
  | .local _ .vmem, ⟨24, _⟩ => ⟨S4x128x128, .f32⟩
  | .local _ .vmem, ⟨25, _⟩ => ⟨S4x128x128, .bf16⟩
  | .local _ .vmem, ⟨26, _⟩ => ⟨S1x512, .f32⟩
  | .local _ .vmem, ⟨27, _⟩ => ⟨S1024x1024, .bf16⟩
  | .local _ .vmem, ⟨28, _⟩ => ⟨S1x1024, .f32⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | .local _ .vmem, ⟨32, _⟩ => ⟨S1x4x128x128, .f32⟩
  | .local _ .vmem, ⟨33, _⟩ => ⟨S1x4x128x128, .f32⟩
  | .local _ .vmem, ⟨34, _⟩ => ⟨S1x15x512, .f32⟩
  | .local _ .vmem, ⟨35, _⟩ => ⟨S1x15x512, .f32⟩
  | .local _ .vmem, ⟨36, _⟩ => ⟨S4x128x128, .f32⟩
  | .local _ .vmem, ⟨37, _⟩ => ⟨S272x512, .f32⟩
  | .local _ .vmem, ⟨38, _⟩ => ⟨S256x1024, .bf16⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_17 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111_0 : Ref sig .tc := ⟨.hbm, 142, rfl⟩
abbrev main_v111_1 : Ref sig .tc := ⟨.hbm, 143, rfl⟩
abbrev main_v111_2 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v643 : BitVec 1 := Scalar.cmpi .eq arg1 c7_i32
  let v644 : BitVec 32 := Scalar.extui v643
  let c0_i32_379 : BitVec 32 := 0#32
  let v645 : BitVec 1 := Scalar.cmpi .ne v644 c0_i32_379
  v645

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let c1_i32 : BitVec 32 := 1#32
  let c0_i32 : BitVec 32 := 0#32
  ![c32_i32.toNat, c1_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let c2_i32 : BitVec 32 := 2#32
  let c0_i32 : BitVec 32 := 0#32
  ![c32_i32.toNat, c2_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let c4_i32 : BitVec 32 := 4#32
  let c0_i32 : BitVec 32 := 0#32
  ![c32_i32.toNat, c4_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x4x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S1x15x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]
-- ==== KernelIdeal.lean ====
variable {F : FTy → Type} [FloatOps F] [Named F]
def κ : String → Option EReal := fun
  | "gamma_0_c" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gamma_1_c" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gamma_2_c" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gamma_3_c" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== ReferenceIdeal.lean ====
abbrev S16384x2560 : Shape := ⟨2, ![16384, 2560]⟩
abbrev S16384x1024 : Shape := ⟨2, ![16384, 1024]⟩
abbrev S528x2560 : Shape := ⟨2, ![528, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S4 : Shape := ⟨1, ![4]⟩
abbrev S_ : Shape := ⟨0, ![]⟩
abbrev S16384x512 : Shape := ⟨2, ![16384, 512]⟩
abbrev S16x2560 : Shape := ⟨2, ![16, 2560]⟩
abbrev S16x512 : Shape := ⟨2, ![16, 512]⟩
abbrev S2048 : Shape := ⟨1, ![2048]⟩
abbrev S16 : Shape := ⟨1, ![16]⟩
abbrev S16x4x128 : Shape := ⟨3, ![16, 4, 128]⟩
abbrev S4x16x128 : Shape := ⟨3, ![4, 16, 128]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S4x16x64 : Shape := ⟨3, ![4, 16, 64]⟩
abbrev S1x16x64 : Shape := ⟨3, ![1, 16, 64]⟩
abbrev S4x1 : Shape := ⟨2, ![4, 1]⟩
abbrev S1x16 : Shape := ⟨2, ![1, 16]⟩
abbrev S4x16 : Shape := ⟨2, ![4, 16]⟩
abbrev S4x16x1 : Shape := ⟨3, ![4, 16, 1]⟩
abbrev S4x128x128 : Shape := ⟨3, ![4, 128, 128]⟩
abbrev S8x4x128x128 : Shape := ⟨4, ![8, 4, 128, 128]⟩
abbrev S8x2048x4x128 : Shape := ⟨4, ![8, 2048, 4, 128]⟩
abbrev S8x4x2048x128 : Shape := ⟨4, ![8, 4, 2048, 128]⟩
abbrev S2048x1 : Shape := ⟨2, ![2048, 1]⟩
abbrev S2048x64 : Shape := ⟨2, ![2048, 64]⟩
abbrev S8x4x2048x64 : Shape := ⟨4, ![8, 4, 2048, 64]⟩
abbrev S1x1x2048x64 : Shape := ⟨4, ![1, 1, 2048, 64]⟩
abbrev S8x4x16x128x128 : Shape := ⟨5, ![8, 4, 16, 128, 128]⟩
abbrev S128 : Shape := ⟨1, ![128]⟩
abbrev S1x128 : Shape := ⟨2, ![1, 128]⟩
abbrev S4x128 : Shape := ⟨2, ![4, 128]⟩
abbrev S1x4x1x128x1 : Shape := ⟨5, ![1, 4, 1, 128, 1]⟩
abbrev S1x4x1x1 : Shape := ⟨4, ![1, 4, 1, 1]⟩
abbrev S8x4x1x128x128 : Shape := ⟨5, ![8, 4, 1, 128, 128]⟩
abbrev S8x2048x512 : Shape := ⟨3, ![8, 2048, 512]⟩
abbrev S8x15x512 : Shape := ⟨3, ![8, 15, 512]⟩

abbrev nBuf : Space → Nat
  | .hbm => 362
  | .vmem => 0
  | .smem => 0
  | _ => 0

abbrev hbmTy0_0 (i : Nat) : BufTy := match i % 128 with
  | 0 => ⟨S16384x2560, .f32⟩
  | 1 => ⟨S16384x1024, .f32⟩
  | 2 => ⟨S528x2560, .f32⟩
  | 3 => ⟨S1x4x128x128, .f32⟩
  | 4 => ⟨S1x512, .f32⟩
  | 5 => ⟨S1x1024x1024, .f32⟩
  | 6 => ⟨S1x1024, .f32⟩
  | 7 => ⟨S1x1024, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S16384x512, .f32⟩
  | 20 => ⟨S16384x512, .f32⟩
  | 21 => ⟨S16384x512, .f32⟩
  | 22 => ⟨S16384x512, .f32⟩
  | 23 => ⟨S16384x512, .f32⟩
  | 24 => ⟨S16x2560, .f32⟩
  | 25 => ⟨S16x512, .f32⟩
  | 26 => ⟨S16x512, .f32⟩
  | 27 => ⟨S16x512, .f32⟩
  | 28 => ⟨S16x512, .f32⟩
  | 29 => ⟨S16x512, .f32⟩
  | 30 => ⟨S2048, .i32⟩
  | 31 => ⟨S_, .i32⟩
  | 32 => ⟨S2048, .i32⟩
  | 33 => ⟨S2048, .i32⟩
  | 34 => ⟨S16, .f32⟩
  | 35 => ⟨S16x4x128, .f32⟩
  | 36 => ⟨S4x16x128, .f32⟩
  | 37 => ⟨S16, .i32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S16, .f32⟩
  | 53 => ⟨S16x1, .f32⟩
  | 54 => ⟨S1x64, .f32⟩
  | 55 => ⟨S16x64, .f32⟩
  | 56 => ⟨S16x64, .f32⟩
  | 57 => ⟨S16x64, .f32⟩
  | 58 => ⟨S16x64, .f32⟩
  | 59 => ⟨S16x64, .f32⟩
  | 60 => ⟨S4x16x64, .f32⟩
  | 61 => ⟨S4x16x64, .f32⟩
  | 62 => ⟨S1x16x64, .f32⟩
  | 63 => ⟨S4x16x64, .f32⟩
  | 64 => ⟨S4x16x64, .f32⟩
  | 65 => ⟨S1x16x64, .f32⟩
  | 66 => ⟨S4x16x64, .f32⟩
  | 67 => ⟨S4x16x64, .f32⟩
  | 68 => ⟨S4x16x64, .f32⟩
  | 69 => ⟨S1x16x64, .f32⟩
  | 70 => ⟨S4x16x64, .f32⟩
  | 71 => ⟨S4x16x64, .f32⟩
  | 72 => ⟨S1x16x64, .f32⟩
  | 73 => ⟨S4x16x64, .f32⟩
  | 74 => ⟨S4x16x64, .f32⟩
  | 75 => ⟨S4x16x64, .f32⟩
  | 76 => ⟨S4x16x128, .f32⟩
  | 77 => ⟨S4x1, .f32⟩
  | 78 => ⟨S_, .f32⟩
  | 79 => ⟨S16, .f32⟩
  | 80 => ⟨S16, .f32⟩
  | 81 => ⟨S1x16, .f32⟩
  | 82 => ⟨S4x16, .f32⟩
  | 83 => ⟨S4x16, .f32⟩
  | 84 => ⟨S4x16, .f32⟩
  | 85 => ⟨S4x16, .f32⟩
  | 86 => ⟨S4x16x1, .f32⟩
  | 87 => ⟨S4x16x128, .f32⟩
  | 88 => ⟨S4x16x128, .f32⟩
  | 89 => ⟨S16x4x128, .f32⟩
  | 90 => ⟨S4x16x128, .f32⟩
  | 91 => ⟨S4x128x128, .f32⟩
  | 92 => ⟨S1x4x128x128, .f32⟩
  | 93 => ⟨S8x4x128x128, .f32⟩
  | 94 => ⟨S8x2048x4x128, .f32⟩
  | 95 => ⟨S8x4x2048x128, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S64, .f32⟩
  | 104 => ⟨S_, .f32⟩
  | 105 => ⟨S64, .f32⟩
  | 106 => ⟨S64, .f32⟩
  | 107 => ⟨S_, .f32⟩
  | 108 => ⟨S64, .f32⟩
  | 109 => ⟨S64, .f32⟩
  | 110 => ⟨S2048, .f32⟩
  | 111 => ⟨S2048x1, .f32⟩
  | 112 => ⟨S1x64, .f32⟩
  | 113 => ⟨S2048x64, .f32⟩
  | 114 => ⟨S2048x64, .f32⟩
  | 115 => ⟨S2048x64, .f32⟩
  | 116 => ⟨S2048x64, .f32⟩
  | 117 => ⟨S2048x64, .f32⟩
  | 118 => ⟨S8x4x2048x64, .f32⟩
  | 119 => ⟨S8x4x2048x64, .f32⟩
  | 120 => ⟨S1x1x2048x64, .f32⟩
  | 121 => ⟨S8x4x2048x64, .f32⟩
  | 122 => ⟨S8x4x2048x64, .f32⟩
  | 123 => ⟨S1x1x2048x64, .f32⟩
  | 124 => ⟨S8x4x2048x64, .f32⟩
  | 125 => ⟨S8x4x2048x64, .f32⟩
  | 126 => ⟨S8x4x2048x64, .f32⟩
  | 127 => ⟨S1x1x2048x64, .f32⟩
  | _ => ⟨S16384x2560, .f32⟩

abbrev hbmTy0_1 (i : Nat) : BufTy := match i % 128 with
  | 0 => ⟨S8x4x2048x64, .f32⟩
  | 1 => ⟨S8x4x2048x64, .f32⟩
  | 2 => ⟨S1x1x2048x64, .f32⟩
  | 3 => ⟨S8x4x2048x64, .f32⟩
  | 4 => ⟨S8x4x2048x64, .f32⟩
  | 5 => ⟨S8x4x2048x64, .f32⟩
  | 6 => ⟨S8x4x2048x128, .f32⟩
  | 7 => ⟨S8x4x16x128x128, .f32⟩
  | 8 => ⟨S8x2048x4x128, .f32⟩
  | 9 => ⟨S8x4x2048x128, .f32⟩
  | 10 => ⟨S8x4x16x128x128, .f32⟩
  | 11 => ⟨S128, .f32⟩
  | 12 => ⟨S4x1, .f32⟩
  | 13 => ⟨S_, .f32⟩
  | 14 => ⟨S128, .f32⟩
  | 15 => ⟨S128, .f32⟩
  | 16 => ⟨S1x128, .f32⟩
  | 17 => ⟨S4x128, .f32⟩
  | 18 => ⟨S4x128, .f32⟩
  | 19 => ⟨S4x128, .f32⟩
  | 20 => ⟨S4x128, .f32⟩
  | 21 => ⟨S1x4x1x128x1, .f32⟩
  | 22 => ⟨S8x4x16x128x128, .f32⟩
  | 23 => ⟨S8x4x16x128x128, .f32⟩
  | 24 => ⟨S_, .f32⟩
  | 25 => ⟨S4, .f32⟩
  | 26 => ⟨S4, .f32⟩
  | 27 => ⟨S4, .f32⟩
  | 28 => ⟨S1x4x1x1, .f32⟩
  | 29 => ⟨S8x4x128x128, .f32⟩
  | 30 => ⟨S8x4x128x128, .f32⟩
  | 31 => ⟨S8x4x1x128x128, .f32⟩
  | 32 => ⟨S8x4x128x128, .f32⟩
  | 33 => ⟨S8x4x1x128x128, .f32⟩
  | 34 => ⟨S8x4x128x128, .f32⟩
  | 35 => ⟨S8x4x128x128, .f32⟩
  | 36 => ⟨S8x4x128x128, .f32⟩
  | 37 => ⟨S_, .f32⟩
  | 38 => ⟨S4, .f32⟩
  | 39 => ⟨S4, .f32⟩
  | 40 => ⟨S4, .f32⟩
  | 41 => ⟨S1x4x1x1, .f32⟩
  | 42 => ⟨S8x4x128x128, .f32⟩
  | 43 => ⟨S8x4x128x128, .f32⟩
  | 44 => ⟨S8x4x1x128x128, .f32⟩
  | 45 => ⟨S8x4x128x128, .f32⟩
  | 46 => ⟨S8x4x1x128x128, .f32⟩
  | 47 => ⟨S8x4x128x128, .f32⟩
  | 48 => ⟨S8x4x128x128, .f32⟩
  | 49 => ⟨S8x4x128x128, .f32⟩
  | 50 => ⟨S_, .f32⟩
  | 51 => ⟨S4, .f32⟩
  | 52 => ⟨S4, .f32⟩
  | 53 => ⟨S4, .f32⟩
  | 54 => ⟨S1x4x1x1, .f32⟩
  | 55 => ⟨S8x4x128x128, .f32⟩
  | 56 => ⟨S8x4x128x128, .f32⟩
  | 57 => ⟨S8x4x1x128x128, .f32⟩
  | 58 => ⟨S8x4x128x128, .f32⟩
  | 59 => ⟨S8x4x1x128x128, .f32⟩
  | 60 => ⟨S8x4x128x128, .f32⟩
  | 61 => ⟨S8x4x128x128, .f32⟩
  | 62 => ⟨S8x4x128x128, .f32⟩
  | 63 => ⟨S_, .f32⟩
  | 64 => ⟨S4, .f32⟩
  | 65 => ⟨S4, .f32⟩
  | 66 => ⟨S4, .f32⟩
  | 67 => ⟨S1x4x1x1, .f32⟩
  | 68 => ⟨S8x4x128x128, .f32⟩
  | 69 => ⟨S8x4x128x128, .f32⟩
  | 70 => ⟨S8x4x1x128x128, .f32⟩
  | 71 => ⟨S8x4x128x128, .f32⟩
  | 72 => ⟨S8x4x1x128x128, .f32⟩
  | 73 => ⟨S8x4x128x128, .f32⟩
  | 74 => ⟨S8x4x128x128, .f32⟩
  | 75 => ⟨S8x4x128x128, .f32⟩
  | 76 => ⟨S_, .f32⟩
  | 77 => ⟨S4, .f32⟩
  | 78 => ⟨S4, .f32⟩
  | 79 => ⟨S4, .f32⟩
  | 80 => ⟨S1x4x1x1, .f32⟩
  | 81 => ⟨S8x4x128x128, .f32⟩
  | 82 => ⟨S8x4x128x128, .f32⟩
  | 83 => ⟨S8x4x1x128x128, .f32⟩
  | 84 => ⟨S8x4x128x128, .f32⟩
  | 85 => ⟨S8x4x1x128x128, .f32⟩
  | 86 => ⟨S8x4x128x128, .f32⟩
  | 87 => ⟨S8x4x128x128, .f32⟩
  | 88 => ⟨S8x4x128x128, .f32⟩
  | 89 => ⟨S_, .f32⟩
  | 90 => ⟨S4, .f32⟩
  | 91 => ⟨S4, .f32⟩
  | 92 => ⟨S4, .f32⟩
  | 93 => ⟨S1x4x1x1, .f32⟩
  | 94 => ⟨S8x4x128x128, .f32⟩
  | 95 => ⟨S8x4x128x128, .f32⟩
  | 96 => ⟨S8x4x1x128x128, .f32⟩
  | 97 => ⟨S8x4x128x128, .f32⟩
  | 98 => ⟨S8x4x1x128x128, .f32⟩
  | 99 => ⟨S8x4x128x128, .f32⟩
  | 100 => ⟨S8x4x128x128, .f32⟩
  | 101 => ⟨S8x4x128x128, .f32⟩
  | 102 => ⟨S_, .f32⟩
  | 103 => ⟨S4, .f32⟩
  | 104 => ⟨S4, .f32⟩
  | 105 => ⟨S4, .f32⟩
  | 106 => ⟨S1x4x1x1, .f32⟩
  | 107 => ⟨S8x4x128x128, .f32⟩
  | 108 => ⟨S8x4x128x128, .f32⟩
  | 109 => ⟨S8x4x1x128x128, .f32⟩
  | 110 => ⟨S8x4x128x128, .f32⟩
  | 111 => ⟨S8x4x1x128x128, .f32⟩
  | 112 => ⟨S8x4x128x128, .f32⟩
  | 113 => ⟨S8x4x128x128, .f32⟩
  | 114 => ⟨S8x4x128x128, .f32⟩
  | 115 => ⟨S_, .f32⟩
  | 116 => ⟨S4, .f32⟩
  | 117 => ⟨S4, .f32⟩
  | 118 => ⟨S4, .f32⟩
  | 119 => ⟨S1x4x1x1, .f32⟩
  | 120 => ⟨S8x4x128x128, .f32⟩
  | 121 => ⟨S8x4x128x128, .f32⟩
  | 122 => ⟨S8x4x1x128x128, .f32⟩
  | 123 => ⟨S8x4x128x128, .f32⟩
  | 124 => ⟨S8x4x1x128x128, .f32⟩
  | 125 => ⟨S8x4x128x128, .f32⟩
  | 126 => ⟨S8x4x128x128, .f32⟩
  | 127 => ⟨S8x4x128x128, .f32⟩
  | _ => ⟨S16384x2560, .f32⟩

abbrev hbmTy0_2 (i : Nat) : BufTy := match i % 128 with
  | 0 => ⟨S_, .f32⟩
  | 1 => ⟨S4, .f32⟩
  | 2 => ⟨S4, .f32⟩
  | 3 => ⟨S4, .f32⟩
  | 4 => ⟨S1x4x1x1, .f32⟩
  | 5 => ⟨S8x4x128x128, .f32⟩
  | 6 => ⟨S8x4x128x128, .f32⟩
  | 7 => ⟨S8x4x1x128x128, .f32⟩
  | 8 => ⟨S8x4x128x128, .f32⟩
  | 9 => ⟨S8x4x1x128x128, .f32⟩
  | 10 => ⟨S8x4x128x128, .f32⟩
  | 11 => ⟨S8x4x128x128, .f32⟩
  | 12 => ⟨S8x4x128x128, .f32⟩
  | 13 => ⟨S_, .f32⟩
  | 14 => ⟨S4, .f32⟩
  | 15 => ⟨S4, .f32⟩
  | 16 => ⟨S4, .f32⟩
  | 17 => ⟨S1x4x1x1, .f32⟩
  | 18 => ⟨S8x4x128x128, .f32⟩
  | 19 => ⟨S8x4x128x128, .f32⟩
  | 20 => ⟨S8x4x1x128x128, .f32⟩
  | 21 => ⟨S8x4x128x128, .f32⟩
  | 22 => ⟨S8x4x1x128x128, .f32⟩
  | 23 => ⟨S8x4x128x128, .f32⟩
  | 24 => ⟨S8x4x128x128, .f32⟩
  | 25 => ⟨S8x4x128x128, .f32⟩
  | 26 => ⟨S_, .f32⟩
  | 27 => ⟨S4, .f32⟩
  | 28 => ⟨S4, .f32⟩
  | 29 => ⟨S4, .f32⟩
  | 30 => ⟨S1x4x1x1, .f32⟩
  | 31 => ⟨S8x4x128x128, .f32⟩
  | 32 => ⟨S8x4x128x128, .f32⟩
  | 33 => ⟨S8x4x1x128x128, .f32⟩
  | 34 => ⟨S8x4x128x128, .f32⟩
  | 35 => ⟨S8x4x1x128x128, .f32⟩
  | 36 => ⟨S8x4x128x128, .f32⟩
  | 37 => ⟨S8x4x128x128, .f32⟩
  | 38 => ⟨S8x4x128x128, .f32⟩
  | 39 => ⟨S_, .f32⟩
  | 40 => ⟨S4, .f32⟩
  | 41 => ⟨S4, .f32⟩
  | 42 => ⟨S4, .f32⟩
  | 43 => ⟨S1x4x1x1, .f32⟩
  | 44 => ⟨S8x4x128x128, .f32⟩
  | 45 => ⟨S8x4x128x128, .f32⟩
  | 46 => ⟨S8x4x1x128x128, .f32⟩
  | 47 => ⟨S8x4x128x128, .f32⟩
  | 48 => ⟨S8x4x1x128x128, .f32⟩
  | 49 => ⟨S8x4x128x128, .f32⟩
  | 50 => ⟨S8x4x128x128, .f32⟩
  | 51 => ⟨S8x4x128x128, .f32⟩
  | 52 => ⟨S_, .f32⟩
  | 53 => ⟨S4, .f32⟩
  | 54 => ⟨S4, .f32⟩
  | 55 => ⟨S4, .f32⟩
  | 56 => ⟨S1x4x1x1, .f32⟩
  | 57 => ⟨S8x4x128x128, .f32⟩
  | 58 => ⟨S8x4x128x128, .f32⟩
  | 59 => ⟨S8x4x1x128x128, .f32⟩
  | 60 => ⟨S8x4x128x128, .f32⟩
  | 61 => ⟨S8x4x1x128x128, .f32⟩
  | 62 => ⟨S8x4x128x128, .f32⟩
  | 63 => ⟨S8x4x128x128, .f32⟩
  | 64 => ⟨S8x4x128x128, .f32⟩
  | 65 => ⟨S_, .f32⟩
  | 66 => ⟨S4, .f32⟩
  | 67 => ⟨S4, .f32⟩
  | 68 => ⟨S4, .f32⟩
  | 69 => ⟨S1x4x1x1, .f32⟩
  | 70 => ⟨S8x4x128x128, .f32⟩
  | 71 => ⟨S8x4x128x128, .f32⟩
  | 72 => ⟨S8x4x1x128x128, .f32⟩
  | 73 => ⟨S8x4x128x128, .f32⟩
  | 74 => ⟨S8x4x1x128x128, .f32⟩
  | 75 => ⟨S8x4x128x128, .f32⟩
  | 76 => ⟨S8x4x128x128, .f32⟩
  | 77 => ⟨S8x4x128x128, .f32⟩
  | 78 => ⟨S_, .f32⟩
  | 79 => ⟨S4, .f32⟩
  | 80 => ⟨S4, .f32⟩
  | 81 => ⟨S4, .f32⟩
  | 82 => ⟨S1x4x1x1, .f32⟩
  | 83 => ⟨S8x4x128x128, .f32⟩
  | 84 => ⟨S8x4x128x128, .f32⟩
  | 85 => ⟨S8x4x1x128x128, .f32⟩
  | 86 => ⟨S8x4x128x128, .f32⟩
  | 87 => ⟨S8x4x1x128x128, .f32⟩
  | 88 => ⟨S8x4x128x128, .f32⟩
  | 89 => ⟨S8x4x128x128, .f32⟩
  | 90 => ⟨S8x4x128x128, .f32⟩
  | 91 => ⟨S_, .f32⟩
  | 92 => ⟨S4, .f32⟩
  | 93 => ⟨S4, .f32⟩
  | 94 => ⟨S4, .f32⟩
  | 95 => ⟨S1x4x1x1, .f32⟩
  | 96 => ⟨S8x4x128x128, .f32⟩
  | 97 => ⟨S8x4x128x128, .f32⟩
  | 98 => ⟨S8x4x1x128x128, .f32⟩
  | 99 => ⟨S8x4x128x128, .f32⟩
  | 100 => ⟨S8x4x1x128x128, .f32⟩
  | 101 => ⟨S8x4x128x128, .f32⟩
  | 102 => ⟨S8x4x128x128, .f32⟩
  | 103 => ⟨S8x4x128x128, .f32⟩
  | 104 => ⟨S8x2048x512, .f32⟩
  | 105 => ⟨S8x15x512, .f32⟩
  | _ => ⟨S16384x2560, .f32⟩

abbrev hbmTy (i : Nat) : BufTy := match i / 128 with
  | 0 => hbmTy0_0 i
  | 1 => hbmTy0_1 i
  | 2 => hbmTy0_2 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_7 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_9 : Ref sig .tc := ⟨.hbm, 104, rfl⟩
abbrev main_v85 : Ref sig .tc := ⟨.hbm, 105, rfl⟩
abbrev main_v86 : Ref sig .tc := ⟨.hbm, 106, rfl⟩
abbrev main_cst_10 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_11 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_cst_12 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_13 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_cst_14 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_cst_15 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_cst_16 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_cst_17 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_cst_18 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_cst_19 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_cst_20 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_cst_21 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_cst_22 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_cst_23 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_cst_24 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_cst_25 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_cst_26 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_27 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩

abbrev nD : Nat := 1
abbrev τ : Topo := Topo.v7x

variable {F : FTy → Type} [FloatOps F]
-- ==== Kernel2.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x2560 : Shape := ⟨3, ![1, 1024, 2560]⟩
abbrev S1024x2816 : Shape := ⟨2, ![1024, 2816]⟩
abbrev S2816x1024 : Shape := ⟨2, ![2816, 1024]⟩
abbrev S1024 : Shape := ⟨1, ![1024]⟩
abbrev S1024x2560 : Shape := ⟨2, ![1024, 2560]⟩
abbrev S16384x2560 : Shape := ⟨2, ![16384, 2560]⟩
abbrev S512x1024 : Shape := ⟨2, ![512, 1024]⟩
abbrev S512x2560 : Shape := ⟨2, ![512, 2560]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2560, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x2560, .f32⟩
  | .hbm, ⟨18, _⟩ => ⟨S1024x2560, .bf16⟩
  | .hbm, ⟨19, _⟩ => ⟨S16384x1024, .f32⟩
  | .hbm, ⟨20, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x2560, .bf16⟩
  | .local _ .vmem, ⟨8, _⟩ => ⟨S512x1024, .f32⟩
  | .local _ .vmem, ⟨9, _⟩ => ⟨S512x1024, .f32⟩
  | .local _ .vmem, ⟨10, _⟩ => ⟨S512x2560, .f32⟩
  | .local _ .vmem, ⟨11, _⟩ => ⟨S512x2560, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x2560 : Shape := ⟨3, ![1, 1024, 2560]⟩
abbrev S1024x2816 : Shape := ⟨2, ![1024, 2816]⟩
abbrev S2816x1024 : Shape := ⟨2, ![2816, 1024]⟩
abbrev S1024 : Shape := ⟨1, ![1024]⟩
abbrev S1024x2560 : Shape := ⟨2, ![1024, 2560]⟩
abbrev S16384x2560 : Shape := ⟨2, ![16384, 2560]⟩
abbrev S512x1024 : Shape := ⟨2, ![512, 1024]⟩
abbrev S512x2560 : Shape := ⟨2, ![512, 2560]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2560, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x2560, .f32⟩
  | .hbm, ⟨18, _⟩ => ⟨S1024x2560, .bf16⟩
  | .hbm, ⟨19, _⟩ => ⟨S16384x1024, .f32⟩
  | .hbm, ⟨20, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x2560, .bf16⟩
  | .local _ .vmem, ⟨8, _⟩ => ⟨S512x1024, .f32⟩
  | .local _ .vmem, ⟨9, _⟩ => ⟨S512x1024, .f32⟩
  | .local _ .vmem, ⟨10, _⟩ => ⟨S512x2560, .f32⟩
  | .local _ .vmem, ⟨11, _⟩ => ⟨S512x2560, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x2560 : Shape := ⟨3, ![1, 1024, 2560]⟩
abbrev S_ : Shape := ⟨0, ![]⟩
abbrev S1024x2816 : Shape := ⟨2, ![1024, 2816]⟩
abbrev S2816x1024 : Shape := ⟨2, ![2816, 1024]⟩
abbrev S16384x2816 : Shape := ⟨2, ![16384, 2816]⟩
abbrev S1024 : Shape := ⟨1, ![1024]⟩
abbrev S16384 : Shape := ⟨1, ![16384]⟩
abbrev S16384x1 : Shape := ⟨2, ![16384, 1]⟩
abbrev S1024x2560 : Shape := ⟨2, ![1024, 2560]⟩
abbrev S16384x2560 : Shape := ⟨2, ![16384, 2560]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2560, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1024x2560, .f32⟩
  | .hbm, ⟨62, _⟩ => ⟨S16384x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Kernel3.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S16384x2816 : Shape := ⟨2, ![16384, 2816]⟩
abbrev S1024 : Shape := ⟨1, ![1024]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel4.lean ====
abbrev S512x1024 : Shape := ⟨2, ![512, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S512x1024, .f32⟩
  | .local _ .vmem, ⟨0, _⟩ => ⟨S512x1024, .f32⟩
  | .local _ .vmem, ⟨1, _⟩ => ⟨S1024x2816, .bf16⟩
  | .local _ .vmem, ⟨2, _⟩ => ⟨S1024x2816, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x2816, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference4Ideal.lean ====
abbrev S512x1024 : Shape := ⟨2, ![512, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S512x2816 : Shape := ⟨2, ![512, 2816]⟩
abbrev S1024 : Shape := ⟨1, ![1024]⟩
abbrev S512 : Shape := ⟨1, ![512]⟩
abbrev S512x1 : Shape := ⟨2, ![512, 1]⟩

abbrev nBuf : Space → Nat
  | .hbm => 60
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S512x2816, .f32⟩
  | .hbm, ⟨13, _⟩ => ⟨S512x2816, .f32⟩
  | .hbm, ⟨14, _⟩ => ⟨S512x2816, .f32⟩
  | .hbm, ⟨15, _⟩ => ⟨S_, .f32⟩
  | .hbm, ⟨16, _⟩ => ⟨S512x2816, .f32⟩
  | .hbm, ⟨17, _⟩ => ⟨S512x2816, .f32⟩
  | .hbm, ⟨18, _⟩ => ⟨S_, .f32⟩
  | .hbm, ⟨19, _⟩ => ⟨S512x2816, .f32⟩
  | .hbm, ⟨20, _⟩ => ⟨S512x2816, .f32⟩
  | .hbm, ⟨21, _⟩ => ⟨S512x2816, .f32⟩
  | .hbm, ⟨22, _⟩ => ⟨S512x2816, .f32⟩
  | .hbm, ⟨23, _⟩ => ⟨S512x2816, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x1, .f32⟩
  | .hbm, ⟨52, _⟩ => ⟨S512x1024, .f32⟩
  | .hbm, ⟨53, _⟩ => ⟨S512x1024, .f32⟩
  | .hbm, ⟨54, _⟩ => ⟨S1x1024, .f32⟩
  | .hbm, ⟨55, _⟩ => ⟨S512x1024, .f32⟩
  | .hbm, ⟨56, _⟩ => ⟨S512x1024, .f32⟩
  | .hbm, ⟨57, _⟩ => ⟨S1x1024, .f32⟩
  | .hbm, ⟨58, _⟩ => ⟨S512x1024, .f32⟩
  | .hbm, ⟨59, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel5.lean ====
abbrev S528x2560 : Shape := ⟨2, ![528, 2560]⟩
abbrev S528x1024 : Shape := ⟨2, ![528, 1024]⟩
abbrev S1x128x4x128x128 : Shape := ⟨5, ![1, 128, 4, 128, 128]⟩
abbrev S1x128x15x512 : Shape := ⟨4, ![1, 128, 15, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S4 : Shape := ⟨1, ![4]⟩
abbrev S128x4x128x128 : Shape := ⟨4, ![128, 4, 128, 128]⟩
abbrev S128x15x512 : Shape := ⟨3, ![128, 15, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S4x1x1 : Shape := ⟨3, ![4, 1, 1]⟩
abbrev S1x64x64 : Shape := ⟨3, ![1, 64, 64]⟩
abbrev S4x64x64 : Shape := ⟨3, ![4, 64, 64]⟩
abbrev S1x64x1 : Shape := ⟨3, ![1, 64, 1]⟩
abbrev S4x64x1 : Shape := ⟨3, ![4, 64, 1]⟩
abbrev S4x64x128 : Shape := ⟨3, ![4, 64, 128]⟩
abbrev S512x1024 : Shape := ⟨2, ![512, 1024]⟩
abbrev S64x512 : Shape := ⟨2, ![64, 512]⟩
abbrev S64x1024 : Shape := ⟨2, ![64, 1024]⟩
abbrev S16x4x128x128 : Shape := ⟨4, ![16, 4, 128, 128]⟩
abbrev S16x15x512 : Shape := ⟨3, ![16, 15, 512]⟩
abbrev S16x24x512 : Shape := ⟨3, ![16, 24, 512]⟩
abbrev S16x128 : Shape := ⟨2, ![16, 128]⟩
abbrev S1x64x128 : Shape := ⟨3, ![1, 64, 128]⟩
abbrev S1x1x128x128 : Shape := ⟨4, ![1, 1, 128, 128]⟩
abbrev S128x128 : Shape := ⟨2, ![128, 128]⟩
abbrev S1x15x512 : Shape := ⟨3, ![1, 15, 512]⟩
abbrev S15x512 : Shape := ⟨2, ![15, 512]⟩
abbrev S4x512 : Shape := ⟨2, ![4, 512]⟩
abbrev S1x4x512 : Shape := ⟨3, ![1, 4, 512]⟩
abbrev S1x4x128 : Shape := ⟨3, ![1, 4, 128]⟩
abbrev S4x128 : Shape := ⟨2, ![4, 128]⟩
abbrev S1x128x128 : Shape := ⟨3, ![1, 128, 128]⟩
abbrev S1x128 : Shape := ⟨2, ![1, 128]⟩

abbrev nBuf : Space → Nat
  | .hbm => 173
  | .vmem => 35
  | .smem => 0
  | _ => 0

abbrev hbmTy0_0 (i : Nat) : BufTy := match i % 128 with
  | 0 => ⟨S528x2560, .f32⟩
  | 1 => ⟨S528x1024, .f32⟩
  | 2 => ⟨S1x128x4x128x128, .f32⟩
  | 3 => ⟨S1x128x15x512, .f32⟩
  | 4 => ⟨S1x4x128x128, .f32⟩
  | 5 => ⟨S1x512, .f32⟩
  | 6 => ⟨S1x1024x1024, .f32⟩
  | 7 => ⟨S1x1024, .f32⟩
  | 8 => ⟨S1x1024, .f32⟩
  | 9 => ⟨S4, .f32⟩
  | 10 => ⟨S128x4x128x128, .f32⟩
  | 11 => ⟨S128x15x512, .f32⟩
  | 12 => ⟨S4x128x128, .f32⟩
  | 13 => ⟨S4x128x128, .bf16⟩
  | 14 => ⟨S512, .f32⟩
  | 15 => ⟨S1x512, .f32⟩
  | 16 => ⟨S1024x1024, .f32⟩
  | 17 => ⟨S1024x1024, .bf16⟩
  | 18 => ⟨S1024, .f32⟩
  | 19 => ⟨S1x1024, .f32⟩
  | 20 => ⟨S1024, .f32⟩
  | 21 => ⟨S1x1024, .f32⟩
  | 22 => ⟨S64, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i1⟩
  | 34 => ⟨S_, .i32⟩
  | 35 => ⟨S64, .i32⟩
  | 36 => ⟨S64, .i1⟩
  | 37 => ⟨S_, .i32⟩
  | 38 => ⟨S_, .i1⟩
  | 39 => ⟨S64, .i1⟩
  | 40 => ⟨S64, .i1⟩
  | 41 => ⟨S64, .i1⟩
  | 42 => ⟨S64, .i32⟩
  | 43 => ⟨S64, .i32⟩
  | 44 => ⟨S64, .i32⟩
  | 45 => ⟨S_, .i32⟩
  | 46 => ⟨S64, .i32⟩
  | 47 => ⟨S64, .i32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S64x1, .f32⟩
  | 64 => ⟨S1x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x128, .f32⟩
  | 71 => ⟨S64x64, .f32⟩
  | 72 => ⟨S64x128, .f32⟩
  | 73 => ⟨S64, .i32⟩
  | 74 => ⟨S_, .i32⟩
  | 75 => ⟨S_, .i32⟩
  | 76 => ⟨S64, .i32⟩
  | 77 => ⟨S64, .i32⟩
  | 78 => ⟨S64, .i32⟩
  | 79 => ⟨S_, .i32⟩
  | 80 => ⟨S64, .i32⟩
  | 81 => ⟨S64, .i1⟩
  | 82 => ⟨S64, .i32⟩
  | 83 => ⟨S64, .i32⟩
  | 84 => ⟨S_, .i32⟩
  | 85 => ⟨S64, .i32⟩
  | 86 => ⟨S64, .i1⟩
  | 87 => ⟨S64, .i1⟩
  | 88 => ⟨S_, .i32⟩
  | 89 => ⟨S64, .i32⟩
  | 90 => ⟨S64, .i32⟩
  | 91 => ⟨S64, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S64, .i32⟩
  | 99 => ⟨S64, .i32⟩
  | 100 => ⟨S_, .i32⟩
  | 101 => ⟨S64, .i32⟩
  | 102 => ⟨S64, .i1⟩
  | 103 => ⟨S_, .i32⟩
  | 104 => ⟨S64, .i32⟩
  | 105 => ⟨S64, .i1⟩
  | 106 => ⟨S_, .i32⟩
  | 107 => ⟨S_, .i1⟩
  | 108 => ⟨S64, .i1⟩
  | 109 => ⟨S64, .i1⟩
  | 110 => ⟨S64, .i1⟩
  | 111 => ⟨S64, .i32⟩
  | 112 => ⟨S64, .i32⟩
  | 113 => ⟨S64, .i32⟩
  | 114 => ⟨S64, .f32⟩
  | 115 => ⟨S4, .f32⟩
  | 116 => ⟨S4x1x1, .f32⟩
  | 117 => ⟨S64x1, .i32⟩
  | 118 => ⟨S1x64, .i32⟩
  | 119 => ⟨S64x64, .i32⟩
  | 120 => ⟨S64x64, .i32⟩
  | 121 => ⟨S64x64, .i1⟩
  | 122 => ⟨S64x1, .f32⟩
  | 123 => ⟨S1x64, .f32⟩
  | 124 => ⟨S64x64, .f32⟩
  | 125 => ⟨S64x64, .f32⟩
  | 126 => ⟨S64x64, .f32⟩
  | 127 => ⟨S_, .f32⟩
  | _ => ⟨S528x2560, .f32⟩

abbrev hbmTy0_1 (i : Nat) : BufTy := match i % 128 with
  | 0 => ⟨S64x64, .f32⟩
  | 1 => ⟨S64x64, .i1⟩
  | 2 => ⟨S64x64, .i1⟩
  | 3 => ⟨S_, .f32⟩
  | 4 => ⟨S64x64, .f32⟩
  | 5 => ⟨S64x64, .f32⟩
  | 6 => ⟨S1x64x64, .f32⟩
  | 7 => ⟨S4x64x64, .f32⟩
  | 8 => ⟨S4x64x64, .f32⟩
  | 9 => ⟨S4x64x64, .f32⟩
  | 10 => ⟨S4x64x64, .f32⟩
  | 11 => ⟨S_, .f32⟩
  | 12 => ⟨S_, .f32⟩
  | 13 => ⟨S4x64x64, .i1⟩
  | 14 => ⟨S4x64x64, .f32⟩
  | 15 => ⟨S4x64x64, .f32⟩
  | 16 => ⟨S_, .f32⟩
  | 17 => ⟨S4x64x64, .f32⟩
  | 18 => ⟨S4x64x64, .f32⟩
  | 19 => ⟨S_, .f32⟩
  | 20 => ⟨S64, .f32⟩
  | 21 => ⟨S64, .f32⟩
  | 22 => ⟨S64x1, .f32⟩
  | 23 => ⟨S1x64x1, .f32⟩
  | 24 => ⟨S4x64x1, .f32⟩
  | 25 => ⟨S4x64x1, .f32⟩
  | 26 => ⟨S4x64x1, .f32⟩
  | 27 => ⟨S4x64x1, .f32⟩
  | 28 => ⟨S_, .f32⟩
  | 29 => ⟨S4x64x1, .f32⟩
  | 30 => ⟨S4x64x1, .f32⟩
  | 31 => ⟨S4x64x128, .f32⟩
  | 32 => ⟨S_, .f32⟩
  | 33 => ⟨S64, .f32⟩
  | 34 => ⟨S64, .f32⟩
  | 35 => ⟨S64x1, .f32⟩
  | 36 => ⟨S1x64x1, .f32⟩
  | 37 => ⟨S4x64x1, .f32⟩
  | 38 => ⟨S4x64x1, .f32⟩
  | 39 => ⟨S4x64x1, .f32⟩
  | 40 => ⟨S4x64x1, .f32⟩
  | 41 => ⟨S4x64x128, .f32⟩
  | 42 => ⟨S512x1024, .f32⟩
  | 43 => ⟨S128x4x128x128, .f32⟩
  | 44 => ⟨S128x15x512, .f32⟩
  | _ => ⟨S528x2560, .f32⟩

abbrev hbmTy (i : Nat) : BufTy := match i / 128 with
  | 0 => hbmTy0_0 i
  | 1 => hbmTy0_1 i
  | _ => ⟨S528x2560, .f32⟩

abbrev bufTy : (tb : Table) → Fin (tcTables nBuf tb) → BufTy
  | .hbm, ⟨i, _⟩ => hbmTy i
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x1024, .f32⟩
  | .local _ .vmem, ⟨11, _⟩ => ⟨S64x1024, .f32⟩
  | .local _ .vmem, ⟨12, _⟩ => ⟨S16x4x128x128, .f32⟩
  | .local _ .vmem, ⟨13, _⟩ => ⟨S16x4x128x128, .f32⟩
  | .local _ .vmem, ⟨14, _⟩ => ⟨S16x15x512, .f32⟩
  | .local _ .vmem, ⟨15, _⟩ => ⟨S16x15x512, .f32⟩
  | .local _ .vmem, ⟨16, _⟩ => ⟨S64x128, .f32⟩
  | .local _ .vmem, ⟨17, _⟩ => ⟨S64x128, .f32⟩
  | .local _ .vmem, ⟨18, _⟩ => ⟨S4x64x64, .f32⟩
  | .local _ .vmem, ⟨19, _⟩ => ⟨S4x64x128, .f32⟩
  | .local _ .vmem, ⟨20, _⟩ => ⟨S4x64x128, .f32⟩
  | .local _ .vmem, ⟨21, _⟩ => ⟨S4x128x128, .bf16⟩
  | .local _ .vmem, ⟨22, _⟩ => ⟨S1x512, .f32⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S64x1024, .f32⟩
  | .local _ .vmem, ⟨27, _⟩ => ⟨S64x1024, .f32⟩
  | .local _ .vmem, ⟨28, _⟩ => ⟨S16x4x128x128, .f32⟩
  | .local _ .vmem, ⟨29, _⟩ => ⟨S16x4x128x128, .f32⟩
  | .local _ .vmem, ⟨30, _⟩ => ⟨S16x15x512, .f32⟩
  | .local _ .vmem, ⟨31, _⟩ => ⟨S16x15x512, .f32⟩
  | .local _ .vmem, ⟨32, _⟩ => ⟨S16x24x512, .f32⟩
  | .local _ .vmem, ⟨33, _⟩ => ⟨S64x512, .f32⟩
  | .local _ .vmem, ⟨34, _⟩ => ⟨S64x1024, .bf16⟩
  | _, _ => ⟨S528x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v13 : Ref sig .tc := ⟨.hbm, 44, rfl⟩
abbrev main_c_0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_v23 : Ref sig .tc := ⟨.hbm, 58, rfl⟩
abbrev main_cst_4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_5 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v38 : Ref sig .tc := ⟨.hbm, 91, rfl⟩
abbrev main_c_6 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_v5 : Ref sig .tc := ⟨.hbm, 101, rfl⟩
abbrev main_call2_v6 : Ref sig .tc := ⟨.hbm, 102, rfl⟩
abbrev main_call2_c_2 : Ref sig .tc := ⟨.hbm, 103, rfl⟩
abbrev main_call2_v7 : Ref sig .tc := ⟨.hbm, 104, rfl⟩
abbrev main_call2_v8 : Ref sig .tc := ⟨.hbm, 105, rfl⟩
abbrev main_call2_c_3 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_cst_7 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_8 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_cst_9 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v63 : Ref sig .tc := ⟨.hbm, 143, rfl⟩
abbrev main_cst_10 : Ref sig .tc := ⟨.hbm, 144, rfl⟩
abbrev main_v64 : Ref sig .tc := ⟨.hbm, 145, rfl⟩
abbrev main_v65 : Ref sig .tc := ⟨.hbm, 146, rfl⟩
abbrev main_cst_11 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_cst_12 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_cst_13 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86_0 : Ref sig .tc := ⟨.hbm, 170, rfl⟩
abbrev main_v86_1 : Ref sig .tc := ⟨.hbm, 171, rfl⟩
abbrev main_v86_2 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x15x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x15x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel5Ideal.lean ====
variable {F : FTy → Type} [FloatOps F] [Named F]
def κ : String → Option EReal := fun
  | "gamma_0_d" => some ((923521 / 1048576 : ℝ) : EReal)
  | "gamma_1_d" => some ((15752961 / 16777216 : ℝ) : EReal)
  | "gamma_2_d" => some ((260144641 / 268435456 : ℝ) : EReal)
  | "gamma_3_d" => some ((4228250625 / 4294967296 : ℝ) : EReal)
  | _ => none
-- ==== Reference5Ideal.lean ====
abbrev S528x2560 : Shape := ⟨2, ![528, 2560]⟩
abbrev S528x1024 : Shape := ⟨2, ![528, 1024]⟩
abbrev S1x128x4x128x128 : Shape := ⟨5, ![1, 128, 4, 128, 128]⟩
abbrev S1x128x15x512 : Shape := ⟨4, ![1, 128, 15, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S4 : Shape := ⟨1, ![4]⟩
abbrev S_ : Shape := ⟨0, ![]⟩
abbrev S512x2560 : Shape := ⟨2, ![512, 2560]⟩
abbrev S512x512 : Shape := ⟨2, ![512, 512]⟩
abbrev S128x4x4x128 : Shape := ⟨4, ![128, 4, 4, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S128x4x4x64 : Shape := ⟨4, ![128, 4, 4, 64]⟩
abbrev S1x1x4x64 : Shape := ⟨4, ![1, 1, 4, 64]⟩
abbrev S1x4 : Shape := ⟨2, ![1, 4]⟩
abbrev S4x4 : Shape := ⟨2, ![4, 4]⟩
abbrev S1x4x4x1 : Shape := ⟨4, ![1, 4, 4, 1]⟩
abbrev S1x4x1x1 : Shape := ⟨4, ![1, 4, 1, 1]⟩
abbrev S128x4x128x128 : Shape := ⟨4, ![128, 4, 128, 128]⟩
abbrev S128x15x512 : Shape := ⟨3, ![128, 15, 512]⟩
abbrev S128x4x512 : Shape := ⟨3, ![128, 4, 512]⟩
abbrev S128x19x512 : Shape := ⟨3, ![128, 19, 512]⟩

abbrev nBuf : Space → Nat
  | .hbm => 100
  | .vmem => 0
  | .smem => 0
  | _ => 0

abbrev bufTy : (tb : Table) → Fin (tcTables nBuf tb) → BufTy
  | .hbm, ⟨0, _⟩ => ⟨S528x2560, .f32⟩
  | .hbm, ⟨1, _⟩ => ⟨S528x1024, .f32⟩
  | .hbm, ⟨2, _⟩ => ⟨S1x128x4x128x128, .f32⟩
  | .hbm, ⟨3, _⟩ => ⟨S1x128x15x512, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S512x2560, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S128x4x4x128, .f32⟩
  | .hbm, ⟨31, _⟩ => ⟨S128x4x4x128, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S4, .f32⟩
  | .hbm, ⟨47, _⟩ => ⟨S4x1, .f32⟩
  | .hbm, ⟨48, _⟩ => ⟨S1x64, .f32⟩
  | .hbm, ⟨49, _⟩ => ⟨S4x64, .f32⟩
  | .hbm, ⟨50, _⟩ => ⟨S4x64, .f32⟩
  | .hbm, ⟨51, _⟩ => ⟨S4x64, .f32⟩
  | .hbm, ⟨52, _⟩ => ⟨S4x64, .f32⟩
  | .hbm, ⟨53, _⟩ => ⟨S4x64, .f32⟩
  | .hbm, ⟨54, _⟩ => ⟨S128x4x4x64, .f32⟩
  | .hbm, ⟨55, _⟩ => ⟨S128x4x4x64, .f32⟩
  | .hbm, ⟨56, _⟩ => ⟨S1x1x4x64, .f32⟩
  | .hbm, ⟨57, _⟩ => ⟨S128x4x4x64, .f32⟩
  | .hbm, ⟨58, _⟩ => ⟨S128x4x4x64, .f32⟩
  | .hbm, ⟨59, _⟩ => ⟨S1x1x4x64, .f32⟩
  | .hbm, ⟨60, _⟩ => ⟨S128x4x4x64, .f32⟩
  | .hbm, ⟨61, _⟩ => ⟨S128x4x4x64, .f32⟩
  | .hbm, ⟨62, _⟩ => ⟨S128x4x4x64, .f32⟩
  | .hbm, ⟨63, _⟩ => ⟨S1x1x4x64, .f32⟩
  | .hbm, ⟨64, _⟩ => ⟨S128x4x4x64, .f32⟩
  | .hbm, ⟨65, _⟩ => ⟨S128x4x4x64, .f32⟩
  | .hbm, ⟨66, _⟩ => ⟨S1x1x4x64, .f32⟩
  | .hbm, ⟨67, _⟩ => ⟨S128x4x4x64, .f32⟩
  | .hbm, ⟨68, _⟩ => ⟨S128x4x4x64, .f32⟩
  | .hbm, ⟨69, _⟩ => ⟨S128x4x4x64, .f32⟩
  | .hbm, ⟨70, _⟩ => ⟨S128x4x4x128, .f32⟩
  | .hbm, ⟨71, _⟩ => ⟨S128x4x4x128, .f32⟩
  | .hbm, ⟨72, _⟩ => ⟨S128x4x4x128, .f32⟩
  | .hbm, ⟨73, _⟩ => ⟨S4, .f32⟩
  | .hbm, ⟨74, _⟩ => ⟨S4x1, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S1x4, .f32⟩
  | .hbm, ⟨79, _⟩ => ⟨S4x4, .f32⟩
  | .hbm, ⟨80, _⟩ => ⟨S4x4, .f32⟩
  | .hbm, ⟨81, _⟩ => ⟨S4x4, .f32⟩
  | .hbm, ⟨82, _⟩ => ⟨S4x4, .f32⟩
  | .hbm, ⟨83, _⟩ => ⟨S1x4x4x1, .f32⟩
  | .hbm, ⟨84, _⟩ => ⟨S128x4x4x128, .f32⟩
  | .hbm, ⟨85, _⟩ => ⟨S128x4x4x128, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S1x4x1x1, .f32⟩
  | .hbm, ⟨91, _⟩ => ⟨S128x4x128x128, .f32⟩
  | .hbm, ⟨92, _⟩ => ⟨S128x4x128x128, .f32⟩
  | .hbm, ⟨93, _⟩ => ⟨S128x4x128x128, .f32⟩
  | .hbm, ⟨94, _⟩ => ⟨S128x4x128x128, .f32⟩
  | .hbm, ⟨95, _⟩ => ⟨S128x4x128x128, .f32⟩
  | .hbm, ⟨96, _⟩ => ⟨S128x15x512, .f32⟩
  | .hbm, ⟨97, _⟩ => ⟨S128x4x512, .f32⟩
  | .hbm, ⟨98, _⟩ => ⟨S128x19x512, .f32⟩
  | .hbm, ⟨99, _⟩ => ⟨S128x15x512, .f32⟩
  | _, _ => ⟨S528x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel6.lean ====
abbrev S528x1024 : Shape := ⟨2, ![528, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x2560 : Shape := ⟨3, ![1, 1024, 2560]⟩
abbrev S1024x2816 : Shape := ⟨2, ![1024, 2816]⟩
abbrev S2816x1024 : Shape := ⟨2, ![2816, 1024]⟩
abbrev S1024 : Shape := ⟨1, ![1024]⟩
abbrev S1024x2560 : Shape := ⟨2, ![1024, 2560]⟩
abbrev S528x2560 : Shape := ⟨2, ![528, 2560]⟩
abbrev S528x2816 : Shape := ⟨2, ![528, 2816]⟩
abbrev S1024x256 : Shape := ⟨2, ![1024, 256]⟩
abbrev S528x256 : Shape := ⟨2, ![528, 256]⟩
abbrev S528 : Shape := ⟨1, ![528]⟩
abbrev S528x1 : Shape := ⟨2, ![528, 1]⟩

abbrev nBuf : Space → Nat
  | .hbm => 21
  | .vmem => 10
  | .smem => 0
  | _ => 0

abbrev bufTy : (tb : Table) → Fin (tcTables nBuf tb) → BufTy
  | .hbm, ⟨0, _⟩ => ⟨S528x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2560, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x2560, .f32⟩
  | .hbm, ⟨18, _⟩ => ⟨S1024x2560, .bf16⟩
  | .hbm, ⟨19, _⟩ => ⟨S528x1024, .f32⟩
  | .hbm, ⟨20, _⟩ => ⟨S528x2560, .f32⟩
  | .local _ .vmem, ⟨0, _⟩ => ⟨S528x1024, .f32⟩
  | .local _ .vmem, ⟨1, _⟩ => ⟨S1024x2816, .bf16⟩
  | .local _ .vmem, ⟨2, _⟩ => ⟨S1024x2816, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x2560, .bf16⟩
  | .local _ .vmem, ⟨7, _⟩ => ⟨S528x1024, .f32⟩
  | .local _ .vmem, ⟨8, _⟩ => ⟨S528x2560, .f32⟩
  | .local _ .vmem, ⟨9, _⟩ => ⟨S528x2816, .bf16⟩
  | _, _ => ⟨S528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S528x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S528x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S528x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S528x1024 : Shape := ⟨2, ![528, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x2560 : Shape := ⟨3, ![1, 1024, 2560]⟩
abbrev S_ : Shape := ⟨0, ![]⟩
abbrev S1024x2816 : Shape := ⟨2, ![1024, 2816]⟩
abbrev S2816x1024 : Shape := ⟨2, ![2816, 1024]⟩
abbrev S528x2816 : Shape := ⟨2, ![528, 2816]⟩
abbrev S1024 : Shape := ⟨1, ![1024]⟩
abbrev S528 : Shape := ⟨1, ![528]⟩
abbrev S528x1 : Shape := ⟨2, ![528, 1]⟩
abbrev S1024x2560 : Shape := ⟨2, ![1024, 2560]⟩
abbrev S528x2560 : Shape := ⟨2, ![528, 2560]⟩

abbrev nBuf : Space → Nat
  | .hbm => 63
  | .vmem => 0
  | .smem => 0
  | _ => 0

abbrev bufTy : (tb : Table) → Fin (tcTables nBuf tb) → BufTy
  | .hbm, ⟨0, _⟩ => ⟨S528x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2560, .f32⟩
  | .hbm, ⟨7, _⟩ => ⟨S_, .f32⟩
  | .hbm, ⟨8, _⟩ => ⟨S528x1024, .f32⟩
  | .hbm, ⟨9, _⟩ => ⟨S528x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S528x2816, .f32⟩
  | .hbm, ⟨14, _⟩ => ⟨S528x2816, .f32⟩
  | .hbm, ⟨15, _⟩ => ⟨S528x2816, .f32⟩
  | .hbm, ⟨16, _⟩ => ⟨S_, .f32⟩
  | .hbm, ⟨17, _⟩ => ⟨S528x2816, .f32⟩
  | .hbm, ⟨18, _⟩ => ⟨S528x2816, .f32⟩
  | .hbm, ⟨19, _⟩ => ⟨S_, .f32⟩
  | .hbm, ⟨20, _⟩ => ⟨S528x2816, .f32⟩
  | .hbm, ⟨21, _⟩ => ⟨S528x2816, .f32⟩
  | .hbm, ⟨22, _⟩ => ⟨S528x2816, .f32⟩
  | .hbm, ⟨23, _⟩ => ⟨S528x2816, .f32⟩
  | .hbm, ⟨24, _⟩ => ⟨S528x2816, .f32⟩
  | .hbm, ⟨25, _⟩ => ⟨S528x1024, .f32⟩
  | .hbm, ⟨26, _⟩ => ⟨S_, .f32⟩
  | .hbm, ⟨27, _⟩ => ⟨S528x1024, .f32⟩
  | .hbm, ⟨28, _⟩ => ⟨S528x1024, .f32⟩
  | .hbm, ⟨29, _⟩ => ⟨S528x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S528, .f32⟩
  | .hbm, ⟨34, _⟩ => ⟨S528x1, .f32⟩
  | .hbm, ⟨35, _⟩ => ⟨S_, .f32⟩
  | .hbm, ⟨36, _⟩ => ⟨S528x1, .f32⟩
  | .hbm, ⟨37, _⟩ => ⟨S528x1, .f32⟩
  | .hbm, ⟨38, _⟩ => ⟨S528x1024, .f32⟩
  | .hbm, ⟨39, _⟩ => ⟨S528x1024, .f32⟩
  | .hbm, ⟨40, _⟩ => ⟨S528x1024, .f32⟩
  | .hbm, ⟨41, _⟩ => ⟨S_, .f32⟩
  | .hbm, ⟨42, _⟩ => ⟨S528, .f32⟩
  | .hbm, ⟨43, _⟩ => ⟨S528x1, .f32⟩
  | .hbm, ⟨44, _⟩ => ⟨S_, .f32⟩
  | .hbm, ⟨45, _⟩ => ⟨S528x1, .f32⟩
  | .hbm, ⟨46, _⟩ => ⟨S528x1, .f32⟩
  | .hbm, ⟨47, _⟩ => ⟨S528x1024, .f32⟩
  | .hbm, ⟨48, _⟩ => ⟨S528x1024, .f32⟩
  | .hbm, ⟨49, _⟩ => ⟨S_, .f32⟩
  | .hbm, ⟨50, _⟩ => ⟨S528x1, .f32⟩
  | .hbm, ⟨51, _⟩ => ⟨S528x1, .f32⟩
  | .hbm, ⟨52, _⟩ => ⟨S528x1, .f32⟩
  | .hbm, ⟨53, _⟩ => ⟨S528x1024, .f32⟩
  | .hbm, ⟨54, _⟩ => ⟨S528x1024, .f32⟩
  | .hbm, ⟨55, _⟩ => ⟨S1x1024, .f32⟩
  | .hbm, ⟨56, _⟩ => ⟨S528x1024, .f32⟩
  | .hbm, ⟨57, _⟩ => ⟨S528x1024, .f32⟩
  | .hbm, ⟨58, _⟩ => ⟨S1x1024, .f32⟩
  | .hbm, ⟨59, _⟩ => ⟨S528x1024, .f32⟩
  | .hbm, ⟨60, _⟩ => ⟨S528x1024, .f32⟩
  | .hbm, ⟨61, _⟩ => ⟨S1024x2560, .f32⟩
  | .hbm, ⟨62, _⟩ => ⟨S528x2560, .f32⟩
  | _, _ => ⟨S528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Rows.lean ====
/- One row of the feed-forward half-step as a function on extended reals: the gated activation, the residual sum and the
   layer normalisation. Both programs are read down to these. -/
module

public import Idealize.ShloMosaic.Lib.Pointwise
public import Idealize.ShloMosaic.Lib.IdealHost
public import Idealize.ShloMosaic.Lib.Pipeline.Value

@[expose] public section

noncomputable section

namespace Cert.Rows

open Idealize.ShloMosaic
open scoped BigOperators

/-- A row's mean, the count given as a literal's word. -/
def mean {n : Nat} (w : BitVec 32) (z : Fin n → EReal) : EReal := Ideal.div (∑ k, z k) (Ideal.ofBits .f32 w)

/-- The layer normalisation of a row, with gain `g` and offset `b`; the count 1024 and the 1e-5 are their words. -/
def layerNorm {n : Nat} (z g b : Fin n → EReal) (j : Fin n) : EReal :=
  (z j - mean 0x44800000#32 z)
      * Ideal.rsqrt (mean 0x44800000#32 (fun k => (z k - mean 0x44800000#32 z) * (z k - mean 0x44800000#32 z))
          + Ideal.ofBits .f32 0x3727C5AC#32)
      * g j + b j

/-- A row times a matrix. -/
def mulRow {n k : Nat} (x : Fin n → EReal) (w : Fin n → Fin k → EReal) (j : Fin k) : EReal := ∑ l, x l * w l j

/-- The gated activation of a row: silu of the gate projection times the up projection. -/
def gated {n k : Nat} (x : Fin n → EReal) (wg wu : Fin n → Fin k → EReal) (j : Fin k) : EReal :=
  mulRow x wg j * Ideal.logistic (mulRow x wg j) * mulRow x wu j

/-- The residual sum of a row with half its feed-forward value. -/
def halfStep {n k : Nat} (x : Fin n → EReal) (wg wu : Fin n → Fin k → EReal) (wd : Fin k → Fin n → EReal) (j : Fin n) : EReal :=
  Ideal.ofBits .f32 0x3F9837F0#32 * x j + Ideal.ofBits .f32 0x3F000000#32 * mulRow (gated x wg wu) wd j

/-- The feed-forward half-step of a row, normalised. -/
def ffnRow {n k : Nat} (x : Fin n → EReal) (wg wu : Fin n → Fin k → EReal) (wd : Fin k → Fin n → EReal) (g b : Fin n → EReal) :
    Fin n → EReal := layerNorm (halfStep x wg wu wd) g b

/-- A shape cast that drops a leading unit axis of a rank-three array. -/
theorem dropUnit2 {α : Type} {a b : Nat} (v : (⟨3, ![1, a, b]⟩ : Shape).Idx → α)
    (h : (⟨3, ![1, a, b]⟩ : Shape).ShapeCasts ⟨2, ![a, b]⟩) (k : Fin a) (j : Fin b) :
    shapeCast ⟨2, ![a, b]⟩ v h (ix2 k j) = v (ix3 0 k j) :=
  (shapeCast_dropUnit_apply ![a, b] v h (ix2 k j)).trans (congrArg v (funext fun x => by fin_cases x <;> rfl))

/-- A shape cast that drops a leading unit axis of a rank-two array. -/
theorem dropUnit1 {α : Type} {a : Nat} (v : (⟨2, ![1, a]⟩ : Shape).Idx → α)
    (h : (⟨2, ![1, a]⟩ : Shape).ShapeCasts ⟨1, ![a]⟩) (k : Fin a) :
    shapeCast ⟨1, ![a]⟩ v h (ix1 k) = v (ix2 0 k) :=
  (shapeCast_dropUnit_apply ![a] v h (ix1 k)).trans (congrArg v (funext fun x => by fin_cases x <;> rfl))

end Cert.Rows

end
-- ==== Proof.Mixer.Step.lean ====
/- One chunk's step of the retention recurrence for one head, and a head's state after the meta tokens, as functions on
   extended reals; the kernel's arithmetic on a chunk is this step. -/
module

public import proofs.«01_k».proof.Proof.Gen.KernelIdeal.Skeleton
public import proofs.«01_k».proof.Proof.Rows
public import Idealize.ShloMosaic.Lib.Pipeline.FrameBody
public import Idealize.ShloMosaic.Lib.Pipeline.ReadBack
public import Idealize.ShloMosaic.Lib.Pipeline.Value

@[expose] public section

set_option maxRecDepth 16384

noncomputable section

namespace Cert.Mixer

open Cert.KernelIdeal Cert.KernelIdeal.Gen Cert.Rows
open Idealize.ShloMosaic
open scoped BigOperators

/-- A chunk of rows of one head: row, then channel. -/
abbrev Blk (n : Nat) := Fin n → Fin 128 → EReal

/-- The channel half a head away. -/
def half (d : Fin 128) : Fin 128 := ⟨(d.val + 64) % 128, Nat.mod_lt _ (by decide)⟩

/-- The rotary embedding of a chunk, by its tables. -/
def rope {n : Nat} (k cs sn : Blk n) (j : Fin n) (d : Fin 128) : EReal := k j d * cs j d + k j (half d) * sn j d

/-- The outer product of a chunk's decayed keys with its values. -/
def outer {n : Nat} (k v cs sn kd : Blk n) (d e : Fin 128) : EReal := ∑ j, rope k cs sn j d * kd j d * v j e

/-- A head's state after a chunk. -/
def step (g : EReal) (k v cs sn kd : Blk 128) (s : Fin 128 → Fin 128 → EReal) (d e : Fin 128) : EReal :=
  g * s d e + outer k v cs sn kd d e

/-- The kernel's step on a chunk's blocks. -/
def stepV (g : Ideal .f32) (cs sn k v : Vec Ideal S128x128 .f32) (kd s : Vec Ideal S1x128x128 .f32) : Vec Ideal S1x128x128 .f32 :=
  shapeCast S1x128x128 (addf (mulf (broadcast S128x128 g) (shapeCast S128x128 s shapeCasts_S1x128x128_S128x128))
    (matmul dot_S128x128_S128x128_S128x128_0_0_1_1_n_n none
      (truncf .bf16 (mulf (addf (mulf k (shapeCast S128x128 cs shapeCasts_S128x128_S128x128))
          (mulf (dynamicRotate 1 64#32 none k rotates_S128x128_d1) (shapeCast S128x128 sn shapeCasts_S128x128_S128x128)))
        (shapeCast S128x128 kd shapeCasts_S1x128x128_S128x128)) bitsLt_bf16_f32)
      (truncf .bf16 v bitsLt_bf16_f32) (constant S128x128 .f32 0x00000000#32))) shapeCasts_S128x128_S1x128x128

/-- The kernel's meta state from its blocks. -/
def metaV (cs sn : Vec Ideal S16x128 .f32) (k v : Vec Ideal S16x128 .f32) (kd : Vec Ideal S1x16x128 .f32) : Vec Ideal S1x128x128 .f32 :=
  shapeCast S1x128x128 (α := Elt Ideal .f32) (matmul (F := Ideal) dot_S16x128_S16x128_S128x128_0_0_1_1_n_n none
      (truncf .bf16 (mulf (addf (mulf k (shapeCast S16x128 cs shapeCasts_S16x128_S16x128))
          (mulf (dynamicRotate 1 64#32 none k rotates_S16x128_d1) (shapeCast S16x128 sn shapeCasts_S16x128_S16x128)))
        (shapeCast S16x128 kd shapeCasts_S1x16x128_S16x128)) bitsLt_bf16_f32)
      (truncf .bf16 v bitsLt_bf16_f32) (constant S128x128 .f32 0x00000000#32)) shapeCasts_S128x128_S1x128x128

theorem stepV_apply (g : Ideal .f32) (cs sn k v : Vec Ideal S128x128 .f32) (kd s : Vec Ideal S1x128x128 .f32) (d e : Fin 128) :
    stepV g cs sn k v kd s (ix3 0 d e) = step g (fun j d => k (ix2 j d)) (fun j d => v (ix2 j d)) (fun j d => cs (ix2 j d))
      (fun j d => sn (ix2 j d)) (fun j d => kd (ix3 0 j d)) (fun d e => s (ix3 0 d e)) d e := by
  unfold stepV step outer rope half
  pointwise
  rfl

theorem metaV_apply (cs sn k v : Vec Ideal S16x128 .f32) (kd : Vec Ideal S1x16x128 .f32) (d e : Fin 128) :
    metaV cs sn k v kd (ix3 0 d e) = outer (fun j d => k (ix2 j d)) (fun j d => v (ix2 j d)) (fun j d => cs (ix2 j d))
      (fun j d => sn (ix2 j d)) (fun j d => kd (ix3 0 j d)) d e := by
  unfold metaV outer rope half
  pointwise
  rfl

/-! ## A point's blocks -/

/-- Half `c` of a block of keys or values, for one head. -/
def chunk (x : Vec Ideal S256x512 .f32) (c : Fin 2) (h : Fin 4) : Blk 128 := fun j d =>
  x (ix2 ⟨c.val * 128 + j.val, by have := c.isLt; have := j.isLt; omega⟩ ⟨h.val * 128 + d.val, by have := h.isLt; have := d.isLt; omega⟩)

/-- Half `c` of a block of the rotary tables. -/
def table (x : Vec Ideal S256x128 .f32) (c : Fin 2) : Blk 128 := fun j d =>
  x (ix2 ⟨c.val * 128 + j.val, by have := c.isLt; have := j.isLt; omega⟩ d)

/-- The meta keys or values of one head. -/
def metaHead (x : Vec Ideal S16x512 .f32) (h : Fin 4) : Blk 16 := fun j d =>
  x (ix2 j ⟨h.val * 128 + d.val, by have := h.isLt; have := d.isLt; omega⟩)

/-- The decay of a head over a chunk. -/
def gam : Fin 4 → Ideal .f32 :=
  ![Named.named κ "gamma_0_c" 0x3C8CC36A#32, Named.named κ "gamma_1_c" 0x3E08698E#32, Named.named κ "gamma_2_c" 0x3EBB9DB9#32,
    Named.named κ "gamma_3_c" 0x3F1B1EB1#32]

/-- Every head's state. -/
abbrev State := Fin 4 → Fin 128 → Fin 128 → EReal

/-- Every head's state after a point's two chunks. -/
def blockStep (x1 x2 : Vec Ideal S256x512 .f32) (x6 x7 : Vec Ideal S256x128 .f32) (x16 : Vec Ideal S4x128x128 .f32) (S : State) : State :=
  fun h => step (gam h) (chunk x1 1 h) (chunk x2 1 h) (table x6 1) (table x7 1) (fun j d => x16 (ix3 h j d))
    (step (gam h) (chunk x1 0 h) (chunk x2 0 h) (table x6 0) (table x7 0) (fun j d => x16 (ix3 h j d)) (S h))

/-- Every head's state after the meta tokens. -/
def metaState (x8 x9 : Vec Ideal S16x512 .f32) (x11 x12 : Vec Ideal S16x128 .f32) (x13 : Vec Ideal S4x16x128 .f32) : State :=
  fun h => outer (metaHead x8 h) (metaHead x9 h) (fun j d => x11 (ix2 j d)) (fun j d => x12 (ix2 j d)) (fun j d => x13 (ix3 h j d))

theorem canonHit (o : Nat) (h : Fin 4) (ho : o = h.val) (inb : ∀ a, (![o, 0, 0] : Fin 3 → Nat) a + (![1, 128, 128] : Fin 3 → Nat) a ≤ S4x128x128.size a)
    (w : Vec Ideal S1x128x128 .f32) (L : List (View.Piece (Elt Ideal) S4x128x128 .f32)) (d e : Fin 128) :
    View.canon ((⟨Rect.unit ![o, 0, 0] ![1, 128, 128] inb, w⟩ : View.Piece (Elt Ideal) S4x128x128 .f32) :: L) (ix3 h d e) = w (ix3 0 d e) := by
  subst ho
  have e0 := View.canon_cons_emb (Val := Elt Ideal) (e := .f32) (Rect.unit (s := S4x128x128) ![h.val, 0, 0] ![1, 128, 128] inb) w L (ix3 (0 : Fin 1) d e)
  refine Eq.trans (congrArg _ ?_) e0
  funext a; fin_cases a
  · exact Fin.ext (show h.val = h.val + 1 * 0 by omega)
  · exact Fin.ext (show d.val = 0 + 1 * d.val by omega)
  · exact Fin.ext (show e.val = 0 + 1 * e.val by omega)

theorem canonSkip (o : Nat) (h : Fin 4) (ho : o ≠ h.val) (inb : ∀ a, (![o, 0, 0] : Fin 3 → Nat) a + (![1, 128, 128] : Fin 3 → Nat) a ≤ S4x128x128.size a)
    (w : Vec Ideal S1x128x128 .f32) (L : List (View.Piece (Elt Ideal) S4x128x128 .f32)) (d e : Fin 128) :
    View.canon ((⟨Rect.unit ![o, 0, 0] ![1, 128, 128] inb, w⟩ : View.Piece (Elt Ideal) S4x128x128 .f32) :: L) (ix3 h d e) = View.canon L (ix3 h d e) := by
  refine View.canon_cons_of_not_mem _ _ fun hm => ho ?_
  obtain ⟨i, hi, he⟩ := (Rect.unit (s := S4x128x128) ![o, 0, 0] ![1, 128, 128] inb).mem_set.mp hm 0
  have hi' : i = 0 := Nat.lt_one_iff.mp hi
  subst hi'
  simpa [ix3] using he.symm

theorem ldChunk (x : Vec Ideal S256x512 .f32) (c : Fin 2) (h : Fin 4) (o p : Nat) (ho : o = c.val * 128) (hp : p = h.val * 128)
    (inb : ∀ a, (![o, p] : Fin 2 → Nat) a + (![128, 128] : Fin 2 → Nat) a ≤ S256x512.size a) (j d : Fin 128) :
    View.ld x (Rect.unit ![o, p] ![128, 128] inb) (ix2 j d) = chunk x c h j d := by
  subst ho hp
  refine congrArg x (funext fun a => ?_)
  fin_cases a <;> exact Fin.ext (by simp [Rect.emb, ix2])

theorem ldTable (x : Vec Ideal S256x128 .f32) (c : Fin 2) (o : Nat) (ho : o = c.val * 128)
    (inb : ∀ a, (![o, 0] : Fin 2 → Nat) a + (![128, 128] : Fin 2 → Nat) a ≤ S256x128.size a) (j d : Fin 128) :
    View.ld x (Rect.unit ![o, 0] ![128, 128] inb) (ix2 j d) = table x c j d := by
  subst ho
  refine congrArg x (funext fun a => ?_)
  fin_cases a <;> exact Fin.ext (by simp [Rect.emb, ix2])

theorem ldHead {n : Nat} (x : Vec Ideal ⟨3, ![4, n, 128]⟩ .f32) (h : Fin 4) (o : Nat) (ho : o = h.val)
    (inb : ∀ a, (![o, 0, 0] : Fin 3 → Nat) a + (![1, n, 128] : Fin 3 → Nat) a ≤ (⟨3, ![4, n, 128]⟩ : Shape).size a) (j : Fin n) (d : Fin 128) :
    View.ld x (Rect.unit ![o, 0, 0] ![1, n, 128] inb) (ix3 0 j d) = x (ix3 h j d) := by
  subst ho
  refine congrArg x (funext fun a => ?_)
  fin_cases a <;> exact Fin.ext (by simp [Rect.emb, ix3])

theorem ldMeta (x : Vec Ideal S16x512 .f32) (h : Fin 4) (p : Nat) (hp : p = h.val * 128)
    (inb : ∀ a, (![0, p] : Fin 2 → Nat) a + (![16, 128] : Fin 2 → Nat) a ≤ S16x512.size a) (j : Fin 16) (d : Fin 128) :
    View.ld x (Rect.unit ![0, p] ![16, 128] inb) (ix2 j d) = metaHead x h j d := by
  subst hp
  refine congrArg x (funext fun a => ?_)
  fin_cases a <;> exact Fin.ext (by simp [Rect.emb, ix2])

theorem ldTab16 (x : Vec Ideal S16x128 .f32) (inb : ∀ a, (![0, 0] : Fin 2 → Nat) a + (![16, 128] : Fin 2 → Nat) a ≤ S16x128.size a) (j : Fin 16) (d : Fin 128) :
    View.ld x (Rect.unit ![0, 0] ![16, 128] inb) (ix2 j d) = x (ix2 j d) := by
  refine congrArg x (funext fun a => ?_)
  fin_cases a <;> exact Fin.ext (by simp [Rect.emb, ix2])

theorem pay89 (v : Vec Ideal S4x128x128 .f32) (h : Fin 4) (d e : Fin 128) : k0_pay89 v (ix4 0 h d e) = v (ix3 h d e) := by
  pointwise [k0_pay89]

theorem pay90 (v : Vec Ideal S15x512 .f32) (r : Fin 15) (q : Fin 512) : k0_pay90 v (ix3 0 r q) = v (ix2 r q) := by
  pointwise [k0_pay90]

theorem hz2 : (![0, 0] : Fin 2 → Nat) = fun _ => 0 := funext fun a => by fin_cases a <;> rfl

theorem hz3 : (![0, 0, 0] : Fin 3 → Nat) = fun _ => 0 := funext fun a => by fin_cases a <;> rfl

theorem hz4 : (![0, 0, 0, 0] : Fin 4 → Nat) = fun _ => 0 := funext fun a => by fin_cases a <;> rfl

theorem wholeLoad {sig' : RefSig} {κ' : Kind} {sp : Space} (v : View sig' κ' sp S4x128x128 .f32) (L : List (View.Piece (Elt Ideal) S4x128x128 .f32))
    (inb : ∀ a, (![0, 0, 0] : Fin 3 → Nat) a + (![4, 128, 128] : Fin 3 → Nat) a ≤ S4x128x128.size a) (h : Fin 4) (d e : Fin 128) :
    v.readCov L (Rect.unit (s := S4x128x128) ![0, 0, 0] ![4, 128, 128] inb).toLoadRect (ix3 h d e) = View.canon L (ix3 h d e) := by
  rw [View.readCov_eq_canon']
  refine congrArg (View.canon L) (funext fun a => ?_)
  fin_cases a <;> exact Fin.ext (by simp [Rect.toLoadRect, ix3])

theorem poolLoad {sig' : RefSig} {κ' : Kind} {sp : Space} (v : View sig' κ' sp S272x512 .f32) (w : Vec Ideal S256x512 .f32) (L : List (View.Piece (Elt Ideal) S272x512 .f32))
    (inb : ∀ a, (![16, 0] : Fin 2 → Nat) a + (![256, 512] : Fin 2 → Nat) a ≤ S272x512.size a)
    (inb' : ∀ a, (![257, 0] : Fin 2 → Nat) a + (![15, 512] : Fin 2 → Nat) a ≤ S272x512.size a) (r : Fin 15) (q : Fin 512) :
    v.readCov ((⟨Rect.unit ![16, 0] ![256, 512] inb, w⟩ : View.Piece (Elt Ideal) S272x512 .f32) :: L)
        (Rect.unit (s := S272x512) ![257, 0] ![15, 512] inb').toLoadRect (ix2 r q)
      = w (ix2 ⟨241 + r.val, by have := r.isLt; omega⟩ q) := by
  rw [View.readCov_eq_canon']
  have e0 := View.canon_cons_emb (Val := Elt Ideal) (e := .f32) (Rect.unit (s := S272x512) ![16, 0] ![256, 512] inb) w L
    (ix2 (⟨241 + r.val, by have := r.isLt; omega⟩ : Fin 256) q)
  refine Eq.trans (congrArg _ ?_) e0
  funext a; fin_cases a
  · exact Fin.ext (show 257 + 1 * r.val = 16 + 1 * (241 + r.val) by omega)
  · exact Fin.ext (show 0 + 1 * q.val = 0 + 1 * q.val from rfl)

end Cert.Mixer

end
-- ==== Proof.Mixer.Decay.lean ====
/- A head's decay: the reference computes its logarithm from the head's number, the kernel tabulates it and names
   its power over a chunk. They are the same extended reals. -/
module

public import proofs.«01_k».proof.Proof.Mixer.Step
public import proofs.«01_k».proof.Proof.Gen.ReferenceIdeal.Read

@[expose] public section

set_option maxRecDepth 16384

noncomputable section

namespace Cert.Mixer

open Cert.KernelIdeal Cert.KernelIdeal.Gen Cert.Rows
open Idealize.ShloMosaic Idealize.ShloMosaic.TcCoe Idealize.ShloMosaic.Tactic

/-- The logarithm of a head's decay, as the reference computes it. -/
def lg : Vec Ideal S4 .f32 := Cert.ReferenceIdeal.Read.val_main_v7 (F := Ideal)

/-- A head's decay. -/
def dec (h : Fin 4) : ℝ := (2 ^ (5 + h.val) - 1) / 2 ^ (5 + h.val)

theorem dec_pos (h : Fin 4) : 0 < dec h := by
  fin_cases h <;> norm_num [dec]

theorem one_sub_rpow (h : Fin 4) : 1 - Real.rpow 2 (-5 - (h.val : ℝ)) = dec h := by
  have e : Real.rpow 2 (-5 - (h.val : ℝ)) = ((2 : ℝ) ^ (5 + h.val))⁻¹ := by
    have : (-5 - (h.val : ℝ)) = -(((5 + h.val : ℕ)) : ℝ) := by push_cast; ring
    rw [this]
    exact (Real.rpow_neg (by norm_num) _).trans (congrArg _ (Real.rpow_natCast 2 (5 + h.val)))
  rw [e, dec, sub_div, div_self (by positivity), one_div]

theorem lg_coe (h : Fin 4) : lg (ix1 h) = ((Real.log (dec h) : ℝ) : EReal) := by
  have two : Ideal.ofBits .f32 0x40000000#32 = ((2 : ℝ) : EReal) := by
    simp [Ideal.ofBits, Ideal.ieee, -EReal.coe_mul]; norm_num
  have five : Ideal.ofBits .f32 0xC0A00000#32 = ((-5 : ℝ) : EReal) := by
    simp [Ideal.ofBits, Ideal.ieee, -EReal.coe_mul]; norm_num
  unfold lg
  rw [Cert.ReferenceIdeal.Read.val_main_v7_apply, Cert.ReferenceIdeal.Read.val_main_v6_apply, Cert.ReferenceIdeal.Read.val_main_v5_apply,
    Cert.ReferenceIdeal.Read.val_main_v4_apply, Cert.ReferenceIdeal.Read.val_main_v3_apply, Cert.ReferenceIdeal.Read.val_main_v2_apply,
    Cert.ReferenceIdeal.Read.val_main_v1_apply, Cert.ReferenceIdeal.Read.val_main_cst_1_apply, Cert.ReferenceIdeal.Read.val_main_cst_0_apply, Cert.ReferenceIdeal.Read.val_main_cst_apply]
  have i0 : Cert.ReferenceIdeal.Read.val_main_v0 (F := Ideal) (ix1 h) = ((h.val : ℝ) : EReal) := by
    unfold Cert.ReferenceIdeal.Read.val_main_v0
    fin_cases h <;> simp [sitofp, iotaInDim]
    · show (((0#32 : BitVec 32).toInt : ℝ) : EReal) = 0
      simp
    · show (((1#32 : BitVec 32).toInt : ℝ) : EReal) = 1
      simp
    · show (((2#32 : BitVec 32).toInt : ℝ) : EReal) = ((2 : ℝ) : EReal)
      simp
    · show (((3#32 : BitVec 32).toInt : ℝ) : EReal) = ((3 : ℝ) : EReal)
      simp
  rw [i0]
  show Ideal.log (Ideal.ofBits .f32 0x3F800000#32 - Ideal.pow (Ideal.ofBits .f32 0x40000000#32) (Ideal.ofBits .f32 0xC0A00000#32 - ((h.val : ℝ) : EReal))) = _
  rw [Ideal.ofBits_one_f32, two, five, ← EReal.coe_sub, Ideal.pow_coe_coe, ← EReal.coe_one, ← EReal.coe_sub, one_sub_rpow, Ideal.log_coe, if_neg (not_le.2 (dec_pos h))]

theorem lit1_eq (h : Fin 4) : Ideal.log (Ideal.ofBits .f32 (lit1 (S4.rowMajor (ix1 h)))) = lg (ix1 h) := by
  rw [lg_coe]
  have e : Ideal.ofBits .f32 (lit1 (S4.rowMajor (ix1 h))) = ((dec h : ℝ) : EReal) := by
    have r : S4.rowMajor (ix1 h) = h := Fin.ext (by fin_cases h <;> decide +kernel)
    rw [r]
    fin_cases h <;> simp [lit1, dec, Ideal.ofBits, Ideal.ieee, -EReal.coe_mul] <;> norm_num
  rw [e, Ideal.log_coe, if_neg (not_le.2 (dec_pos h))]

theorem lit2_eq (h : Fin 4) : Ideal.log (Ideal.ofBits .f32 (lit2 (S4.rowMajor (ix1 h)))) = lg (ix1 h) := lit1_eq h

theorem gam_coe (h : Fin 4) : gam h = ((dec h ^ 128 : ℝ) : EReal) := by
  fin_cases h
  · refine (IdealRules.named_const.ideal_named_scalar κ "gamma_0_c" 0x3C8CC36A#32 _ rfl).trans ?_
    norm_num [dec]
  · refine (IdealRules.named_const.ideal_named_scalar κ "gamma_1_c" 0x3E08698E#32 _ rfl).trans ?_
    norm_num [dec]
  · refine (IdealRules.named_const.ideal_named_scalar κ "gamma_2_c" 0x3EBB9DB9#32 _ rfl).trans ?_
    norm_num [dec]
  · refine (IdealRules.named_const.ideal_named_scalar κ "gamma_3_c" 0x3F1B1EB1#32 _ rfl).trans ?_
    norm_num [dec]

theorem gam_eq (h : Fin 4) : gam h = Ideal.exp (lg (ix1 h) * ((128 : ℝ) : EReal)) := by
  rw [lg_coe, gam_coe, ← EReal.coe_mul, Ideal.exp_coe, mul_comm, ← Real.log_rpow (dec_pos h), Real.exp_log (Real.rpow_pos_of_pos (dec_pos h) _)]
  norm_cast

end Cert.Mixer

end
-- ==== Proof.Mixer.Spec.lean ====
/- What the prompt's retention state is, head by head: the meta tokens' outer product, then one step for each chunk
   of 128 rows. -/
module

public import proofs.«01_k».proof.Proof.Mixer.Decay

@[expose] public section

set_option maxRecDepth 16384

noncomputable section

namespace Cert.Mixer

open Cert.KernelIdeal Cert.KernelIdeal.Gen Cert.Rows
open Idealize.ShloMosaic Idealize.ShloMosaic.TcCoe Idealize.ShloMosaic.Tactic

/-- The cosines of the prompt's positions: position, then frequency. -/
def cosP : Vec Ideal S2048x64 .f32 := Cert.ReferenceIdeal.Read.val_main_v95 (F := Ideal)
/-- The sines of the prompt's positions. -/
def sinP : Vec Ideal S2048x64 .f32 := Cert.ReferenceIdeal.Read.val_main_v96 (F := Ideal)
/-- The cosines of the meta tokens' positions. -/
def cosT : Vec Ideal S16x64 .f32 := Cert.ReferenceIdeal.Read.val_main_v42 (F := Ideal)
/-- The sines of the meta tokens' positions. -/
def sinT : Vec Ideal S16x64 .f32 := Cert.ReferenceIdeal.Read.val_main_v43 (F := Ideal)
/-- How many steps of decay a key of a prompt chunk sees. -/
def backP : Vec Ideal S128 .f32 := Cert.ReferenceIdeal.Read.val_main_v121 (F := Ideal)
/-- How many steps of decay a meta token's key sees. -/
def backT : Vec Ideal S16 .f32 := Cert.ReferenceIdeal.Read.val_main_v63 (F := Ideal)

/-- The decay of a key of a prompt chunk. -/
def decP (h : Fin 4) (j : Fin 128) : EReal := Ideal.exp (lg (ix1 h) * backP (ix1 j))
/-- The decay of a meta token's key. -/
def decT (h : Fin 4) (j : Fin 16) : EReal := Ideal.exp (lg (ix1 h) * backT (ix1 j))

/-- The frequency of a channel. -/
def freq (d : Fin 128) : Fin 64 := ⟨d.val % 64, Nat.mod_lt _ (by decide)⟩

/-- The cosine table over both halves of the channels. -/
def both {n : Nat} (t : Fin n → Fin 64 → EReal) : Blk n := fun j d => t j (freq d)
/-- The sine table over both halves of the channels, negated on the first. -/
def signed {n : Nat} (t : Fin n → Fin 64 → EReal) : Blk n := fun j d => if d.val < 64 then -t j (freq d) else t j (freq d)

/-- Position `j` of chunk `n` of a table over the prompt's positions. -/
def posAt (n : Nat) (j : Fin 128) : Fin 2048 := ⟨(n * 128 + j.val) % 2048, Nat.mod_lt _ (by decide)⟩
/-- Row `j` of chunk `n` of sequence `b`. -/
def rowAt (b n : Nat) (j : Fin 128) : Fin 16384 := ⟨(b * 2048 + n * 128 + j.val) % 16384, Nat.mod_lt _ (by decide)⟩
/-- Channel `d` of head `h`, in the columns that start at `o`. -/
def colAt (o : Nat) (h : Fin 4) (d : Fin 128) : Fin 2560 := ⟨(o + h.val * 128 + d.val) % 2560, Nat.mod_lt _ (by decide)⟩

/-- One head of chunk `n` of sequence `b`, from the columns that start at `o`. -/
def rowsOf (a0 : Vec Ideal S16384x2560 .f32) (o b n : Nat) (h : Fin 4) : Blk 128 := fun j d => a0 (ix2 (rowAt b n j) (colAt o h d))
/-- One head of the meta tokens, from the columns that start at `o`. -/
def metaOf (a2 : Vec Ideal S528x2560 .f32) (o : Nat) (h : Fin 4) : Blk 16 := fun j d =>
  a2 (ix2 ⟨512 + j.val, by have := j.isLt; omega⟩ (colAt o h d))

/-- The chunk's rotary tables. -/
def cosC (n : Nat) : Blk 128 := both fun j i => cosP (ix2 (posAt n j) i)
def sinC (n : Nat) : Blk 128 := signed fun j i => sinP (ix2 (posAt n j) i)

/-- Sequence `b`'s state after `n` chunks of its prompt. -/
def stN (a0 : Vec Ideal S16384x2560 .f32) (a2 : Vec Ideal S528x2560 .f32) (b : Nat) : Nat → State
  | 0 => fun h => outer (metaOf a2 512 h) (metaOf a2 1024 h) (both fun j i => cosT (ix2 j i)) (signed fun j i => sinT (ix2 j i)) (fun j _ => decT h j)
  | n + 1 => fun h => step (gam h) (rowsOf a0 512 b n h) (rowsOf a0 1024 b n h) (cosC n) (sinC n) (fun j _ => decP h j) (stN a0 a2 b n h)

end Cert.Mixer

end
-- ==== Proof.Mixer.RunB.lean ====
/- The mixer's body at a block inside a sequence: the stores it makes, found by running it. -/
module

public import proofs.«01_k».proof.Proof.Gen.KernelIdeal.Frame.RunA
public import Idealize.ShloMosaic.Lib.Claim

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 2000000 in
noncomputable def kernelRun0_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) :
    Σ' (L22 : List (View.Piece (Elt F) S256x1024 .f32)), Σ' (L23 : List (View.Piece (Elt F) S1x4x128x128 .f32)), Σ' (L24 : List (View.Piece (Elt F) S1x15x512 .f32)), Σ' (LS0 : List (View.Piece (Elt F) S4x128x128 .f32)), Σ' (LS1 : List (View.Piece (Elt F) S272x512 .f32)), { LT2 : List (View.Piece (Elt F) S256x1024 .bf16) //
      ∀ (xi23 : Vec F S1x4x128x128 .f32) (xi24 : Vec F S1x15x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ owns (c : Thread nD τ) arg25 fullShare xi23 ∗ owns (c : Thread nD τ) arg26 fullShare xi24 ∗ owns (c : Thread nD τ) arg27 fullShare xs0 ∗ owns (c : Thread nD τ) arg28 fullShare xs1 ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ owns (c : Thread nD τ) arg25 fullShare xi23 ∗ owns (c : Thread nD τ) arg26 fullShare xi24 ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1) ∗ (∃ f, arg29.view.loc (c : Thread nD τ) ↦[arg29.view.set]{fullShare} arg29.view.writes (Elt F) f LT2)) -∗ K ⟨⟩))
          ⊢ wp frame (wpE (defs₀ (F := F)) Variants.none c none) E (cc0_prompt_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, [], [], ?_, ?_, ?_, fun xi23 xi24 E K => ?run⟩
  case run =>
    simp only [cc0_prompt_mixer_eq_skeleton]; unfold cc0_prompt_mixer_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%f23, %hf23, H23⟩, ⟨%f24, %hf24, H24⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg25.eq_unread hf23; obtain rfl := harg26.eq_unread hf24; obtain rfl := harg27.eq_unread hfs0; obtain rfl := harg28.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]
    · iexists _; isplitr; · ipureintro; exact harg25.read_unread _
      iexact H23
    isplitl [H24]
    · iexists _; isplitr; · ipureintro; exact harg26.read_unread _
      iexact H24
    isplitl [HS0]; · iexists _; iexact HS0
    isplitl [HS1]; · iexists _; iexact HS1
    iexists _; iexact HS2

end Cert.Mixer

end
-- ==== Proof.Mixer.RunC.lean ====
/- The mixer's body at a sequence's last block: the stores it makes, found by running it. -/
module

public import proofs.«01_k».proof.Proof.Gen.KernelIdeal.Frame.RunA
public import Idealize.ShloMosaic.Lib.Claim

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 2000000 in
noncomputable def kernelRun0_C (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) :
    Σ' (L22 : List (View.Piece (Elt F) S256x1024 .f32)), Σ' (L23 : List (View.Piece (Elt F) S1x4x128x128 .f32)), Σ' (L24 : List (View.Piece (Elt F) S1x15x512 .f32)), Σ' (LS0 : List (View.Piece (Elt F) S4x128x128 .f32)), Σ' (LS1 : List (View.Piece (Elt F) S272x512 .f32)), { LT2 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ owns (c : Thread nD τ) arg28 fullShare xs1 ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1) ∗ (∃ f, arg29.view.loc (c : Thread nD τ) ↦[arg29.view.set]{fullShare} arg29.view.writes (Elt F) f LT2)) -∗ K ⟨⟩))
          ⊢ wp frame (wpE (defs₀ (F := F)) Variants.none c none) E (cc0_prompt_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, fun E K => ?run⟩
  case run =>
    simp only [cc0_prompt_mixer_eq_skeleton]; unfold cc0_prompt_mixer_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg27.eq_unread hfs0; obtain rfl := harg28.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]; · iexists _; iexact H23
    isplitl [H24]; · iexists _; iexact H24
    isplitl [HS0]; · iexists _; iexact HS0
    isplitl [HS1]; · iexists _; iexact HS1
    iexists _; iexact HS2

end Cert.Mixer

end
-- ==== Proof.Mixer.Outs.lean ====
/- What the mixer's body leaves in each buffer, block by block kind. -/
module

public import proofs.«01_k».proof.Proof.Mixer.RunB
public import proofs.«01_k».proof.Proof.Mixer.RunC
public import Idealize.ShloMosaic.Lib.Claim

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_22 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (y : S256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).1 S256x1024.size (by sl_kernel_rfl) y

def out0_A_22 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) : Vec F S256x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).1)

def out0_A_23 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) : Vec F S1x4x128x128 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.1)

def out0_A_24 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) : Vec F S1x15x512 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.1)

theorem scover0_A_0 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (y : S4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.2.1 S1x128x128.size (by sl_kernel_rfl) y

def sout0_A_0 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) : Vec F S4x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.2.1)

theorem scover0_A_1 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (y : S272x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.2.2.1 ![16, 512] (by sl_kernel_rfl) y

def sout0_A_1 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) : Vec F S272x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21).2.2.2.2.1)

theorem cover0_B_22 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).1 S256x1024.size (by sl_kernel_rfl) y

def out0_B_22 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S256x1024 .f32 :=
  VO0_22.read (Elt F) (VO0_22.writes (Elt F) VO0_22.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).1)

def out0_B_23 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S1x4x128x128 .f32 :=
  VO0_23.read (Elt F) (VO0_23.writes (Elt F) VO0_23.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.1)

def out0_B_24 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S1x15x512 .f32 :=
  VO0_24.read (Elt F) (VO0_24.writes (Elt F) VO0_24.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.1)

theorem scover0_B_0 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S4x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.1 S1x128x128.size (by sl_kernel_rfl) y

def sout0_B_0 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S4x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.1)

theorem scover0_B_1 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S272x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.2.1 ![16, 512] (by sl_kernel_rfl) y

def sout0_B_1 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S272x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.2.1)

theorem cover0_C_22 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).1 S256x1024.size (by sl_kernel_rfl) y

def out0_C_22 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S256x1024 .f32 :=
  VO0_22.read (Elt F) (VO0_22.writes (Elt F) VO0_22.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).1)

theorem cover0_C_23 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S1x4x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.1 S1x4x128x128.size (by sl_kernel_rfl) y

def out0_C_23 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S1x4x128x128 .f32 :=
  VO0_23.read (Elt F) (VO0_23.writes (Elt F) VO0_23.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.1)

theorem cover0_C_24 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S1x15x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.1 S1x15x512.size (by sl_kernel_rfl) y

def out0_C_24 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S1x15x512 .f32 :=
  VO0_24.read (Elt F) (VO0_24.writes (Elt F) VO0_24.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.1)

theorem scover0_C_0 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S4x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.1 S1x128x128.size (by sl_kernel_rfl) y

def sout0_C_0 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S4x128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.1)

theorem scover0_C_1 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) (y : S272x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.2.1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.2.1 ![16, 512] (by sl_kernel_rfl) y

def sout0_C_1 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec F S256x512 .f32) (x1 : Vec F S256x512 .f32) (x2 : Vec F S256x512 .f32) (x3 : Vec F S256x512 .f32) (x4 : Vec F S256x512 .f32) (x5 : Vec F S256x1024 .f32) (x6 : Vec F S256x128 .f32) (x7 : Vec F S256x128 .f32) (x8 : Vec F S16x512 .f32) (x9 : Vec F S16x512 .f32) (x10 : Vec F S16x512 .f32) (x11 : Vec F S16x128 .f32) (x12 : Vec F S16x128 .f32) (x13 : Vec F S4x16x128 .f32) (x14 : Vec F S4x128x128 .f32) (x15 : Vec F S4x128x128 .f32) (x16 : Vec F S4x128x128 .f32) (x17 : Vec F S4x128x128 .bf16) (x18 : Vec F S1x512 .f32) (x19 : Vec F S1024x1024 .bf16) (x20 : Vec F S1x1024 .f32) (x21 : Vec F S1x1024 .f32) (xs0 : Vec F S4x128x128 .f32) (xs1 : Vec F S272x512 .f32) : Vec F S272x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1).2.2.2.2.1)

end Cert.Mixer

end
-- ==== Proof.Mixer.Frame.lean ====
/- The mixer's frame: what each buffer holds point by point, the body's obligation and the whole run. -/
module

public import proofs.«01_k».proof.Proof.Mixer.Outs
public import Idealize.ShloMosaic.Lib.Claim

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
def outsAt0 (c : Dev nD) : (n : ℕ) → n < cfg0.N → Vec F S256x1024 .f32 × Vec F S1x4x128x128 .f32 × Vec F S1x15x512 .f32 × Vec F S4x128x128 .f32 × Vec F S272x512 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩))
  | n + 1, hn =>
    if h0 : (n + 1) % 8 = 0 then
      if h1 : (n + 1) % 8 = 7 then
        False.elim (by have hN : n + 1 < 64 := lt_of_lt_of_eq hn (show cfg0.N = 64 from N_0); omega)
      else
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩))
    else
      if h1 : (n + 1) % 8 = 7 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, out0_C_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, out0_C_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 8 = 0) (h1 : ¬t.val % 8 = 7) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2) ∗ (∃ d, owns (c : Thread nD τ) scM0_2 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨23, _⟩ => (outsAt0 m c t.val t.isLt).2.1
    | ⟨24, _⟩ => (outsAt0 m c t.val t.isLt).2.2.1
    | ⟨_ + 25, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]
theorem after0_23 (c : Dev nD) (t : Fin cfg0.N) : (dats m 0 c).after 23 t = (outsAt0 m c t.val t.isLt).2.1 := by dsimp only [dats]
theorem after0_24 (c : Dev nD) (t : Fin cfg0.N) : (dats m 0 c).after 24 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 33600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [Dat.leavesExact_idle (dats m 0 c) 23 t (idleAt0_23_A t ((hcond0_0 t).mpr h0) (fun h => h1 ((hcond0_1 t).mp h))) (noFlush0_23_A t ((hcond0_0 t).mpr h0) (fun h => h1 ((hcond0_1 t).mp h)))]
      rw [Dat.leavesExact_idle (dats m 0 c) 24 t (idleAt0_24_A t ((hcond0_0 t).mpr h0) (fun h => h1 ((hcond0_1 t).mp h))) (noFlush0_24_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_22 sout0_A_0 sout0_A_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [H23]; · iexact H23
        isplitl [H24]; · iexact H24
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, H21, ⟨%e22, H22⟩, H23, H24, ⟨%es0, HS0⟩, ⟨%es1, HS1⟩, ⟨%fT2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]
        · unfold owns; iexists _; isplitr
          swap; · iexact H22
          ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]; · iexists _; iexact H23
        iexists _; iexact H24
      · rw [PhiS_castSucc m c t, PhiS_pos m c _ _ hz]
        rw [outsAt0_A m c t h0 h1]
        unfold out0_A_22 sout0_A_0 sout0_A_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [H23]; · iexact H23
        isplitl [H24]; · iexact H24
        isplitl [HS0]; · iexists _; iexact HS0
        isplitl [HS1]; · iexists _; iexact HS1
        isplitl [HS2]; · iexact HS2
        iintro ⟨H0, H1, H2, H3, H4, H5, H6, H7, H8, H9, H10, H11, H12, H13, H14, H15, H16, H17, H18, H19, H20, H21, ⟨%e22, H22⟩, H23, H24, ⟨%es0, HS0⟩, ⟨%es1, HS1⟩, ⟨%fT2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]
        · unfold owns; iexists _; isplitr
          swap; · iexact H22
          ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]; · iexists _; iexact H23
        iexists _; iexact H24
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23_C t (fun h => h0 ((hcond0_0 t).mp h)) ((hcond0_1 t).mpr h1)], after0_23]
      rw [show (dats m 0 c).leavesExact 24 t = owns (c : Thread nD τ) (ms0_24 t) fullShare ((dats m 0 c).after 24 t) from by
      unfold Dat.leavesExact; rw [liveAt0_24_C t (fun h => h0 ((hcond0_0 t).mp h)) ((hcond0_1 t).mpr h1)], after0_24]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_22 out0_C_23 out0_C_24 sout0_C_0 sout0_C_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [H23]; · iexists _; iexact H23
        isplitl [H24]; · iexists _; iexact H24
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, H21, ⟨%e22, H22⟩, ⟨%e23, H23⟩, ⟨%e24, H24⟩, ⟨%es0, HS0⟩, ⟨%es1, HS1⟩, ⟨%fT2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]
        · unfold owns; iexists _; isplitr
          swap; · iexact H22
          ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]
        · unfold owns; iexists _; isplitr
          swap; · iexact H23
          ipureintro; exact View.read_writes_of_cover _ _ _ _ _ (cover0_C_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H24
        ipureintro; exact View.read_writes_of_cover _ _ _ _ _ (cover0_C_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [Dat.leavesExact_idle (dats m 0 c) 23 t (idleAt0_23_B t (fun h => h0 ((hcond0_0 t).mp h)) (fun h => h1 ((hcond0_1 t).mp h))) (noFlush0_23_B t (fun h => h0 ((hcond0_0 t).mp h)) (fun h => h1 ((hcond0_1 t).mp h)))]
      rw [Dat.leavesExact_idle (dats m 0 c) 24 t (idleAt0_24_B t (fun h => h0 ((hcond0_0 t).mp h)) (fun h => h1 ((hcond0_1 t).mp h))) (noFlush0_24_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_22 sout0_B_0 sout0_B_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [H23]; · iexact H23
        isplitl [H24]; · iexact H24
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, H21, ⟨%e22, H22⟩, H23, H24, ⟨%es0, HS0⟩, ⟨%es1, HS1⟩, ⟨%fT2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]
        · unfold owns; iexists _; isplitr
          swap; · iexact H22
          ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]; · iexists _; iexact H23
        iexists _; iexact H24

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 64 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Mixer

end
-- ==== Proof.Mixer.Value.lean ====
/- The mixer's two written arrays after the run, and its arguments unchanged: each array is tiled by the
   blocks its write-backs leave, one for each batch row, at the row's last point. -/
module

public import proofs.«01_k».proof.Proof.Mixer.Frame
public import Idealize.ShloMosaic.Lib.Pipeline.Value

@[expose] public section

noncomputable section

namespace Cert.Mixer

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the run, the state's array is what its write-backs left. -/
theorem post23 (r : PUnit × MemSt nD τ sig (Elt F)) (h : Pipeline.FramePost cfgs (dats m) 0 (V m) r) (c : Dev nD) :
    r.2.mem ((c : Thread nD τ).loc main_v111_1) = (dats m 0 c).arrAt 23 cfg0.N :=
  (h c).1 23

/-- After the run, the pooling rows' array is what its write-backs left. -/
theorem post24 (r : PUnit × MemSt nD τ sig (Elt F)) (h : Pipeline.FramePost cfgs (dats m) 0 (V m) r) (c : Dev nD) :
    r.2.mem ((c : Thread nD τ).loc main_v111_2) = (dats m 0 c).arrAt 24 cfg0.N :=
  (h c).1 24

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 10).trans (((dats m 0 c).arrAt_in 10 rfl _).trans ((A_eq m c 10).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- What a point leaves, at equal points. -/
theorem outsAt0_congr (c : Dev nD) (j : ℕ) (h : j < cfg0.N) (j' : ℕ) (h' : j' < cfg0.N) (e : j = j') :
    outsAt0 m c j h = outsAt0 m c j' h' := by subst e; rfl

abbrev run23Of (i : S8x4x128x128.Idx) : ℕ := 1 * ((i 0).val / 1 - 0) + 1 * ((i 1).val / 4 - 0) + 1 * ((i 2).val / 128 - 0) + 1 * ((i 3).val / 128 - 0)
set_option backward.proofsInPublic true in
abbrev loc23Of (i : S8x4x128x128.Idx) : S1x4x128x128.Idx := fun a => match a with
  | ⟨0, _⟩ => ⟨(i 0).val % 1, Nat.mod_lt _ (by decide)⟩
  | ⟨1, _⟩ => ⟨(i 1).val % 4, Nat.mod_lt _ (by decide)⟩
  | ⟨2, _⟩ => ⟨(i 2).val % 128, Nat.mod_lt _ (by decide)⟩
  | ⟨3, _⟩ => ⟨(i 3).val % 128, Nat.mod_lt _ (by decide)⟩
abbrev pt23Of (i : S8x4x128x128.Idx) : ℕ := 8 * run23Of i + 7

/-- The state's array after the run: at the batch row an index lies in, what the last of the row's 8 points left in the block. -/
def G23 (c : Dev nD) : Buf (Elt F) ((c : Thread nD τ).loc main_v111_1) := fun i =>
  if h : pt23Of i < cfg0.N then
    (outsAt0 m c (pt23Of i) h).2.1 (loc23Of i)
  else V m c (Pipeline.arrRef spec0 23) i

theorem idx_facts23 : ∀ t : Fin cfg0.N, 0 ≤ win0_23.index t (0 : Fin 4) ∧ win0_23.index t (0 : Fin 4) ≤ 7
    ∧ 0 ≤ win0_23.index t (1 : Fin 4) ∧ win0_23.index t (1 : Fin 4) ≤ 0
    ∧ 0 ≤ win0_23.index t (2 : Fin 4) ∧ win0_23.index t (2 : Fin 4) ≤ 0
    ∧ 0 ≤ win0_23.index t (3 : Fin 4) ∧ win0_23.index t (3 : Fin 4) ≤ 0
    ∧ 1 * (win0_23.index t (0 : Fin 4) - 0) + 1 * (win0_23.index t (1 : Fin 4) - 0) + 1 * (win0_23.index t (2 : Fin 4) - 0) + 1 * (win0_23.index t (3 : Fin 4) - 0) = t.val / 8 :=
  (by decide +kernel : ∀ t : Fin grid0.N, _)

abbrev onto23Pt (q0 : Fin 8) (q1 : Fin 1) (q2 : Fin 1) (q3 : Fin 1) : Fin grid0.N :=
  ⟨8 * (1 * q0.val + 1 * q1.val + 1 * q2.val + 1 * q3.val) + 7, lt_of_lt_of_eq (by omega) N_0.symm⟩
theorem idx_onto23 : ∀ (q0 : Fin 8) (q1 : Fin 1) (q2 : Fin 1) (q3 : Fin 1), ∃ t : Fin cfg0.N, (cfg0.win 23).flush t = true ∧ win0_23.index t = ![q0.val + 0, q1.val + 0, q2.val + 0, q3.val + 0] :=
  fun q0 q1 q2 q3 => ⟨onto23Pt q0 q1 q2 q3, (by decide +kernel : ∀ (q0 : Fin 8) (q1 : Fin 1) (q2 : Fin 1) (q3 : Fin 1), win0_23.flush (onto23Pt q0 q1 q2 q3) = true ∧ win0_23.index (onto23Pt q0 q1 q2 q3) = ![q0.val + 0, q1.val + 0, q2.val + 0, q3.val + 0]) q0 q1 q2 q3⟩

theorem flushed23_eq (c : Dev nD) (t : Fin cfg0.N) (hf : (cfg0.win 23).flush t = true) :
    (dats m 0 c).flushed 23 t = ((cfg0.win 23).blk t).view.read (Elt F) (G23 m c) := by
  show (cfg0.win 23).cut (grid0.coords t) ((dats m 0 c).after 23 t) = _
  rw [after0_23]
  have hm : t.val % 8 = 7 := (flush0_23 t).mp hf
  obtain ⟨e0, e1, e2, e3, e4⟩ := idx_facts23 t
  funext y
  have hy0 : (y 0).val < 1 := (y 0).isLt
  have hy1 : (y 1).val < 4 := (y 1).isLt
  have hy2 : (y 2).val < 128 := (y 2).isLt
  have hy3 : (y 3).val < 128 := (y 3).isLt
  have hb0 : (((cfg0.win 23).blk t).view.emb y 0).val = win0_23.index t (0 : Fin 4) * 1 + 1 * (y 0).val := rfl
  have hb1 : (((cfg0.win 23).blk t).view.emb y 1).val = win0_23.index t (1 : Fin 4) * 4 + 1 * (y 1).val := rfl
  have hb2 : (((cfg0.win 23).blk t).view.emb y 2).val = win0_23.index t (2 : Fin 4) * 128 + 1 * (y 2).val := rfl
  have hb3 : (((cfg0.win 23).blk t).view.emb y 3).val = win0_23.index t (3 : Fin 4) * 128 + 1 * (y 3).val := rfl
  have hr : run23Of (((cfg0.win 23).blk t).view.emb y) = t.val / 8 := by
    show 1 * ((((cfg0.win 23).blk t).view.emb y 0).val / 1 - 0) + 1 * ((((cfg0.win 23).blk t).view.emb y 1).val / 4 - 0) + 1 * ((((cfg0.win 23).blk t).view.emb y 2).val / 128 - 0) + 1 * ((((cfg0.win 23).blk t).view.emb y 3).val / 128 - 0) = _
    rw [hb0, hb1, hb2, hb3]
    rw [show (win0_23.index t (0 : Fin 4) * 1 + 1 * (y 0).val) / 1 = win0_23.index t (0 : Fin 4) from by omega]; rw [show (win0_23.index t (1 : Fin 4) * 4 + 1 * (y 1).val) / 4 = win0_23.index t (1 : Fin 4) from by omega]; rw [show (win0_23.index t (2 : Fin 4) * 128 + 1 * (y 2).val) / 128 = win0_23.index t (2 : Fin 4) from by omega]; rw [show (win0_23.index t (3 : Fin 4) * 128 + 1 * (y 3).val) / 128 = win0_23.index t (3 : Fin 4) from by omega]
    omega
  have hl : loc23Of (((cfg0.win 23).blk t).view.emb y) = (cfg0.win 23).xinj (grid0.coords t) y := by
    funext a; apply Fin.ext
    match a with
    | ⟨0, _⟩ => show (((cfg0.win 23).blk t).view.emb y 0).val % 1 = (y 0).val; rw [hb0]; omega
    | ⟨1, _⟩ => show (((cfg0.win 23).blk t).view.emb y 1).val % 4 = (y 1).val; rw [hb1]; omega
    | ⟨2, _⟩ => show (((cfg0.win 23).blk t).view.emb y 2).val % 128 = (y 2).val; rw [hb2]; omega
    | ⟨3, _⟩ => show (((cfg0.win 23).blk t).view.emb y 3).val % 128 = (y 3).val; rw [hb3]; omega
  have hp : pt23Of (((cfg0.win 23).blk t).view.emb y) = t.val := by
    show 8 * run23Of (((cfg0.win 23).blk t).view.emb y) + 7 = _
    rw [hr]; have := Nat.div_add_mod t.val 8; omega
  show (outsAt0 m c t.val _).2.1 ((cfg0.win 23).xinj (grid0.coords t) y) = G23 m c (((cfg0.win 23).blk t).view.emb y)
  unfold G23
  rw [dif_pos (by rw [hp]; exact t.isLt), hl, outsAt0_congr m c _ _ _ _ hp.symm]

theorem mem_blk23 (t : Fin cfg0.N) (i : S8x4x128x128.Idx) :
    i ∈ ((cfg0.win 23).blk t).view.set ↔ ∀ a : Fin 4, win0_23.index t a * S1x4x128x128.size a ≤ (i a).val ∧ (i a).val < win0_23.index t a * S1x4x128x128.size a + S1x4x128x128.size a := by
  show i ∈ ((View.whole main_v111_1).slice (win0_23.rect t)).set ↔ _
  rw [View.set_slice_whole, Rect.mem_set_unit]
  exact Iff.rfl

theorem covered_iff23 (i : S8x4x128x128.Idx) :
    (∃ t : Fin cfg0.N, (cfg0.win 23).flush t = true ∧ i ∈ ((cfg0.win 23).blk t).view.set) ↔ 0 ≤ (i 0).val ∧ (i 0).val < 8 ∧ 0 ≤ (i 1).val ∧ (i 1).val < 4 ∧ 0 ≤ (i 2).val ∧ (i 2).val < 128 ∧ 0 ≤ (i 3).val ∧ (i 3).val < 128 := by
  constructor
  · rintro ⟨t, -, hi⟩
    rw [mem_blk23] at hi
    have b0 : win0_23.index t (0 : Fin 4) * 1 ≤ (i 0).val ∧ (i 0).val < win0_23.index t (0 : Fin 4) * 1 + 1 := hi 0
    have b1 : win0_23.index t (1 : Fin 4) * 4 ≤ (i 1).val ∧ (i 1).val < win0_23.index t (1 : Fin 4) * 4 + 4 := hi 1
    have b2 : win0_23.index t (2 : Fin 4) * 128 ≤ (i 2).val ∧ (i 2).val < win0_23.index t (2 : Fin 4) * 128 + 128 := hi 2
    have b3 : win0_23.index t (3 : Fin 4) * 128 ≤ (i 3).val ∧ (i 3).val < win0_23.index t (3 : Fin 4) * 128 + 128 := hi 3
    obtain ⟨e0, e1, e2, e3, e4⟩ := idx_facts23 t
    omega
  · intro h
    have hi0 : (i 0).val < 8 := (i 0).isLt
    have hi1 : (i 1).val < 4 := (i 1).isLt
    have hi2 : (i 2).val < 128 := (i 2).isLt
    have hi3 : (i 3).val < 128 := (i 3).isLt
    obtain ⟨t, hft, ht⟩ := idx_onto23 ⟨(i 0).val / 1 - 0, by omega⟩ ⟨(i 1).val / 4 - 0, by omega⟩ ⟨(i 2).val / 128 - 0, by omega⟩ ⟨(i 3).val / 128 - 0, by omega⟩
    have q0 : win0_23.index t (0 : Fin 4) = (i 0).val / 1 - 0 + 0 := congrFun ht 0
    have q1 : win0_23.index t (1 : Fin 4) = (i 1).val / 4 - 0 + 0 := congrFun ht 1
    have q2 : win0_23.index t (2 : Fin 4) = (i 2).val / 128 - 0 + 0 := congrFun ht 2
    have q3 : win0_23.index t (3 : Fin 4) = (i 3).val / 128 - 0 + 0 := congrFun ht 3
    refine ⟨t, hft, ?_⟩
    rw [mem_blk23]
    intro a
    match a with
    | ⟨0, _⟩ => show win0_23.index t (0 : Fin 4) * 1 ≤ (i 0).val ∧ (i 0).val < win0_23.index t (0 : Fin 4) * 1 + 1; omega
    | ⟨1, _⟩ => show win0_23.index t (1 : Fin 4) * 4 ≤ (i 1).val ∧ (i 1).val < win0_23.index t (1 : Fin 4) * 4 + 4; omega
    | ⟨2, _⟩ => show win0_23.index t (2 : Fin 4) * 128 ≤ (i 2).val ∧ (i 2).val < win0_23.index t (2 : Fin 4) * 128 + 128; omega
    | ⟨3, _⟩ => show win0_23.index t (3 : Fin 4) * 128 ≤ (i 3).val ∧ (i 3).val < win0_23.index t (3 : Fin 4) * 128 + 128; omega

/-- The state's array after the run. -/
theorem final23 (c : Dev nD) : (dats m 0 c).arrAt 23 cfg0.N = G23 m c :=
  (dats m 0 c).arrAt_eq_of_cover 23 _ (fun t hf => flushed23_eq m c t hf) (fun i => (covered_iff23 i).2 (by
    have h0 : (i 0).val < 8 := (i 0).isLt; have h1 : (i 1).val < 4 := (i 1).isLt; have h2 : (i 2).val < 128 := (i 2).isLt; have h3 : (i 3).val < 128 := (i 3).isLt; omega))

abbrev run24Of (i : S8x15x512.Idx) : ℕ := 1 * ((i 0).val / 1 - 0) + 1 * ((i 1).val / 15 - 0) + 1 * ((i 2).val / 512 - 0)
set_option backward.proofsInPublic true in
abbrev loc24Of (i : S8x15x512.Idx) : S1x15x512.Idx := fun a => match a with
  | ⟨0, _⟩ => ⟨(i 0).val % 1, Nat.mod_lt _ (by decide)⟩
  | ⟨1, _⟩ => ⟨(i 1).val % 15, Nat.mod_lt _ (by decide)⟩
  | ⟨2, _⟩ => ⟨(i 2).val % 512, Nat.mod_lt _ (by decide)⟩
abbrev pt24Of (i : S8x15x512.Idx) : ℕ := 8 * run24Of i + 7

/-- The pooling rows' array after the run, likewise. -/
def G24 (c : Dev nD) : Buf (Elt F) ((c : Thread nD τ).loc main_v111_2) := fun i =>
  if h : pt24Of i < cfg0.N then
    (outsAt0 m c (pt24Of i) h).2.2.1 (loc24Of i)
  else V m c (Pipeline.arrRef spec0 24) i

theorem idx_facts24 : ∀ t : Fin cfg0.N, 0 ≤ win0_24.index t (0 : Fin 3) ∧ win0_24.index t (0 : Fin 3) ≤ 7
    ∧ 0 ≤ win0_24.index t (1 : Fin 3) ∧ win0_24.index t (1 : Fin 3) ≤ 0
    ∧ 0 ≤ win0_24.index t (2 : Fin 3) ∧ win0_24.index t (2 : Fin 3) ≤ 0
    ∧ 1 * (win0_24.index t (0 : Fin 3) - 0) + 1 * (win0_24.index t (1 : Fin 3) - 0) + 1 * (win0_24.index t (2 : Fin 3) - 0) = t.val / 8 :=
  (by decide +kernel : ∀ t : Fin grid0.N, _)

abbrev onto24Pt (q0 : Fin 8) (q1 : Fin 1) (q2 : Fin 1) : Fin grid0.N :=
  ⟨8 * (1 * q0.val + 1 * q1.val + 1 * q2.val) + 7, lt_of_lt_of_eq (by omega) N_0.symm⟩
theorem idx_onto24 : ∀ (q0 : Fin 8) (q1 : Fin 1) (q2 : Fin 1), ∃ t : Fin cfg0.N, (cfg0.win 24).flush t = true ∧ win0_24.index t = ![q0.val + 0, q1.val + 0, q2.val + 0] :=
  fun q0 q1 q2 => ⟨onto24Pt q0 q1 q2, (by decide +kernel : ∀ (q0 : Fin 8) (q1 : Fin 1) (q2 : Fin 1), win0_24.flush (onto24Pt q0 q1 q2) = true ∧ win0_24.index (onto24Pt q0 q1 q2) = ![q0.val + 0, q1.val + 0, q2.val + 0]) q0 q1 q2⟩

theorem flushed24_eq (c : Dev nD) (t : Fin cfg0.N) (hf : (cfg0.win 24).flush t = true) :
    (dats m 0 c).flushed 24 t = ((cfg0.win 24).blk t).view.read (Elt F) (G24 m c) := by
  show (cfg0.win 24).cut (grid0.coords t) ((dats m 0 c).after 24 t) = _
  rw [after0_24]
  have hm : t.val % 8 = 7 := (flush0_24 t).mp hf
  obtain ⟨e0, e1, e2, e3⟩ := idx_facts24 t
  funext y
  have hy0 : (y 0).val < 1 := (y 0).isLt
  have hy1 : (y 1).val < 15 := (y 1).isLt
  have hy2 : (y 2).val < 512 := (y 2).isLt
  have hb0 : (((cfg0.win 24).blk t).view.emb y 0).val = win0_24.index t (0 : Fin 3) * 1 + 1 * (y 0).val := rfl
  have hb1 : (((cfg0.win 24).blk t).view.emb y 1).val = win0_24.index t (1 : Fin 3) * 15 + 1 * (y 1).val := rfl
  have hb2 : (((cfg0.win 24).blk t).view.emb y 2).val = win0_24.index t (2 : Fin 3) * 512 + 1 * (y 2).val := rfl
  have hr : run24Of (((cfg0.win 24).blk t).view.emb y) = t.val / 8 := by
    show 1 * ((((cfg0.win 24).blk t).view.emb y 0).val / 1 - 0) + 1 * ((((cfg0.win 24).blk t).view.emb y 1).val / 15 - 0) + 1 * ((((cfg0.win 24).blk t).view.emb y 2).val / 512 - 0) = _
    rw [hb0, hb1, hb2]
    rw [show (win0_24.index t (0 : Fin 3) * 1 + 1 * (y 0).val) / 1 = win0_24.index t (0 : Fin 3) from by omega]; rw [show (win0_24.index t (1 : Fin 3) * 15 + 1 * (y 1).val) / 15 = win0_24.index t (1 : Fin 3) from by omega]; rw [show (win0_24.index t (2 : Fin 3) * 512 + 1 * (y 2).val) / 512 = win0_24.index t (2 : Fin 3) from by omega]
    omega
  have hl : loc24Of (((cfg0.win 24).blk t).view.emb y) = (cfg0.win 24).xinj (grid0.coords t) y := by
    funext a; apply Fin.ext
    match a with
    | ⟨0, _⟩ => show (((cfg0.win 24).blk t).view.emb y 0).val % 1 = (y 0).val; rw [hb0]; omega
    | ⟨1, _⟩ => show (((cfg0.win 24).blk t).view.emb y 1).val % 15 = (y 1).val; rw [hb1]; omega
    | ⟨2, _⟩ => show (((cfg0.win 24).blk t).view.emb y 2).val % 512 = (y 2).val; rw [hb2]; omega
  have hp : pt24Of (((cfg0.win 24).blk t).view.emb y) = t.val := by
    show 8 * run24Of (((cfg0.win 24).blk t).view.emb y) + 7 = _
    rw [hr]; have := Nat.div_add_mod t.val 8; omega
  show (outsAt0 m c t.val _).2.2.1 ((cfg0.win 24).xinj (grid0.coords t) y) = G24 m c (((cfg0.win 24).blk t).view.emb y)
  unfold G24
  rw [dif_pos (by rw [hp]; exact t.isLt), hl, outsAt0_congr m c _ _ _ _ hp.symm]

theorem mem_blk24 (t : Fin cfg0.N) (i : S8x15x512.Idx) :
    i ∈ ((cfg0.win 24).blk t).view.set ↔ ∀ a : Fin 3, win0_24.index t a * S1x15x512.size a ≤ (i a).val ∧ (i a).val < win0_24.index t a * S1x15x512.size a + S1x15x512.size a := by
  show i ∈ ((View.whole main_v111_2).slice (win0_24.rect t)).set ↔ _
  rw [View.set_slice_whole, Rect.mem_set_unit]
  exact Iff.rfl

theorem covered_iff24 (i : S8x15x512.Idx) :
    (∃ t : Fin cfg0.N, (cfg0.win 24).flush t = true ∧ i ∈ ((cfg0.win 24).blk t).view.set) ↔ 0 ≤ (i 0).val ∧ (i 0).val < 8 ∧ 0 ≤ (i 1).val ∧ (i 1).val < 15 ∧ 0 ≤ (i 2).val ∧ (i 2).val < 512 := by
  constructor
  · rintro ⟨t, -, hi⟩
    rw [mem_blk24] at hi
    have b0 : win0_24.index t (0 : Fin 3) * 1 ≤ (i 0).val ∧ (i 0).val < win0_24.index t (0 : Fin 3) * 1 + 1 := hi 0
    have b1 : win0_24.index t (1 : Fin 3) * 15 ≤ (i 1).val ∧ (i 1).val < win0_24.index t (1 : Fin 3) * 15 + 15 := hi 1
    have b2 : win0_24.index t (2 : Fin 3) * 512 ≤ (i 2).val ∧ (i 2).val < win0_24.index t (2 : Fin 3) * 512 + 512 := hi 2
    obtain ⟨e0, e1, e2, e3⟩ := idx_facts24 t
    omega
  · intro h
    have hi0 : (i 0).val < 8 := (i 0).isLt
    have hi1 : (i 1).val < 15 := (i 1).isLt
    have hi2 : (i 2).val < 512 := (i 2).isLt
    obtain ⟨t, hft, ht⟩ := idx_onto24 ⟨(i 0).val / 1 - 0, by omega⟩ ⟨(i 1).val / 15 - 0, by omega⟩ ⟨(i 2).val / 512 - 0, by omega⟩
    have q0 : win0_24.index t (0 : Fin 3) = (i 0).val / 1 - 0 + 0 := congrFun ht 0
    have q1 : win0_24.index t (1 : Fin 3) = (i 1).val / 15 - 0 + 0 := congrFun ht 1
    have q2 : win0_24.index t (2 : Fin 3) = (i 2).val / 512 - 0 + 0 := congrFun ht 2
    refine ⟨t, hft, ?_⟩
    rw [mem_blk24]
    intro a
    match a with
    | ⟨0, _⟩ => show win0_24.index t (0 : Fin 3) * 1 ≤ (i 0).val ∧ (i 0).val < win0_24.index t (0 : Fin 3) * 1 + 1; omega
    | ⟨1, _⟩ => show win0_24.index t (1 : Fin 3) * 15 ≤ (i 1).val ∧ (i 1).val < win0_24.index t (1 : Fin 3) * 15 + 15; omega
    | ⟨2, _⟩ => show win0_24.index t (2 : Fin 3) * 512 ≤ (i 2).val ∧ (i 2).val < win0_24.index t (2 : Fin 3) * 512 + 512; omega

/-- The pooling rows' array after the run. -/
theorem final24 (c : Dev nD) : (dats m 0 c).arrAt 24 cfg0.N = G24 m c :=
  (dats m 0 c).arrAt_eq_of_cover 24 _ (fun t hf => flushed24_eq m c t hf) (fun i => (covered_iff24 i).2 (by
    have h0 : (i 0).val < 8 := (i 0).isLt; have h1 : (i 1).val < 15 := (i 1).isLt; have h2 : (i 2).val < 512 := (i 2).isLt; omega))

/-- The run: the two arrays, and the arguments unchanged. -/
theorem run_values : θ_run defs (onTc (τ := τ) (main (F := F))) ⟨m, fun _ => 0, ρ⟩ fun r => ∀ c : Dev nD,
      r.2.mem ((c : Thread nD τ).loc main_v111_1) = G23 m c
      ∧ r.2.mem ((c : Thread nD τ).loc main_v111_2) = G24 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post23 m r h c).trans (final23 m c), (post24 m r h c).trans (final24 m c),
      kept_main_arg0 m r h c, kept_main_arg1 m r h c, kept_main_arg2 m r h c, kept_main_arg3 m r h c, kept_main_arg4 m r h c, kept_main_arg5 m r h c, kept_main_arg6 m r h c, kept_main_arg7 m r h c⟩)
    (run_main m ρ)

end Cert.Mixer

end
-- ==== Proof.Mixer.Host.lean ====
/- The tables the kernel's host prepares: the reference's cosines and sines over both halves of the channels, and the
   keys' decays. -/
module

public import proofs.«01_k».proof.Proof.Mixer.Spec
public import proofs.«01_k».proof.Proof.Mixer.Value
public import Idealize.ShloMosaic.Lib.Claim

@[expose] public section

set_option maxRecDepth 16384

noncomputable section

namespace Cert.Mixer

open Cert.KernelIdeal Cert.KernelIdeal.Gen Cert.Rows
open Idealize.ShloMosaic Idealize.ShloMosaic.TcCoe Idealize.ShloMosaic.Tactic

variable (m : (ℓ : Loc nD τ sig) → Buf (Elt Ideal) ℓ)

set_option maxHeartbeats 4000000

theorem V31 (c : Dev nD) (r : Fin 2048) (d : Fin 128) : V m c main_v31 (ix2 r d) = cosP (ix2 r (freq d)) := by
  have h : @Eq (Vec Ideal S2048x128 .f32) (V m c main_v31)
      (concatenate S2048x128 1 [⟨S2048x64, cosP⟩, ⟨S2048x64, cosP⟩] concatenates_S2048x64_S2048x64_S2048x128_d1) := by
    unfold_abbrev_sides
    simp only [hostOps0, hostOps0_1, hostOps0_2, List.flatten_cons, List.flatten_nil, List.append_nil, List.cons_append, List.nil_append]
    after_results_simp <;> rfl
  rw [h]
  by_cases hd : d.val < 64
  · skip
    refine (concatenate_pair_apply_left (t := S2048x128) (s₁ := S2048x64) (s₂ := S2048x64) 1 (cosP) cosP concatenates_S2048x64_S2048x64_S2048x128_d1 (ix2 r d) rfl (ix2 r (freq d)) fun b => ?_)
    match b with
    | ⟨0, _⟩ => rfl
    | ⟨1, _⟩ => exact Nat.mod_eq_of_lt hd
  · skip
    refine concatenate_pair_apply_right (t := S2048x128) (s₁ := S2048x64) (s₂ := S2048x64) 1 (cosP) cosP concatenates_S2048x64_S2048x64_S2048x128_d1 (ix2 r d) rfl rfl (ix2 r (freq d)) (fun b hb => ?_) ?_
    · match b, hb with
      | ⟨0, _⟩, _ => rfl
      | ⟨1, _⟩, hb => exact absurd rfl hb
    · show d.val % 64 + 64 = d.val
      have := d.isLt; omega

theorem V33 (c : Dev nD) (r : Fin 2048) (d : Fin 128) : V m c main_v33 (ix2 r d) = if d.val < 64 then -sinP (ix2 r (freq d)) else sinP (ix2 r (freq d)) := by
  have h : @Eq (Vec Ideal S2048x128 .f32) (V m c main_v33)
      (concatenate S2048x128 1 [⟨S2048x64, Host.negf (F := Ideal) (φ := .f32) sinP⟩, ⟨S2048x64, sinP⟩] concatenates_S2048x64_S2048x64_S2048x128_d1) := by
    unfold_abbrev_sides
    simp only [hostOps0, hostOps0_1, hostOps0_2, List.flatten_cons, List.flatten_nil, List.append_nil, List.cons_append, List.nil_append]
    after_results_simp <;> rfl
  rw [h]
  by_cases hd : d.val < 64
  · rw [if_pos hd]
    refine (concatenate_pair_apply_left (t := S2048x128) (s₁ := S2048x64) (s₂ := S2048x64) 1 (Host.negf (F := Ideal) (φ := .f32) sinP) sinP concatenates_S2048x64_S2048x64_S2048x128_d1 (ix2 r d) rfl (ix2 r (freq d)) fun b => ?_).trans rfl
    match b with
    | ⟨0, _⟩ => rfl
    | ⟨1, _⟩ => exact Nat.mod_eq_of_lt hd
  · rw [if_neg hd]
    refine concatenate_pair_apply_right (t := S2048x128) (s₁ := S2048x64) (s₂ := S2048x64) 1 (Host.negf (F := Ideal) (φ := .f32) sinP) sinP concatenates_S2048x64_S2048x64_S2048x128_d1 (ix2 r d) rfl rfl (ix2 r (freq d)) (fun b hb => ?_) ?_
    · match b, hb with
      | ⟨0, _⟩, _ => rfl
      | ⟨1, _⟩, hb => exact absurd rfl hb
    · show d.val % 64 + 64 = d.val
      have := d.isLt; omega

theorem V53 (c : Dev nD) (r : Fin 16) (d : Fin 128) : V m c main_v53 (ix2 r d) = cosT (ix2 r (freq d)) := by
  have h : @Eq (Vec Ideal S16x128 .f32) (V m c main_v53)
      (concatenate S16x128 1 [⟨S16x64, cosT⟩, ⟨S16x64, cosT⟩] concatenates_S16x64_S16x64_S16x128_d1) := by
    unfold_abbrev_sides
    simp only [hostOps0, hostOps0_1, hostOps0_2, List.flatten_cons, List.flatten_nil, List.append_nil, List.cons_append, List.nil_append]
    after_results_simp <;> rfl
  rw [h]
  by_cases hd : d.val < 64
  · skip
    refine (concatenate_pair_apply_left (t := S16x128) (s₁ := S16x64) (s₂ := S16x64) 1 (cosT) cosT concatenates_S16x64_S16x64_S16x128_d1 (ix2 r d) rfl (ix2 r (freq d)) fun b => ?_)
    match b with
    | ⟨0, _⟩ => rfl
    | ⟨1, _⟩ => exact Nat.mod_eq_of_lt hd
  · skip
    refine concatenate_pair_apply_right (t := S16x128) (s₁ := S16x64) (s₂ := S16x64) 1 (cosT) cosT concatenates_S16x64_S16x64_S16x128_d1 (ix2 r d) rfl rfl (ix2 r (freq d)) (fun b hb => ?_) ?_
    · match b, hb with
      | ⟨0, _⟩, _ => rfl
      | ⟨1, _⟩, hb => exact absurd rfl hb
    · show d.val % 64 + 64 = d.val
      have := d.isLt; omega

theorem V55 (c : Dev nD) (r : Fin 16) (d : Fin 128) : V m c main_v55 (ix2 r d) = if d.val < 64 then -sinT (ix2 r (freq d)) else sinT (ix2 r (freq d)) := by
  have h : @Eq (Vec Ideal S16x128 .f32) (V m c main_v55)
      (concatenate S16x128 1 [⟨S16x64, Host.negf (F := Ideal) (φ := .f32) sinT⟩, ⟨S16x64, sinT⟩] concatenates_S16x64_S16x64_S16x128_d1) := by
    unfold_abbrev_sides
    simp only [hostOps0, hostOps0_1, hostOps0_2, List.flatten_cons, List.flatten_nil, List.append_nil, List.cons_append, List.nil_append]
    after_results_simp <;> rfl
  rw [h]
  by_cases hd : d.val < 64
  · rw [if_pos hd]
    refine (concatenate_pair_apply_left (t := S16x128) (s₁ := S16x64) (s₂ := S16x64) 1 (Host.negf (F := Ideal) (φ := .f32) sinT) sinT concatenates_S16x64_S16x64_S16x128_d1 (ix2 r d) rfl (ix2 r (freq d)) fun b => ?_).trans rfl
    match b with
    | ⟨0, _⟩ => rfl
    | ⟨1, _⟩ => exact Nat.mod_eq_of_lt hd
  · rw [if_neg hd]
    refine concatenate_pair_apply_right (t := S16x128) (s₁ := S16x64) (s₂ := S16x64) 1 (Host.negf (F := Ideal) (φ := .f32) sinT) sinT concatenates_S16x64_S16x64_S16x128_d1 (ix2 r d) rfl rfl (ix2 r (freq d)) (fun b hb => ?_) ?_
    · match b, hb with
      | ⟨0, _⟩, _ => rfl
      | ⟨1, _⟩, hb => exact absurd rfl hb
    · show d.val % 64 + 64 = d.val
      have := d.isLt; omega

theorem V98 (c : Dev nD) (h : Fin 4) (j : Fin 128) (d : Fin 128) : V m c main_v98 (ix3 h j d) = decP h j := by
  have e : @Eq (Vec Ideal S4x128x128 .f32) (V m c main_v98)
      (broadcastInDim S4x128x128 ![0, 1, 2] bcast_S4x128x1_S4x128x128_0_1_2 (Host.exp (F := Ideal) (φ := .f32) (mulf (F := Ideal) (φ := .f32)
        (broadcastInDim S4x128x1 ![0, 1, 2] bcast_S4x1x1_S4x128x1_0_1_2 (broadcastInDim S4x1x1 ![0] bcast_S4_S4x1x1_0
          (Host.log (F := Ideal) (φ := .f32) (fun i => FloatOps.ofBits (F := Ideal) .f32 (lit1 (S4.rowMajor i))))))
        (broadcastInDim S4x128x1 ![0, 1, 2] bcast_S1x128x1_S4x128x1_0_1_2 (broadcastInDim S1x128x1 ![1, 2] bcast_S128x1_S1x128x1_1_2
          (broadcastInDim S128x1 ![0] bcast_S128_S128x1_0 backP)))))) := by
    unfold_abbrev_sides
    simp only [hostOps0, hostOps0_1, hostOps0_2, List.flatten_cons, List.flatten_nil, List.append_nil, List.cons_append, List.nil_append]
    after_results_simp <;> rfl
  rw [e]
  unfold decP
  rw [← lit1_eq]
  pointwise

theorem V110 (c : Dev nD) (h : Fin 4) (j : Fin 16) (d : Fin 128) : V m c main_v110 (ix3 h j d) = decT h j := by
  have e : @Eq (Vec Ideal S4x16x128 .f32) (V m c main_v110)
      (broadcastInDim S4x16x128 ![0, 1, 2] bcast_S4x16x1_S4x16x128_0_1_2 (Host.exp (F := Ideal) (φ := .f32) (mulf (F := Ideal) (φ := .f32)
        (broadcastInDim S4x16x1 ![0, 1, 2] bcast_S4x1x1_S4x16x1_0_1_2 (broadcastInDim S4x1x1 ![0] bcast_S4_S4x1x1_0
          (Host.log (F := Ideal) (φ := .f32) (fun i => FloatOps.ofBits (F := Ideal) .f32 (lit2 (S4.rowMajor i))))))
        (broadcastInDim S4x16x1 ![0, 1, 2] bcast_S1x16x1_S4x16x1_0_1_2 (broadcastInDim S1x16x1 ![1, 2] bcast_S16x1_S1x16x1_1_2
          (broadcastInDim S16x1 ![0] bcast_S16_S16x1_0 backT)))))) := by
    unfold_abbrev_sides
    simp only [hostOps0, hostOps0_1, hostOps0_2, List.flatten_cons, List.flatten_nil, List.append_nil, List.cons_append, List.nil_append]
    after_results_simp <;> rfl
  rw [e]
  unfold decT
  rw [← lit2_eq]
  pointwise

end Cert.Mixer

end
-- ==== Proof.Mixer.Blocks.lean ====
/- The blocks a point is given, as the arrays' own rows: point `t` works on 256 rows of sequence `t / 8`, the two chunks
   `2 * (t % 8)` and the next. -/
module

public import proofs.«01_k».proof.Proof.Mixer.Host

@[expose] public section

set_option maxRecDepth 16384

noncomputable section

namespace Cert.Mixer

open Cert.KernelIdeal Cert.KernelIdeal.Gen Cert.Rows
open Idealize.ShloMosaic Idealize.ShloMosaic.TcCoe

variable (m : (ℓ : Loc nD τ sig) → Buf (Elt Ideal) ℓ)

/-- The projection the kernel is given. -/
abbrev a0 (c : Dev nD) : Vec Ideal S16384x2560 .f32 := m ((c : Thread nD τ).loc main_arg0)
/-- The sampled rows' projection, the meta tokens' last. -/
abbrev a2 (c : Dev nD) : Vec Ideal S528x2560 .f32 := m ((c : Thread nD τ).loc main_arg2)

theorem N64 (t : Fin cfg0.N) : t.val < 64 := by
  have := t.isLt; have h := N_0; simp only [Pipeline.Cfg.N] at *; omega

theorem idx1 : ∀ t : Fin cfg0.N, win0_1.index t (0 : Fin 2) = t.val ∧ win0_1.index t (1 : Fin 2) = 1 := (by decide +kernel : ∀ t : Fin grid0.N, _)
theorem idx2 : ∀ t : Fin cfg0.N, win0_2.index t (0 : Fin 2) = t.val ∧ win0_2.index t (1 : Fin 2) = 2 := (by decide +kernel : ∀ t : Fin grid0.N, _)
theorem idx4 : ∀ t : Fin cfg0.N, win0_4.index t (0 : Fin 2) = t.val ∧ win0_4.index t (1 : Fin 2) = 4 := (by decide +kernel : ∀ t : Fin grid0.N, _)
theorem idx6 : ∀ t : Fin cfg0.N, win0_6.index t (0 : Fin 2) = t.val % 8 ∧ win0_6.index t (1 : Fin 2) = 0 := (by decide +kernel : ∀ t : Fin grid0.N, _)
theorem idx7 : ∀ t : Fin cfg0.N, win0_7.index t (0 : Fin 2) = t.val % 8 ∧ win0_7.index t (1 : Fin 2) = 0 := (by decide +kernel : ∀ t : Fin grid0.N, _)
theorem idx8 : ∀ t : Fin cfg0.N, win0_8.index t (0 : Fin 2) = 32 ∧ win0_8.index t (1 : Fin 2) = 1 := (by decide +kernel : ∀ t : Fin grid0.N, _)
theorem idx9 : ∀ t : Fin cfg0.N, win0_9.index t (0 : Fin 2) = 32 ∧ win0_9.index t (1 : Fin 2) = 2 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 3) = 0 ∧ win0_13.index t (1 : Fin 3) = 0 ∧ win0_13.index t (2 : Fin 3) = 0 := (by decide +kernel : ∀ t : Fin grid0.N, _)
theorem idx16 : ∀ t : Fin cfg0.N, win0_16.index t (0 : Fin 3) = 0 ∧ win0_16.index t (1 : Fin 3) = 0 ∧ win0_16.index t (2 : Fin 3) = 0 := (by decide +kernel : ∀ t : Fin grid0.N, _)

theorem blk1 (c : Dev nD) (t : Fin cfg0.N) (p : Fin 2) (h : Fin 4) :
    chunk (iblk m c 1 t) p h = rowsOf (a0 m c) 512 (t.val / 8) (2 * (t.val % 8) + p.val) h := by
  funext j d
  refine Eq.trans ?_ (congrFun (V_main_arg0 m c) (ix2 (rowAt (t.val / 8) (2 * (t.val % 8) + p.val) j) (colAt 512 h d)))
  show V m c main_arg0 (((cfg0.win 1).blk t).view.emb (ix2 _ _)) = _
  refine congrArg _ (funext fun a => Fin.ext ?_)
  obtain ⟨e0, e1⟩ := idx1 t
  have ht := N64 t; have hp := p.isLt; have hh := h.isLt; have hj := j.isLt; have hd := d.isLt
  match a with
  | ⟨0, _⟩ => show win0_1.index t (0 : Fin 2) * 256 + 1 * (p.val * 128 + j.val) = (t.val / 8 * 2048 + (2 * (t.val % 8) + p.val) * 128 + j.val) % 16384; omega
  | ⟨1, _⟩ => show win0_1.index t (1 : Fin 2) * 512 + 1 * (h.val * 128 + d.val) = (512 + h.val * 128 + d.val) % 2560; omega

theorem blk2 (c : Dev nD) (t : Fin cfg0.N) (p : Fin 2) (h : Fin 4) :
    chunk (iblk m c 2 t) p h = rowsOf (a0 m c) 1024 (t.val / 8) (2 * (t.val % 8) + p.val) h := by
  funext j d
  refine Eq.trans ?_ (congrFun (V_main_arg0 m c) (ix2 (rowAt (t.val / 8) (2 * (t.val % 8) + p.val) j) (colAt 1024 h d)))
  show V m c main_arg0 (((cfg0.win 2).blk t).view.emb (ix2 _ _)) = _
  refine congrArg _ (funext fun a => Fin.ext ?_)
  obtain ⟨e0, e1⟩ := idx2 t
  have ht := N64 t; have hp := p.isLt; have hh := h.isLt; have hj := j.isLt; have hd := d.isLt
  match a with
  | ⟨0, _⟩ => show win0_2.index t (0 : Fin 2) * 256 + 1 * (p.val * 128 + j.val) = (t.val / 8 * 2048 + (2 * (t.val % 8) + p.val) * 128 + j.val) % 16384; omega
  | ⟨1, _⟩ => show win0_2.index t (1 : Fin 2) * 512 + 1 * (h.val * 128 + d.val) = (1024 + h.val * 128 + d.val) % 2560; omega

theorem blk4 (c : Dev nD) (t : Fin cfg0.N) (r : Fin 256) (q : Fin 512) :
    iblk m c 4 t (ix2 r q) = a0 m c (ix2 ⟨t.val * 256 + r.val, by have := N64 t; have := r.isLt; omega⟩ ⟨2048 + q.val, by have := q.isLt; omega⟩) := by
  refine Eq.trans ?_ (congrFun (V_main_arg0 m c) (ix2 ⟨t.val * 256 + r.val, by have := N64 t; have := r.isLt; omega⟩ ⟨2048 + q.val, by have := q.isLt; omega⟩))
  show V m c main_arg0 (((cfg0.win 4).blk t).view.emb (ix2 r q)) = _
  refine congrArg _ (funext fun a => Fin.ext ?_)
  obtain ⟨e0, e1⟩ := idx4 t
  match a with
  | ⟨0, _⟩ => show win0_4.index t (0 : Fin 2) * 256 + 1 * r.val = t.val * 256 + r.val; omega
  | ⟨1, _⟩ => show win0_4.index t (1 : Fin 2) * 512 + 1 * q.val = 2048 + q.val; omega

theorem blk6 (c : Dev nD) (t : Fin cfg0.N) (p : Fin 2) : table (iblk m c 6 t) p = cosC (2 * (t.val % 8) + p.val) := by
  funext j d
  refine Eq.trans ?_ (V31 m c (posAt (2 * (t.val % 8) + p.val) j) d)
  show V m c main_v31 (((cfg0.win 6).blk t).view.emb (ix2 _ d)) = _
  refine congrArg _ (funext fun a => Fin.ext ?_)
  obtain ⟨e0, e1⟩ := idx6 t
  have hp := p.isLt; have hj := j.isLt
  match a with
  | ⟨0, _⟩ => show win0_6.index t (0 : Fin 2) * 256 + 1 * (p.val * 128 + j.val) = ((2 * (t.val % 8) + p.val) * 128 + j.val) % 2048; omega
  | ⟨1, _⟩ => show win0_6.index t (1 : Fin 2) * 128 + 1 * d.val = d.val; omega

theorem blk7 (c : Dev nD) (t : Fin cfg0.N) (p : Fin 2) : table (iblk m c 7 t) p = sinC (2 * (t.val % 8) + p.val) := by
  funext j d
  refine Eq.trans ?_ (V33 m c (posAt (2 * (t.val % 8) + p.val) j) d)
  show V m c main_v33 (((cfg0.win 7).blk t).view.emb (ix2 _ d)) = _
  refine congrArg _ (funext fun a => Fin.ext ?_)
  obtain ⟨e0, e1⟩ := idx7 t
  have hp := p.isLt; have hj := j.isLt
  match a with
  | ⟨0, _⟩ => show win0_7.index t (0 : Fin 2) * 256 + 1 * (p.val * 128 + j.val) = ((2 * (t.val % 8) + p.val) * 128 + j.val) % 2048; omega
  | ⟨1, _⟩ => show win0_7.index t (1 : Fin 2) * 128 + 1 * d.val = d.val; omega

theorem blk8 (c : Dev nD) (t : Fin cfg0.N) (h : Fin 4) : metaHead (iblk m c 8 t) h = metaOf (a2 m c) 512 h := by
  funext j d
  refine Eq.trans ?_ (congrFun (V_main_arg2 m c) (ix2 ⟨512 + j.val, by have := j.isLt; omega⟩ (colAt 512 h d)))
  show V m c main_arg2 (((cfg0.win 8).blk t).view.emb (ix2 j _)) = _
  refine congrArg _ (funext fun a => Fin.ext ?_)
  obtain ⟨e0, e1⟩ := idx8 t
  have hh := h.isLt; have hd := d.isLt
  match a with
  | ⟨0, _⟩ => show win0_8.index t (0 : Fin 2) * 16 + 1 * j.val = 512 + j.val; omega
  | ⟨1, _⟩ => show win0_8.index t (1 : Fin 2) * 512 + 1 * (h.val * 128 + d.val) = (512 + h.val * 128 + d.val) % 2560; omega

theorem blk9 (c : Dev nD) (t : Fin cfg0.N) (h : Fin 4) : metaHead (iblk m c 9 t) h = metaOf (a2 m c) 1024 h := by
  funext j d
  refine Eq.trans ?_ (congrFun (V_main_arg2 m c) (ix2 ⟨512 + j.val, by have := j.isLt; omega⟩ (colAt 1024 h d)))
  show V m c main_arg2 (((cfg0.win 9).blk t).view.emb (ix2 j _)) = _
  refine congrArg _ (funext fun a => Fin.ext ?_)
  obtain ⟨e0, e1⟩ := idx9 t
  have hh := h.isLt; have hd := d.isLt
  match a with
  | ⟨0, _⟩ => show win0_9.index t (0 : Fin 2) * 16 + 1 * j.val = 512 + j.val; omega
  | ⟨1, _⟩ => show win0_9.index t (1 : Fin 2) * 512 + 1 * (h.val * 128 + d.val) = (1024 + h.val * 128 + d.val) % 2560; omega

theorem blk11 (c : Dev nD) (t : Fin cfg0.N) : (fun (j : Fin 16) (d : Fin 128) => iblk m c 11 t (ix2 j d)) = both fun j i => cosT (ix2 j i) := by
  funext j d
  refine Eq.trans ?_ (V53 m c j d)
  show V m c main_v53 (((cfg0.win 11).blk t).view.emb (ix2 j d)) = _
  refine congrArg _ (funext fun a => Fin.ext ?_)
  obtain ⟨e0, e1⟩ := idx11 t
  match a with
  | ⟨0, _⟩ => show win0_11.index t (0 : Fin 2) * 16 + 1 * j.val = j.val; omega
  | ⟨1, _⟩ => show win0_11.index t (1 : Fin 2) * 128 + 1 * d.val = d.val; omega

theorem blk12 (c : Dev nD) (t : Fin cfg0.N) : (fun (j : Fin 16) (d : Fin 128) => iblk m c 12 t (ix2 j d)) = signed fun j i => sinT (ix2 j i) := by
  funext j d
  refine Eq.trans ?_ (V55 m c j d)
  show V m c main_v55 (((cfg0.win 12).blk t).view.emb (ix2 j d)) = _
  refine congrArg _ (funext fun a => Fin.ext ?_)
  obtain ⟨e0, e1⟩ := idx12 t
  match a with
  | ⟨0, _⟩ => show win0_12.index t (0 : Fin 2) * 16 + 1 * j.val = j.val; omega
  | ⟨1, _⟩ => show win0_12.index t (1 : Fin 2) * 128 + 1 * d.val = d.val; omega

theorem blk13 (c : Dev nD) (t : Fin cfg0.N) (h : Fin 4) : (fun (j : Fin 16) (d : Fin 128) => iblk m c 13 t (ix3 h j d)) = fun j _ => decT h j := by
  funext j d
  refine Eq.trans ?_ (V110 m c h j d)
  show V m c main_v110 (((cfg0.win 13).blk t).view.emb (ix3 h j d)) = _
  refine congrArg _ (funext fun a => Fin.ext ?_)
  obtain ⟨e0, e1, e2⟩ := idx13 t
  match a with
  | ⟨0, _⟩ => show win0_13.index t (0 : Fin 3) * 4 + 1 * h.val = h.val; omega
  | ⟨1, _⟩ => show win0_13.index t (1 : Fin 3) * 16 + 1 * j.val = j.val; omega
  | ⟨2, _⟩ => show win0_13.index t (2 : Fin 3) * 128 + 1 * d.val = d.val; omega

theorem blk16 (c : Dev nD) (t : Fin cfg0.N) (h : Fin 4) : (fun (j : Fin 128) (d : Fin 128) => iblk m c 16 t (ix3 h j d)) = fun j _ => decP h j := by
  funext j d
  refine Eq.trans ?_ (V98 m c h j d)
  show V m c main_v98 (((cfg0.win 16).blk t).view.emb (ix3 h j d)) = _
  refine congrArg _ (funext fun a => Fin.ext ?_)
  obtain ⟨e0, e1, e2⟩ := idx16 t
  match a with
  | ⟨0, _⟩ => show win0_16.index t (0 : Fin 3) * 4 + 1 * h.val = h.val; omega
  | ⟨1, _⟩ => show win0_16.index t (1 : Fin 3) * 128 + 1 * j.val = j.val; omega
  | ⟨2, _⟩ => show win0_16.index t (2 : Fin 3) * 128 + 1 * d.val = d.val; omega

theorem blockStep_eq (c : Dev nD) (t : Fin cfg0.N) (S : State) (hS : S = stN (a0 m c) (a2 m c) (t.val / 8) (2 * (t.val % 8))) :
    blockStep (iblk m c 1 t) (iblk m c 2 t) (iblk m c 6 t) (iblk m c 7 t) (iblk m c 16 t) S
      = stN (a0 m c) (a2 m c) (t.val / 8) (2 * (t.val % 8) + 2) := by
  subst hS
  funext h
  unfold blockStep
  rw [blk1 m c t 0 h, blk1 m c t 1 h, blk2 m c t 0 h, blk2 m c t 1 h, blk6 m c t 0, blk6 m c t 1, blk7 m c t 0, blk7 m c t 1, blk16 m c t h]
  rfl

theorem metaState_eq (c : Dev nD) (t : Fin cfg0.N) (b : Nat) :
    metaState (iblk m c 8 t) (iblk m c 9 t) (iblk m c 11 t) (iblk m c 12 t) (iblk m c 13 t) = stN (a0 m c) (a2 m c) b 0 := by
  funext h
  unfold metaState
  rw [blk8 m c t h, blk9 m c t h, blk11 m c t, blk12 m c t, blk13 m c t h]
  rfl

end Cert.Mixer

end
-- ==== Proof.Mixer.BlockA.lean ====
module

public import proofs.«01_k».proof.Proof.Mixer.Outs
public import proofs.«01_k».proof.Proof.Mixer.Step
public import Idealize.ShloMosaic.Lib.Pipeline.ReadBack
public import Idealize.ShloMosaic.Lib.ValueIdx
public import Idealize.ShloMosaic.PureOps.Ideal.Laws

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.ShloMosaic.Rounds

set_option maxHeartbeats 4000000

/-- A row's first point's state: the meta tokens', stepped. -/
theorem sout0_A_0_apply (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : cond0_0 i) (hc1 : ¬cond0_1 i)
    (x0 : Vec Ideal S256x512 .f32) (x1 : Vec Ideal S256x512 .f32) (x2 : Vec Ideal S256x512 .f32) (x3 : Vec Ideal S256x512 .f32) (x4 : Vec Ideal S256x512 .f32) (x5 : Vec Ideal S256x1024 .f32) (x6 : Vec Ideal S256x128 .f32) (x7 : Vec Ideal S256x128 .f32) (x8 : Vec Ideal S16x512 .f32) (x9 : Vec Ideal S16x512 .f32) (x10 : Vec Ideal S16x512 .f32) (x11 : Vec Ideal S16x128 .f32) (x12 : Vec Ideal S16x128 .f32) (x13 : Vec Ideal S4x16x128 .f32) (x14 : Vec Ideal S4x128x128 .f32) (x15 : Vec Ideal S4x128x128 .f32) (x16 : Vec Ideal S4x128x128 .f32) (x17 : Vec Ideal S4x128x128 .bf16) (x18 : Vec Ideal S1x512 .f32) (x19 : Vec Ideal S1024x1024 .bf16) (x20 : Vec Ideal S1x1024 .f32) (x21 : Vec Ideal S1x1024 .f32) (h : Fin 4) (d e : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 (ix3 h d e) = blockStep x1 x2 x6 x7 x16 (metaState x8 x9 x11 x12 x13) h d e := by
  unfold sout0_A_0
  rw [View.read_writes_junk_eq_canon]
  unfold kernelRun0_A
  dsimp only
  sl_unfold_words
  simp (disch := decide) only [View.readCov_skip, View.readCov_cons_toLoadRect, View.readAt_eq_ld, harg3.read_unread, harg4.read_unread, harg8.read_unread, harg9.read_unread, harg10.read_unread, harg11.read_unread, harg13.read_unread, harg14.read_unread, harg15.read_unread, harg18.read_unread]
  match h with
  | 0 =>
    rw [canonSkip 3 0 (by decide)]
    rw [canonSkip 2 0 (by decide)]
    rw [canonSkip 1 0 (by decide)]
    rw [canonHit 0 0 rfl]
    refine (congrFun (rfl : _ = (stepV (gam 0) (View.ld x6 (Rect.unit ![128, 0] ![128, 128] inb_S256x128_S128x128_128_0)) (View.ld x7 (Rect.unit ![128, 0] ![128, 128] inb_S256x128_S128x128_128_0)) (View.ld x1 (Rect.unit ![128, 0] ![128, 128] inb_S256x512_S128x128_128_0)) (View.ld x2 (Rect.unit ![128, 0] ![128, 128] inb_S256x512_S128x128_128_0)) (View.ld x16 (Rect.unit ![0, 0, 0] ![1, 128, 128] inb_S4x128x128_S1x128x128_0_0_0)) (stepV (gam 0) (View.ld x6 (Rect.unit ![0, 0] ![128, 128] inb_S256x128_S128x128_0_0)) (View.ld x7 (Rect.unit ![0, 0] ![128, 128] inb_S256x128_S128x128_0_0)) (View.ld x1 (Rect.unit ![0, 0] ![128, 128] inb_S256x512_S128x128_0_0)) (View.ld x2 (Rect.unit ![0, 0] ![128, 128] inb_S256x512_S128x128_0_0)) (View.ld x16 (Rect.unit ![0, 0, 0] ![1, 128, 128] inb_S4x128x128_S1x128x128_0_0_0)) (metaV (View.ld x11 (Rect.unit ![0, 0] ![16, 128] inb_S16x128_S16x128_0_0)) (View.ld x12 (Rect.unit ![0, 0] ![16, 128] inb_S16x128_S16x128_0_0)) (View.ld x8 (Rect.unit ![0, 0] ![16, 128] inb_S16x512_S16x128_0_0)) (View.ld x9 (Rect.unit ![0, 0] ![16, 128] inb_S16x512_S16x128_0_0)) (View.ld x13 (Rect.unit ![0, 0, 0] ![1, 16, 128] inb_S4x16x128_S1x16x128_0_0_0)))))) _).trans ?_
    rw [stepV_apply]
    simp only [stepV_apply, ldChunk x1 1 0 128 0 rfl rfl, ldChunk x2 1 0 128 0 rfl rfl, ldChunk x1 0 0 0 0 rfl rfl, ldChunk x2 0 0 0 0 rfl rfl, ldTable x6 1 128 rfl, ldTable x7 1 128 rfl, ldTable x6 0 0 rfl, ldTable x7 0 0 rfl, ldHead (n := 128) x16 0 0 rfl, metaV_apply, ldTab16 x11, ldTab16 x12, ldMeta x8 0 0 rfl, ldMeta x9 0 0 rfl, ldHead (n := 16) x13 0 0 rfl]
    rfl
  | 1 =>
    rw [canonSkip 3 1 (by decide)]
    rw [canonSkip 2 1 (by decide)]
    rw [canonHit 1 1 rfl]
    refine (congrFun (rfl : _ = (stepV (gam 1) (View.ld x6 (Rect.unit ![128, 0] ![128, 128] inb_S256x128_S128x128_128_0)) (View.ld x7 (Rect.unit ![128, 0] ![128, 128] inb_S256x128_S128x128_128_0)) (View.ld x1 (Rect.unit ![128, 128] ![128, 128] inb_S256x512_S128x128_128_128)) (View.ld x2 (Rect.unit ![128, 128] ![128, 128] inb_S256x512_S128x128_128_128)) (View.ld x16 (Rect.unit ![1, 0, 0] ![1, 128, 128] inb_S4x128x128_S1x128x128_1_0_0)) (stepV (gam 1) (View.ld x6 (Rect.unit ![0, 0] ![128, 128] inb_S256x128_S128x128_0_0)) (View.ld x7 (Rect.unit ![0, 0] ![128, 128] inb_S256x128_S128x128_0_0)) (View.ld x1 (Rect.unit ![0, 128] ![128, 128] inb_S256x512_S128x128_0_128)) (View.ld x2 (Rect.unit ![0, 128] ![128, 128] inb_S256x512_S128x128_0_128)) (View.ld x16 (Rect.unit ![1, 0, 0] ![1, 128, 128] inb_S4x128x128_S1x128x128_1_0_0)) (metaV (View.ld x11 (Rect.unit ![0, 0] ![16, 128] inb_S16x128_S16x128_0_0)) (View.ld x12 (Rect.unit ![0, 0] ![16, 128] inb_S16x128_S16x128_0_0)) (View.ld x8 (Rect.unit ![0, 128] ![16, 128] inb_S16x512_S16x128_0_128)) (View.ld x9 (Rect.unit ![0, 128] ![16, 128] inb_S16x512_S16x128_0_128)) (View.ld x13 (Rect.unit ![1, 0, 0] ![1, 16, 128] inb_S4x16x128_S1x16x128_1_0_0)))))) _).trans ?_
    rw [stepV_apply]
    simp only [stepV_apply, ldChunk x1 1 1 128 128 rfl rfl, ldChunk x2 1 1 128 128 rfl rfl, ldChunk x1 0 1 0 128 rfl rfl, ldChunk x2 0 1 0 128 rfl rfl, ldTable x6 1 128 rfl, ldTable x7 1 128 rfl, ldTable x6 0 0 rfl, ldTable x7 0 0 rfl, ldHead (n := 128) x16 1 1 rfl, metaV_apply, ldTab16 x11, ldTab16 x12, ldMeta x8 1 128 rfl, ldMeta x9 1 128 rfl, ldHead (n := 16) x13 1 1 rfl]
    rfl
  | 2 =>
    rw [canonSkip 3 2 (by decide)]
    rw [canonHit 2 2 rfl]
    refine (congrFun (rfl : _ = (stepV (gam 2) (View.ld x6 (Rect.unit ![128, 0] ![128, 128] inb_S256x128_S128x128_128_0)) (View.ld x7 (Rect.unit ![128, 0] ![128, 128] inb_S256x128_S128x128_128_0)) (View.ld x1 (Rect.unit ![128, 256] ![128, 128] inb_S256x512_S128x128_128_256)) (View.ld x2 (Rect.unit ![128, 256] ![128, 128] inb_S256x512_S128x128_128_256)) (View.ld x16 (Rect.unit ![2, 0, 0] ![1, 128, 128] inb_S4x128x128_S1x128x128_2_0_0)) (stepV (gam 2) (View.ld x6 (Rect.unit ![0, 0] ![128, 128] inb_S256x128_S128x128_0_0)) (View.ld x7 (Rect.unit ![0, 0] ![128, 128] inb_S256x128_S128x128_0_0)) (View.ld x1 (Rect.unit ![0, 256] ![128, 128] inb_S256x512_S128x128_0_256)) (View.ld x2 (Rect.unit ![0, 256] ![128, 128] inb_S256x512_S128x128_0_256)) (View.ld x16 (Rect.unit ![2, 0, 0] ![1, 128, 128] inb_S4x128x128_S1x128x128_2_0_0)) (metaV (View.ld x11 (Rect.unit ![0, 0] ![16, 128] inb_S16x128_S16x128_0_0)) (View.ld x12 (Rect.unit ![0, 0] ![16, 128] inb_S16x128_S16x128_0_0)) (View.ld x8 (Rect.unit ![0, 256] ![16, 128] inb_S16x512_S16x128_0_256)) (View.ld x9 (Rect.unit ![0, 256] ![16, 128] inb_S16x512_S16x128_0_256)) (View.ld x13 (Rect.unit ![2, 0, 0] ![1, 16, 128] inb_S4x16x128_S1x16x128_2_0_0)))))) _).trans ?_
    rw [stepV_apply]
    simp only [stepV_apply, ldChunk x1 1 2 128 256 rfl rfl, ldChunk x2 1 2 128 256 rfl rfl, ldChunk x1 0 2 0 256 rfl rfl, ldChunk x2 0 2 0 256 rfl rfl, ldTable x6 1 128 rfl, ldTable x7 1 128 rfl, ldTable x6 0 0 rfl, ldTable x7 0 0 rfl, ldHead (n := 128) x16 2 2 rfl, metaV_apply, ldTab16 x11, ldTab16 x12, ldMeta x8 2 256 rfl, ldMeta x9 2 256 rfl, ldHead (n := 16) x13 2 2 rfl]
    rfl
  | 3 =>
    rw [canonHit 3 3 rfl]
    refine (congrFun (rfl : _ = (stepV (gam 3) (View.ld x6 (Rect.unit ![128, 0] ![128, 128] inb_S256x128_S128x128_128_0)) (View.ld x7 (Rect.unit ![128, 0] ![128, 128] inb_S256x128_S128x128_128_0)) (View.ld x1 (Rect.unit ![128, 384] ![128, 128] inb_S256x512_S128x128_128_384)) (View.ld x2 (Rect.unit ![128, 384] ![128, 128] inb_S256x512_S128x128_128_384)) (View.ld x16 (Rect.unit ![3, 0, 0] ![1, 128, 128] inb_S4x128x128_S1x128x128_3_0_0)) (stepV (gam 3) (View.ld x6 (Rect.unit ![0, 0] ![128, 128] inb_S256x128_S128x128_0_0)) (View.ld x7 (Rect.unit ![0, 0] ![128, 128] inb_S256x128_S128x128_0_0)) (View.ld x1 (Rect.unit ![0, 384] ![128, 128] inb_S256x512_S128x128_0_384)) (View.ld x2 (Rect.unit ![0, 384] ![128, 128] inb_S256x512_S128x128_0_384)) (View.ld x16 (Rect.unit ![3, 0, 0] ![1, 128, 128] inb_S4x128x128_S1x128x128_3_0_0)) (metaV (View.ld x11 (Rect.unit ![0, 0] ![16, 128] inb_S16x128_S16x128_0_0)) (View.ld x12 (Rect.unit ![0, 0] ![16, 128] inb_S16x128_S16x128_0_0)) (View.ld x8 (Rect.unit ![0, 384] ![16, 128] inb_S16x512_S16x128_0_384)) (View.ld x9 (Rect.unit ![0, 384] ![16, 128] inb_S16x512_S16x128_0_384)) (View.ld x13 (Rect.unit ![3, 0, 0] ![1, 16, 128] inb_S4x16x128_S1x16x128_3_0_0)))))) _).trans ?_
    rw [stepV_apply]
    simp only [stepV_apply, ldChunk x1 1 3 128 384 rfl rfl, ldChunk x2 1 3 128 384 rfl rfl, ldChunk x1 0 3 0 384 rfl rfl, ldChunk x2 0 3 0 384 rfl rfl, ldTable x6 1 128 rfl, ldTable x7 1 128 rfl, ldTable x6 0 0 rfl, ldTable x7 0 0 rfl, ldHead (n := 128) x16 3 3 rfl, metaV_apply, ldTab16 x11, ldTab16 x12, ldMeta x8 3 384 rfl, ldMeta x9 3 384 rfl, ldHead (n := 16) x13 3 3 rfl]
    rfl

end Cert.Mixer

end
-- ==== Proof.Mixer.BlockB.lean ====
module

public import proofs.«01_k».proof.Proof.Mixer.Outs
public import proofs.«01_k».proof.Proof.Mixer.Step
public import Idealize.ShloMosaic.Lib.Pipeline.ReadBack
public import Idealize.ShloMosaic.Lib.ValueIdx
public import Idealize.ShloMosaic.PureOps.Ideal.Laws

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.ShloMosaic.Rounds

set_option maxHeartbeats 4000000

/-- A middle point's state. -/
theorem sout0_B_0_apply (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : ¬cond0_1 i)
    (x0 : Vec Ideal S256x512 .f32) (x1 : Vec Ideal S256x512 .f32) (x2 : Vec Ideal S256x512 .f32) (x3 : Vec Ideal S256x512 .f32) (x4 : Vec Ideal S256x512 .f32) (x5 : Vec Ideal S256x1024 .f32) (x6 : Vec Ideal S256x128 .f32) (x7 : Vec Ideal S256x128 .f32) (x8 : Vec Ideal S16x512 .f32) (x9 : Vec Ideal S16x512 .f32) (x10 : Vec Ideal S16x512 .f32) (x11 : Vec Ideal S16x128 .f32) (x12 : Vec Ideal S16x128 .f32) (x13 : Vec Ideal S4x16x128 .f32) (x14 : Vec Ideal S4x128x128 .f32) (x15 : Vec Ideal S4x128x128 .f32) (x16 : Vec Ideal S4x128x128 .f32) (x17 : Vec Ideal S4x128x128 .bf16) (x18 : Vec Ideal S1x512 .f32) (x19 : Vec Ideal S1024x1024 .bf16) (x20 : Vec Ideal S1x1024 .f32) (x21 : Vec Ideal S1x1024 .f32) (xs0 : Vec Ideal S4x128x128 .f32) (xs1 : Vec Ideal S272x512 .f32) (h : Fin 4) (d e : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 (ix3 h d e) = blockStep x1 x2 x6 x7 x16 (fun h d e => xs0 (ix3 h d e)) h d e := by
  unfold sout0_B_0
  rw [View.read_writes_junk_eq_canon]
  unfold kernelRun0_B
  dsimp only
  sl_unfold_words
  simp (disch := decide) only [View.readCov_skip, View.readCov_cons_toLoadRect, View.readAt_eq_ld, harg3.read_unread, harg4.read_unread, harg8.read_unread, harg9.read_unread, harg18.read_unread, harg27.read_unread]
  match h with
  | 0 =>
    rw [canonSkip 3 0 (by decide)]
    rw [canonSkip 2 0 (by decide)]
    rw [canonSkip 1 0 (by decide)]
    rw [canonHit 0 0 rfl]
    refine (congrFun (rfl : _ = (stepV (gam 0) (View.ld x6 (Rect.unit ![128, 0] ![128, 128] inb_S256x128_S128x128_128_0)) (View.ld x7 (Rect.unit ![128, 0] ![128, 128] inb_S256x128_S128x128_128_0)) (View.ld x1 (Rect.unit ![128, 0] ![128, 128] inb_S256x512_S128x128_128_0)) (View.ld x2 (Rect.unit ![128, 0] ![128, 128] inb_S256x512_S128x128_128_0)) (View.ld x16 (Rect.unit ![0, 0, 0] ![1, 128, 128] inb_S4x128x128_S1x128x128_0_0_0)) (stepV (gam 0) (View.ld x6 (Rect.unit ![0, 0] ![128, 128] inb_S256x128_S128x128_0_0)) (View.ld x7 (Rect.unit ![0, 0] ![128, 128] inb_S256x128_S128x128_0_0)) (View.ld x1 (Rect.unit ![0, 0] ![128, 128] inb_S256x512_S128x128_0_0)) (View.ld x2 (Rect.unit ![0, 0] ![128, 128] inb_S256x512_S128x128_0_0)) (View.ld x16 (Rect.unit ![0, 0, 0] ![1, 128, 128] inb_S4x128x128_S1x128x128_0_0_0)) (View.ld xs0 (Rect.unit ![0, 0, 0] ![1, 128, 128] inb_S4x128x128_S1x128x128_0_0_0))))) _).trans ?_
    rw [stepV_apply]
    simp only [stepV_apply, ldChunk x1 1 0 128 0 rfl rfl, ldChunk x2 1 0 128 0 rfl rfl, ldChunk x1 0 0 0 0 rfl rfl, ldChunk x2 0 0 0 0 rfl rfl, ldTable x6 1 128 rfl, ldTable x7 1 128 rfl, ldTable x6 0 0 rfl, ldTable x7 0 0 rfl, ldHead (n := 128) x16 0 0 rfl, ldHead (n := 128) xs0 0 0 rfl]
    rfl
  | 1 =>
    rw [canonSkip 3 1 (by decide)]
    rw [canonSkip 2 1 (by decide)]
    rw [canonHit 1 1 rfl]
    refine (congrFun (rfl : _ = (stepV (gam 1) (View.ld x6 (Rect.unit ![128, 0] ![128, 128] inb_S256x128_S128x128_128_0)) (View.ld x7 (Rect.unit ![128, 0] ![128, 128] inb_S256x128_S128x128_128_0)) (View.ld x1 (Rect.unit ![128, 128] ![128, 128] inb_S256x512_S128x128_128_128)) (View.ld x2 (Rect.unit ![128, 128] ![128, 128] inb_S256x512_S128x128_128_128)) (View.ld x16 (Rect.unit ![1, 0, 0] ![1, 128, 128] inb_S4x128x128_S1x128x128_1_0_0)) (stepV (gam 1) (View.ld x6 (Rect.unit ![0, 0] ![128, 128] inb_S256x128_S128x128_0_0)) (View.ld x7 (Rect.unit ![0, 0] ![128, 128] inb_S256x128_S128x128_0_0)) (View.ld x1 (Rect.unit ![0, 128] ![128, 128] inb_S256x512_S128x128_0_128)) (View.ld x2 (Rect.unit ![0, 128] ![128, 128] inb_S256x512_S128x128_0_128)) (View.ld x16 (Rect.unit ![1, 0, 0] ![1, 128, 128] inb_S4x128x128_S1x128x128_1_0_0)) (View.ld xs0 (Rect.unit ![1, 0, 0] ![1, 128, 128] inb_S4x128x128_S1x128x128_1_0_0))))) _).trans ?_
    rw [stepV_apply]
    simp only [stepV_apply, ldChunk x1 1 1 128 128 rfl rfl, ldChunk x2 1 1 128 128 rfl rfl, ldChunk x1 0 1 0 128 rfl rfl, ldChunk x2 0 1 0 128 rfl rfl, ldTable x6 1 128 rfl, ldTable x7 1 128 rfl, ldTable x6 0 0 rfl, ldTable x7 0 0 rfl, ldHead (n := 128) x16 1 1 rfl, ldHead (n := 128) xs0 1 1 rfl]
    rfl
  | 2 =>
    rw [canonSkip 3 2 (by decide)]
    rw [canonHit 2 2 rfl]
    refine (congrFun (rfl : _ = (stepV (gam 2) (View.ld x6 (Rect.unit ![128, 0] ![128, 128] inb_S256x128_S128x128_128_0)) (View.ld x7 (Rect.unit ![128, 0] ![128, 128] inb_S256x128_S128x128_128_0)) (View.ld x1 (Rect.unit ![128, 256] ![128, 128] inb_S256x512_S128x128_128_256)) (View.ld x2 (Rect.unit ![128, 256] ![128, 128] inb_S256x512_S128x128_128_256)) (View.ld x16 (Rect.unit ![2, 0, 0] ![1, 128, 128] inb_S4x128x128_S1x128x128_2_0_0)) (stepV (gam 2) (View.ld x6 (Rect.unit ![0, 0] ![128, 128] inb_S256x128_S128x128_0_0)) (View.ld x7 (Rect.unit ![0, 0] ![128, 128] inb_S256x128_S128x128_0_0)) (View.ld x1 (Rect.unit ![0, 256] ![128, 128] inb_S256x512_S128x128_0_256)) (View.ld x2 (Rect.unit ![0, 256] ![128, 128] inb_S256x512_S128x128_0_256)) (View.ld x16 (Rect.unit ![2, 0, 0] ![1, 128, 128] inb_S4x128x128_S1x128x128_2_0_0)) (View.ld xs0 (Rect.unit ![2, 0, 0] ![1, 128, 128] inb_S4x128x128_S1x128x128_2_0_0))))) _).trans ?_
    rw [stepV_apply]
    simp only [stepV_apply, ldChunk x1 1 2 128 256 rfl rfl, ldChunk x2 1 2 128 256 rfl rfl, ldChunk x1 0 2 0 256 rfl rfl, ldChunk x2 0 2 0 256 rfl rfl, ldTable x6 1 128 rfl, ldTable x7 1 128 rfl, ldTable x6 0 0 rfl, ldTable x7 0 0 rfl, ldHead (n := 128) x16 2 2 rfl, ldHead (n := 128) xs0 2 2 rfl]
    rfl
  | 3 =>
    rw [canonHit 3 3 rfl]
    refine (congrFun (rfl : _ = (stepV (gam 3) (View.ld x6 (Rect.unit ![128, 0] ![128, 128] inb_S256x128_S128x128_128_0)) (View.ld x7 (Rect.unit ![128, 0] ![128, 128] inb_S256x128_S128x128_128_0)) (View.ld x1 (Rect.unit ![128, 384] ![128, 128] inb_S256x512_S128x128_128_384)) (View.ld x2 (Rect.unit ![128, 384] ![128, 128] inb_S256x512_S128x128_128_384)) (View.ld x16 (Rect.unit ![3, 0, 0] ![1, 128, 128] inb_S4x128x128_S1x128x128_3_0_0)) (stepV (gam 3) (View.ld x6 (Rect.unit ![0, 0] ![128, 128] inb_S256x128_S128x128_0_0)) (View.ld x7 (Rect.unit ![0, 0] ![128, 128] inb_S256x128_S128x128_0_0)) (View.ld x1 (Rect.unit ![0, 384] ![128, 128] inb_S256x512_S128x128_0_384)) (View.ld x2 (Rect.unit ![0, 384] ![128, 128] inb_S256x512_S128x128_0_384)) (View.ld x16 (Rect.unit ![3, 0, 0] ![1, 128, 128] inb_S4x128x128_S1x128x128_3_0_0)) (View.ld xs0 (Rect.unit ![3, 0, 0] ![1, 128, 128] inb_S4x128x128_S1x128x128_3_0_0))))) _).trans ?_
    rw [stepV_apply]
    simp only [stepV_apply, ldChunk x1 1 3 128 384 rfl rfl, ldChunk x2 1 3 128 384 rfl rfl, ldChunk x1 0 3 0 384 rfl rfl, ldChunk x2 0 3 0 384 rfl rfl, ldTable x6 1 128 rfl, ldTable x7 1 128 rfl, ldTable x6 0 0 rfl, ldTable x7 0 0 rfl, ldHead (n := 128) x16 3 3 rfl, ldHead (n := 128) xs0 3 3 rfl]
    rfl

end Cert.Mixer

end
-- ==== Proof.Mixer.BlockC.lean ====
module

public import proofs.«01_k».proof.Proof.Mixer.Outs
public import proofs.«01_k».proof.Proof.Mixer.Step
public import Idealize.ShloMosaic.Lib.Pipeline.ReadBack
public import Idealize.ShloMosaic.Lib.ValueIdx
public import Idealize.ShloMosaic.PureOps.Ideal.Laws

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.ShloMosaic.Rounds

set_option maxHeartbeats 4000000

/-- A row's last point's output state. -/
theorem out0_C_23_apply (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec Ideal S256x512 .f32) (x1 : Vec Ideal S256x512 .f32) (x2 : Vec Ideal S256x512 .f32) (x3 : Vec Ideal S256x512 .f32) (x4 : Vec Ideal S256x512 .f32) (x5 : Vec Ideal S256x1024 .f32) (x6 : Vec Ideal S256x128 .f32) (x7 : Vec Ideal S256x128 .f32) (x8 : Vec Ideal S16x512 .f32) (x9 : Vec Ideal S16x512 .f32) (x10 : Vec Ideal S16x512 .f32) (x11 : Vec Ideal S16x128 .f32) (x12 : Vec Ideal S16x128 .f32) (x13 : Vec Ideal S4x16x128 .f32) (x14 : Vec Ideal S4x128x128 .f32) (x15 : Vec Ideal S4x128x128 .f32) (x16 : Vec Ideal S4x128x128 .f32) (x17 : Vec Ideal S4x128x128 .bf16) (x18 : Vec Ideal S1x512 .f32) (x19 : Vec Ideal S1024x1024 .bf16) (x20 : Vec Ideal S1x1024 .f32) (x21 : Vec Ideal S1x1024 .f32) (xs0 : Vec Ideal S4x128x128 .f32) (xs1 : Vec Ideal S272x512 .f32) (h : Fin 4) (d e : Fin 128) :
    out0_C_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 (ix4 0 h d e) = blockStep x1 x2 x6 x7 x16 (fun h d e => xs0 (ix3 h d e)) h d e := by
  unfold out0_C_23
  rw [View.read_writes_junk_eq_canon]
  unfold kernelRun0_C
  dsimp only
  sl_unfold_words
  simp (disch := decide) only [View.readCov_skip, View.readCov_cons_toLoadRect, View.readAt_eq_ld, harg3.read_unread, harg4.read_unread, harg8.read_unread, harg9.read_unread, harg18.read_unread, harg27.read_unread]
  rw [View.canon_unit_zero hz4, pay89, wholeLoad]
  match h with
  | 0 =>
    rw [canonSkip 3 0 (by decide)]
    rw [canonSkip 2 0 (by decide)]
    rw [canonSkip 1 0 (by decide)]
    rw [canonHit 0 0 rfl]
    refine (congrFun (rfl : _ = (stepV (gam 0) (View.ld x6 (Rect.unit ![128, 0] ![128, 128] inb_S256x128_S128x128_128_0)) (View.ld x7 (Rect.unit ![128, 0] ![128, 128] inb_S256x128_S128x128_128_0)) (View.ld x1 (Rect.unit ![128, 0] ![128, 128] inb_S256x512_S128x128_128_0)) (View.ld x2 (Rect.unit ![128, 0] ![128, 128] inb_S256x512_S128x128_128_0)) (View.ld x16 (Rect.unit ![0, 0, 0] ![1, 128, 128] inb_S4x128x128_S1x128x128_0_0_0)) (stepV (gam 0) (View.ld x6 (Rect.unit ![0, 0] ![128, 128] inb_S256x128_S128x128_0_0)) (View.ld x7 (Rect.unit ![0, 0] ![128, 128] inb_S256x128_S128x128_0_0)) (View.ld x1 (Rect.unit ![0, 0] ![128, 128] inb_S256x512_S128x128_0_0)) (View.ld x2 (Rect.unit ![0, 0] ![128, 128] inb_S256x512_S128x128_0_0)) (View.ld x16 (Rect.unit ![0, 0, 0] ![1, 128, 128] inb_S4x128x128_S1x128x128_0_0_0)) (View.ld xs0 (Rect.unit ![0, 0, 0] ![1, 128, 128] inb_S4x128x128_S1x128x128_0_0_0))))) _).trans ?_
    rw [stepV_apply]
    simp only [stepV_apply, ldChunk x1 1 0 128 0 rfl rfl, ldChunk x2 1 0 128 0 rfl rfl, ldChunk x1 0 0 0 0 rfl rfl, ldChunk x2 0 0 0 0 rfl rfl, ldTable x6 1 128 rfl, ldTable x7 1 128 rfl, ldTable x6 0 0 rfl, ldTable x7 0 0 rfl, ldHead (n := 128) x16 0 0 rfl, ldHead (n := 128) xs0 0 0 rfl]
    rfl
  | 1 =>
    rw [canonSkip 3 1 (by decide)]
    rw [canonSkip 2 1 (by decide)]
    rw [canonHit 1 1 rfl]
    refine (congrFun (rfl : _ = (stepV (gam 1) (View.ld x6 (Rect.unit ![128, 0] ![128, 128] inb_S256x128_S128x128_128_0)) (View.ld x7 (Rect.unit ![128, 0] ![128, 128] inb_S256x128_S128x128_128_0)) (View.ld x1 (Rect.unit ![128, 128] ![128, 128] inb_S256x512_S128x128_128_128)) (View.ld x2 (Rect.unit ![128, 128] ![128, 128] inb_S256x512_S128x128_128_128)) (View.ld x16 (Rect.unit ![1, 0, 0] ![1, 128, 128] inb_S4x128x128_S1x128x128_1_0_0)) (stepV (gam 1) (View.ld x6 (Rect.unit ![0, 0] ![128, 128] inb_S256x128_S128x128_0_0)) (View.ld x7 (Rect.unit ![0, 0] ![128, 128] inb_S256x128_S128x128_0_0)) (View.ld x1 (Rect.unit ![0, 128] ![128, 128] inb_S256x512_S128x128_0_128)) (View.ld x2 (Rect.unit ![0, 128] ![128, 128] inb_S256x512_S128x128_0_128)) (View.ld x16 (Rect.unit ![1, 0, 0] ![1, 128, 128] inb_S4x128x128_S1x128x128_1_0_0)) (View.ld xs0 (Rect.unit ![1, 0, 0] ![1, 128, 128] inb_S4x128x128_S1x128x128_1_0_0))))) _).trans ?_
    rw [stepV_apply]
    simp only [stepV_apply, ldChunk x1 1 1 128 128 rfl rfl, ldChunk x2 1 1 128 128 rfl rfl, ldChunk x1 0 1 0 128 rfl rfl, ldChunk x2 0 1 0 128 rfl rfl, ldTable x6 1 128 rfl, ldTable x7 1 128 rfl, ldTable x6 0 0 rfl, ldTable x7 0 0 rfl, ldHead (n := 128) x16 1 1 rfl, ldHead (n := 128) xs0 1 1 rfl]
    rfl
  | 2 =>
    rw [canonSkip 3 2 (by decide)]
    rw [canonHit 2 2 rfl]
    refine (congrFun (rfl : _ = (stepV (gam 2) (View.ld x6 (Rect.unit ![128, 0] ![128, 128] inb_S256x128_S128x128_128_0)) (View.ld x7 (Rect.unit ![128, 0] ![128, 128] inb_S256x128_S128x128_128_0)) (View.ld x1 (Rect.unit ![128, 256] ![128, 128] inb_S256x512_S128x128_128_256)) (View.ld x2 (Rect.unit ![128, 256] ![128, 128] inb_S256x512_S128x128_128_256)) (View.ld x16 (Rect.unit ![2, 0, 0] ![1, 128, 128] inb_S4x128x128_S1x128x128_2_0_0)) (stepV (gam 2) (View.ld x6 (Rect.unit ![0, 0] ![128, 128] inb_S256x128_S128x128_0_0)) (View.ld x7 (Rect.unit ![0, 0] ![128, 128] inb_S256x128_S128x128_0_0)) (View.ld x1 (Rect.unit ![0, 256] ![128, 128] inb_S256x512_S128x128_0_256)) (View.ld x2 (Rect.unit ![0, 256] ![128, 128] inb_S256x512_S128x128_0_256)) (View.ld x16 (Rect.unit ![2, 0, 0] ![1, 128, 128] inb_S4x128x128_S1x128x128_2_0_0)) (View.ld xs0 (Rect.unit ![2, 0, 0] ![1, 128, 128] inb_S4x128x128_S1x128x128_2_0_0))))) _).trans ?_
    rw [stepV_apply]
    simp only [stepV_apply, ldChunk x1 1 2 128 256 rfl rfl, ldChunk x2 1 2 128 256 rfl rfl, ldChunk x1 0 2 0 256 rfl rfl, ldChunk x2 0 2 0 256 rfl rfl, ldTable x6 1 128 rfl, ldTable x7 1 128 rfl, ldTable x6 0 0 rfl, ldTable x7 0 0 rfl, ldHead (n := 128) x16 2 2 rfl, ldHead (n := 128) xs0 2 2 rfl]
    rfl
  | 3 =>
    rw [canonHit 3 3 rfl]
    refine (congrFun (rfl : _ = (stepV (gam 3) (View.ld x6 (Rect.unit ![128, 0] ![128, 128] inb_S256x128_S128x128_128_0)) (View.ld x7 (Rect.unit ![128, 0] ![128, 128] inb_S256x128_S128x128_128_0)) (View.ld x1 (Rect.unit ![128, 384] ![128, 128] inb_S256x512_S128x128_128_384)) (View.ld x2 (Rect.unit ![128, 384] ![128, 128] inb_S256x512_S128x128_128_384)) (View.ld x16 (Rect.unit ![3, 0, 0] ![1, 128, 128] inb_S4x128x128_S1x128x128_3_0_0)) (stepV (gam 3) (View.ld x6 (Rect.unit ![0, 0] ![128, 128] inb_S256x128_S128x128_0_0)) (View.ld x7 (Rect.unit ![0, 0] ![128, 128] inb_S256x128_S128x128_0_0)) (View.ld x1 (Rect.unit ![0, 384] ![128, 128] inb_S256x512_S128x128_0_384)) (View.ld x2 (Rect.unit ![0, 384] ![128, 128] inb_S256x512_S128x128_0_384)) (View.ld x16 (Rect.unit ![3, 0, 0] ![1, 128, 128] inb_S4x128x128_S1x128x128_3_0_0)) (View.ld xs0 (Rect.unit ![3, 0, 0] ![1, 128, 128] inb_S4x128x128_S1x128x128_3_0_0))))) _).trans ?_
    rw [stepV_apply]
    simp only [stepV_apply, ldChunk x1 1 3 128 384 rfl rfl, ldChunk x2 1 3 128 384 rfl rfl, ldChunk x1 0 3 0 384 rfl rfl, ldChunk x2 0 3 0 384 rfl rfl, ldTable x6 1 128 rfl, ldTable x7 1 128 rfl, ldTable x6 0 0 rfl, ldTable x7 0 0 rfl, ldHead (n := 128) x16 3 3 rfl, ldHead (n := 128) xs0 3 3 rfl]
    rfl

/-- A row's last point's output rows of the pool state. -/
theorem out0_C_24_apply (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S4x16x128 .f32) (harg15 : arg15.IsWhole) (arg16 : Memref sig .tc .vmem S4x128x128 .f32) (harg16 : arg16.IsWhole) (arg17 : Memref sig .tc .vmem S4x128x128 .f32) (harg17 : arg17.IsWhole) (arg18 : Memref sig .tc .vmem S4x128x128 .f32) (harg18 : arg18.IsWhole) (arg19 : Memref sig .tc .vmem S4x128x128 .bf16) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x1024 .f32) (harg24 : arg24.IsWhole) (arg25 : Memref sig .tc .vmem S1x4x128x128 .f32) (harg25 : arg25.IsWhole) (arg26 : Memref sig .tc .vmem S1x15x512 .f32) (harg26 : arg26.IsWhole) (arg27 : Memref sig .tc .vmem S4x128x128 .f32) (harg27 : arg27.IsWhole) (arg28 : Memref sig .tc .vmem S272x512 .f32) (harg28 : arg28.IsWhole) (arg29 : Memref sig .tc .vmem S256x1024 .bf16) (harg29 : arg29.IsWhole) (hc0 : ¬cond0_0 i) (hc1 : cond0_1 i)
    (x0 : Vec Ideal S256x512 .f32) (x1 : Vec Ideal S256x512 .f32) (x2 : Vec Ideal S256x512 .f32) (x3 : Vec Ideal S256x512 .f32) (x4 : Vec Ideal S256x512 .f32) (x5 : Vec Ideal S256x1024 .f32) (x6 : Vec Ideal S256x128 .f32) (x7 : Vec Ideal S256x128 .f32) (x8 : Vec Ideal S16x512 .f32) (x9 : Vec Ideal S16x512 .f32) (x10 : Vec Ideal S16x512 .f32) (x11 : Vec Ideal S16x128 .f32) (x12 : Vec Ideal S16x128 .f32) (x13 : Vec Ideal S4x16x128 .f32) (x14 : Vec Ideal S4x128x128 .f32) (x15 : Vec Ideal S4x128x128 .f32) (x16 : Vec Ideal S4x128x128 .f32) (x17 : Vec Ideal S4x128x128 .bf16) (x18 : Vec Ideal S1x512 .f32) (x19 : Vec Ideal S1024x1024 .bf16) (x20 : Vec Ideal S1x1024 .f32) (x21 : Vec Ideal S1x1024 .f32) (xs0 : Vec Ideal S4x128x128 .f32) (xs1 : Vec Ideal S272x512 .f32) (r : Fin 15) (q : Fin 512) :
    out0_C_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 (ix3 0 r q) = x4 (ix2 ⟨241 + r.val, by have := r.isLt; omega⟩ q) := by
  unfold out0_C_24
  rw [View.read_writes_junk_eq_canon]
  unfold kernelRun0_C
  dsimp only
  sl_unfold_words
  simp (disch := decide) only [View.readCov_skip, View.readCov_cons_toLoadRect, View.readAt_eq_ld, harg6.read_unread]
  rw [View.canon_unit_zero hz3, pay90, poolLoad]
  unfold k0_pay81
  rw [View.ld_unit_zero hz2, shapeCast_self]

end Cert.Mixer

end
-- ==== Proof.Mixer.State.lean ====
/- What the run leaves in the kernel's two state arrays: the scratch state follows `stN` from point to point, each
   sequence's last point writes it out, and the pooling buffer is the sequence's last fifteen rows. -/
module

public import proofs.«01_k».proof.Proof.Mixer.Blocks
public import proofs.«01_k».proof.Proof.Mixer.BlockA
public import proofs.«01_k».proof.Proof.Mixer.BlockB
public import proofs.«01_k».proof.Proof.Mixer.BlockC

@[expose] public section

set_option maxRecDepth 16384

noncomputable section

namespace Cert.Mixer

open Cert.KernelIdeal Cert.KernelIdeal.Gen Cert.Rows
open Idealize.ShloMosaic Idealize.ShloMosaic.TcCoe

variable (m : (ℓ : Loc nD τ sig) → Buf (Elt Ideal) ℓ)

theorem outsA (c : Dev nD) (t : Fin cfg0.N) (h0 : t.val % 8 = 0) (h1 : ¬t.val % 8 = 7) (h : Fin 4) (d e : Fin 128) :
    (outsAt0 m c t.val t.isLt).2.2.2.1 (ix3 h d e)
      = blockStep (iblk m c 1 t) (iblk m c 2 t) (iblk m c 6 t) (iblk m c 7 t) (iblk m c 16 t)
        (metaState (iblk m c 8 t) (iblk m c 9 t) (iblk m c 11 t) (iblk m c 12 t) (iblk m c 13 t)) h d e := by
  rw [outsAt0_A m c t h0 h1]
  dsimp only
  rw [sout0_A_0_apply]

theorem outsB (c : Dev nD) (t : Fin cfg0.N) (h0 : ¬t.val % 8 = 0) (h1 : ¬t.val % 8 = 7) (h : Fin 4) (d e : Fin 128) :
    (outsAt0 m c t.val t.isLt).2.2.2.1 (ix3 h d e)
      = blockStep (iblk m c 1 t) (iblk m c 2 t) (iblk m c 6 t) (iblk m c 7 t) (iblk m c 16 t)
        (fun h d e => (outsAt0 m c (t.val - 1) (Nat.lt_of_le_of_lt (Nat.sub_le _ _) t.isLt)).2.2.2.1 (ix3 h d e)) h d e := by
  rw [outsAt0_B m c t h0 h1]
  dsimp only
  rw [sout0_B_0_apply]

theorem outsC (c : Dev nD) (t : Fin cfg0.N) (h0 : ¬t.val % 8 = 0) (h1 : t.val % 8 = 7) (h : Fin 4) (d e : Fin 128) :
    (outsAt0 m c t.val t.isLt).2.1 (ix4 0 h d e)
      = blockStep (iblk m c 1 t) (iblk m c 2 t) (iblk m c 6 t) (iblk m c 7 t) (iblk m c 16 t)
        (fun h d e => (outsAt0 m c (t.val - 1) (Nat.lt_of_le_of_lt (Nat.sub_le _ _) t.isLt)).2.2.2.1 (ix3 h d e)) h d e := by
  rw [outsAt0_C m c t h0 h1]
  dsimp only
  rw [out0_C_23_apply]

theorem outsP (c : Dev nD) (t : Fin cfg0.N) (h0 : ¬t.val % 8 = 0) (h1 : t.val % 8 = 7) (r : Fin 15) (q : Fin 512) :
    (outsAt0 m c t.val t.isLt).2.2.1 (ix3 0 r q) = iblk m c 4 t (ix2 ⟨241 + r.val, by have := r.isLt; omega⟩ q) := by
  rw [outsAt0_C m c t h0 h1]
  dsimp only
  rw [out0_C_24_apply]

/-- The scratch state after point `n` of a sequence that is not its last. -/
theorem state_eq (c : Dev nD) : ∀ (n : Nat) (hn : n < cfg0.N) (_ : ¬n % 8 = 7),
    (fun (h : Fin 4) (d e : Fin 128) => (outsAt0 m c n hn).2.2.2.1 (ix3 h d e)) = stN (a0 m c) (a2 m c) (n / 8) (2 * (n % 8) + 2) := by
  intro n
  induction n with
  | zero =>
    intro hn h1
    funext h d e
    rw [outsA m c ⟨0, hn⟩ rfl h1 h d e, metaState_eq m c ⟨0, hn⟩ 0]
    exact congrFun (congrFun (congrFun (blockStep_eq m c ⟨0, hn⟩ _ rfl) h) d) e
  | succ n ih =>
    intro hn h1
    by_cases h0 : (n + 1) % 8 = 0
    · funext h d e
      rw [outsA m c ⟨n + 1, hn⟩ h0 h1 h d e, metaState_eq m c ⟨n + 1, hn⟩ ((n + 1) / 8)]
      exact congrFun (congrFun (congrFun (blockStep_eq m c ⟨n + 1, hn⟩ _ (by show _ = stN _ _ ((n + 1) / 8) (2 * ((n + 1) % 8)); rw [h0])) h) d) e
    · funext h d e
      have hp := ih (Nat.lt_of_succ_lt hn) (by omega)
      have e1 : n / 8 = (n + 1) / 8 := by omega
      have e2 : 2 * (n % 8) + 2 = 2 * ((n + 1) % 8) := by omega
      rw [e1, e2] at hp
      rw [outsB m c ⟨n + 1, hn⟩ h0 h1 h d e]
      exact congrFun (congrFun (congrFun (blockStep_eq m c ⟨n + 1, hn⟩ _ hp) h) d) e

theorem final_state (c : Dev nD) (b : Fin 8) (h : Fin 4) (d e : Fin 128) :
    G23 m c (ix4 b h d e) = stN (a0 m c) (a2 m c) b.val 16 h d e := by
  have hN : 8 * b.val + 7 < cfg0.N := by
    have h := N_0; have := b.isLt; simp only [Pipeline.Cfg.N] at *; omega
  have hp : pt23Of (ix4 b h d e) = 8 * b.val + 7 := by
    show 8 * (1 * (b.val / 1 - 0) + 1 * (h.val / 4 - 0) + 1 * (d.val / 128 - 0) + 1 * (e.val / 128 - 0)) + 7 = _
    have := h.isLt; have := d.isLt; have := e.isLt; omega
  have hl : loc23Of (ix4 b h d e) = ix4 0 h d e := by
    funext a
    match a with
    | ⟨0, _⟩ => exact Fin.ext (Nat.mod_one _)
    | ⟨1, _⟩ => exact Fin.ext (Nat.mod_eq_of_lt h.isLt)
    | ⟨2, _⟩ => exact Fin.ext (Nat.mod_eq_of_lt d.isLt)
    | ⟨3, _⟩ => exact Fin.ext (Nat.mod_eq_of_lt e.isLt)
  unfold G23
  simp only [hp, hl]
  rw [dif_pos hN, outsC m c ⟨8 * b.val + 7, hN⟩ (by show ¬(8 * b.val + 7) % 8 = 0; omega) (by show (8 * b.val + 7) % 8 = 7; omega) h d e]
  have hs := state_eq m c (8 * b.val + 7 - 1) (Nat.lt_of_le_of_lt (Nat.sub_le _ _) hN) (by omega)
  have q1 : (8 * b.val + 7 - 1) / 8 = (8 * b.val + 7) / 8 := by omega
  have q2 : 2 * ((8 * b.val + 7 - 1) % 8) + 2 = 2 * ((8 * b.val + 7) % 8) := by omega
  rw [q1, q2] at hs
  refine (congrFun (congrFun (congrFun (blockStep_eq m c ⟨8 * b.val + 7, hN⟩ _ hs) h) d) e).trans ?_
  show stN _ _ ((8 * b.val + 7) / 8) (2 * ((8 * b.val + 7) % 8) + 2) h d e = _
  rw [show (8 * b.val + 7) / 8 = b.val by omega, show 2 * ((8 * b.val + 7) % 8) + 2 = 16 by omega]

theorem final_pool (c : Dev nD) (b : Fin 8) (r : Fin 15) (q : Fin 512) :
    G24 m c (ix3 b r q) = a0 m c (ix2 ⟨b.val * 2048 + 2033 + r.val, by have := b.isLt; have := r.isLt; omega⟩ ⟨2048 + q.val, by have := q.isLt; omega⟩) := by
  have hN : 8 * b.val + 7 < cfg0.N := by
    have h := N_0; have := b.isLt; simp only [Pipeline.Cfg.N] at *; omega
  have hp : pt24Of (ix3 b r q) = 8 * b.val + 7 := by
    show 8 * (1 * (b.val / 1 - 0) + 1 * (r.val / 15 - 0) + 1 * (q.val / 512 - 0)) + 7 = _
    have := r.isLt; have := q.isLt; omega
  have hl : loc24Of (ix3 b r q) = ix3 0 r q := by
    funext a
    match a with
    | ⟨0, _⟩ => exact Fin.ext (Nat.mod_one _)
    | ⟨1, _⟩ => exact Fin.ext (Nat.mod_eq_of_lt r.isLt)
    | ⟨2, _⟩ => exact Fin.ext (Nat.mod_eq_of_lt q.isLt)
  unfold G24
  simp only [hp, hl]
  rw [dif_pos hN, outsP m c ⟨8 * b.val + 7, hN⟩ (by show ¬(8 * b.val + 7) % 8 = 0; omega) (by show (8 * b.val + 7) % 8 = 7; omega) r q, blk4]
  refine congrArg _ (funext fun a => ?_)
  match a with
  | ⟨0, _⟩ => exact Fin.ext (show (8 * b.val + 7) * 256 + (241 + r.val) = b.val * 2048 + 2033 + r.val by omega)
  | ⟨1, _⟩ => rfl

end Cert.Mixer

end
-- ==== Proof.Mixer.RefParts.lean ====
/- The reference's rotated, decayed keys and its values, head by head: for the meta tokens and for each chunk of the
   prompt. -/
module

public import proofs.«01_k».proof.Proof.Mixer.Spec

@[expose] public section

set_option maxRecDepth 16384

noncomputable section

namespace Cert.Mixer

open Cert.ReferenceIdeal Cert.ReferenceIdeal.Gen Cert.ReferenceIdeal.Read Cert.Rows
open Idealize.ShloMosaic Idealize.ShloMosaic.TcCoe
open scoped BigOperators

variable (x0 : Vec Ideal S16384x2560 .f32) (x2 : Vec Ideal S528x2560 .f32)

/-! ## Rotation: the two halves written out are `rope` by the doubled tables -/

theorem rope_lo {n : Nat} (k : Blk n) (cs sn : Fin n → Fin 64 → EReal) (j : Fin n) (d : Fin 128) (hd : d.val < 64) :
    rope k (both cs) (signed sn) j d
      = k j ⟨d.val % 64, by have := d.isLt; omega⟩ * cs j (freq d) - k j ⟨64 + d.val % 64, by have := d.isLt; omega⟩ * sn j (freq d) := by
  unfold rope both signed
  rw [if_pos hd, mul_neg, ← sub_eq_add_neg]
  have e1 : (⟨d.val % 64, by have := d.isLt; omega⟩ : Fin 128) = d := Fin.ext (Nat.mod_eq_of_lt hd)
  have e2 : (⟨64 + d.val % 64, by have := d.isLt; omega⟩ : Fin 128) = half d := Fin.ext (show 64 + d.val % 64 = (d.val + 64) % 128 by omega)
  rw [e1, e2]

theorem rope_hi {n : Nat} (k : Blk n) (cs sn : Fin n → Fin 64 → EReal) (j : Fin n) (d : Fin 128) (hd : ¬d.val < 64) :
    rope k (both cs) (signed sn) j d
      = k j ⟨64 + d.val % 64, by have := d.isLt; omega⟩ * cs j (freq d) + k j ⟨d.val % 64, by have := d.isLt; omega⟩ * sn j (freq d) := by
  unfold rope both signed
  rw [if_neg hd]
  have e1 : (⟨64 + d.val % 64, by have := d.isLt; omega⟩ : Fin 128) = d := Fin.ext (show 64 + d.val % 64 = d.val by have := d.isLt; omega)
  have e2 : (⟨d.val % 64, by have := d.isLt; omega⟩ : Fin 128) = half d := Fin.ext (show d.val % 64 = (d.val + 64) % 128 by have := d.isLt; omega)
  rw [e1, e2]

/-! ## The meta tokens -/

theorem metaK (h : Fin 4) (j : Fin 16) (d : Fin 128) : val_main_v24 (F := Ideal) x2 (ix3 h j d) = metaOf x2 512 h j d := by
  rw [val_main_v24_apply, val_main_v23_apply, val_main_v15_apply, val_main_v13_apply]
  refine congrArg x2 (funext fun a => Fin.ext ?_)
  have hh := h.isLt; have hj := j.isLt; have hd := d.isLt
  match a with
  | ⟨0, _⟩ => show 512 + ((j.val * 4 + h.val) * 128 + d.val) / 512 = 512 + j.val; omega
  | ⟨1, _⟩ => show 512 + ((j.val * 4 + h.val) * 128 + d.val) % 512 = (512 + h.val * 128 + d.val) % 2560; omega

theorem metaV_ref (h : Fin 4) (j : Fin 16) (d : Fin 128) : val_main_v73 (F := Ideal) x2 (ix3 h j d) = metaOf x2 1024 h j d := by
  rw [val_main_v73_apply, val_main_v72_apply, val_main_v16_apply, val_main_v13_apply]
  refine congrArg x2 (funext fun a => Fin.ext ?_)
  have hh := h.isLt; have hj := j.isLt; have hd := d.isLt
  match a with
  | ⟨0, _⟩ => show 512 + ((j.val * 4 + h.val) * 128 + d.val) / 512 = 512 + j.val; omega
  | ⟨1, _⟩ => show 1024 + ((j.val * 4 + h.val) * 128 + d.val) % 512 = (1024 + h.val * 128 + d.val) % 2560; omega

theorem metaLo (h : Fin 4) (j : Fin 16) (i : Fin 64) : val_main_v52 (F := Ideal) x2 (ix3 h j i)
    = metaOf x2 512 h j ⟨i.val, by have := i.isLt; omega⟩ * cosT (ix2 j i) - metaOf x2 512 h j ⟨64 + i.val, by have := i.isLt; omega⟩ * sinT (ix2 j i) := by
  have e1 : idx_main_v44 (ix3 h j i) = ix3 h j ⟨i.val, by have := i.isLt; omega⟩ := funext fun a => match a with
    | ⟨0, _⟩ => rfl
    | ⟨1, _⟩ => rfl
    | ⟨2, _⟩ => rfl
  have e2 : idx_main_v45 (ix3 h j i) = ix3 h j ⟨64 + i.val, by have := i.isLt; omega⟩ := funext fun a => match a with
    | ⟨0, _⟩ => rfl
    | ⟨1, _⟩ => rfl
    | ⟨2, _⟩ => rfl
  have e3 : idx_main_v46 (idx_main_v47 (ix3 h j i)) = ix2 j i := funext fun a => match a with
    | ⟨0, _⟩ => rfl
    | ⟨1, _⟩ => rfl
  have e4 : idx_main_v49 (idx_main_v50 (ix3 h j i)) = ix2 j i := funext fun a => match a with
    | ⟨0, _⟩ => rfl
    | ⟨1, _⟩ => rfl
  rw [val_main_v52_apply, val_main_v48_apply, val_main_v51_apply, val_main_v44_apply, val_main_v45_apply, val_main_v47_apply, val_main_v46_apply, val_main_v50_apply, val_main_v49_apply, e1, e2, e3, e4, metaK, metaK]
  rfl

theorem metaHi (h : Fin 4) (j : Fin 16) (i : Fin 64) : val_main_v59 (F := Ideal) x2 (ix3 h j i)
    = metaOf x2 512 h j ⟨64 + i.val, by have := i.isLt; omega⟩ * cosT (ix2 j i) + metaOf x2 512 h j ⟨i.val, by have := i.isLt; omega⟩ * sinT (ix2 j i) := by
  have e1 : idx_main_v44 (ix3 h j i) = ix3 h j ⟨i.val, by have := i.isLt; omega⟩ := funext fun a => match a with
    | ⟨0, _⟩ => rfl
    | ⟨1, _⟩ => rfl
    | ⟨2, _⟩ => rfl
  have e2 : idx_main_v45 (ix3 h j i) = ix3 h j ⟨64 + i.val, by have := i.isLt; omega⟩ := funext fun a => match a with
    | ⟨0, _⟩ => rfl
    | ⟨1, _⟩ => rfl
    | ⟨2, _⟩ => rfl
  have e3 : idx_main_v53 (idx_main_v54 (ix3 h j i)) = ix2 j i := funext fun a => match a with
    | ⟨0, _⟩ => rfl
    | ⟨1, _⟩ => rfl
  have e4 : idx_main_v56 (idx_main_v57 (ix3 h j i)) = ix2 j i := funext fun a => match a with
    | ⟨0, _⟩ => rfl
    | ⟨1, _⟩ => rfl
  rw [val_main_v59_apply, val_main_v55_apply, val_main_v58_apply, val_main_v44_apply, val_main_v45_apply, val_main_v54_apply, val_main_v53_apply, val_main_v57_apply, val_main_v56_apply, e1, e2, e3, e4, metaK, metaK]
  rfl

theorem metaRope (h : Fin 4) (j : Fin 16) (d : Fin 128) : val_main_v60 (F := Ideal) x2 (ix3 h j d)
    = rope (metaOf x2 512 h) (both fun j i => cosT (ix2 j i)) (signed fun j i => sinT (ix2 j i)) j d := by
  unfold val_main_v60
  by_cases hd : d.val < 64
  · rw [rope_lo _ _ _ _ _ hd]
    refine (concatenate_pair_apply_left (t := S4x16x128) (s₁ := S4x16x64) (s₂ := S4x16x64) 2 (val_main_v52 (F := Ideal) x2) (val_main_v59 (F := Ideal) x2)
      concatenates_S4x16x64_S4x16x64_S4x16x128_d2 (ix3 h j d) rfl (ix3 h j (freq d)) fun b => ?_).trans (metaLo x2 h j (freq d))
    match b with
    | ⟨0, _⟩ => rfl
    | ⟨1, _⟩ => rfl
    | ⟨2, _⟩ => exact Nat.mod_eq_of_lt hd
  · rw [rope_hi _ _ _ _ _ hd]
    refine (concatenate_pair_apply_right (t := S4x16x128) (s₁ := S4x16x64) (s₂ := S4x16x64) 2 (val_main_v52 (F := Ideal) x2) (val_main_v59 (F := Ideal) x2)
      concatenates_S4x16x64_S4x16x64_S4x16x128_d2 (ix3 h j d) rfl rfl (ix3 h j (freq d)) (fun b hb => ?_) ?_).trans (metaHi x2 h j (freq d))
    · match b, hb with
      | ⟨0, _⟩, _ => rfl
      | ⟨1, _⟩, _ => rfl
      | ⟨2, _⟩, hb => exact absurd rfl hb
    · show d.val % 64 + 64 = d.val
      have := d.isLt; omega

theorem metaDec (h : Fin 4) (j : Fin 16) (d : Fin 128) : val_main_v70 (F := Ideal) (ix3 h j d) = decT h j := by
  have e1 : idx_main_v61 (idx_main_v65 (idx_main_v69 (idx_main_v70 (ix3 h j d)))) = ix1 h := funext fun a => match a with
    | ⟨0, _⟩ => rfl
  have e2 : idx_main_v64 (idx_main_v66 (idx_main_v69 (idx_main_v70 (ix3 h j d)))) = ix1 j := funext fun a => match a with
    | ⟨0, _⟩ => rfl
  rw [val_main_v70_apply, val_main_v69_apply, val_main_v68_apply, val_main_v67_apply, val_main_v65_apply, val_main_v61_apply, val_main_v66_apply, val_main_v64_apply, e1, e2]
  rfl

/-- The state the meta tokens leave. -/
theorem ref_meta (b : Nat) (h : Fin 4) (d e : Fin 128) : val_main_v74 (F := Ideal) x2 (ix3 h d e) = stN x0 x2 b 0 h d e := by
  rw [val_main_v74_apply]
  show _ = ∑ j : Fin 16, rope (metaOf x2 512 h) (both fun j i => cosT (ix2 j i)) (signed fun j i => sinT (ix2 j i)) j d * decT h j * metaOf x2 1024 h j e
  refine Finset.sum_congr rfl fun j _ => ?_
  have e1 : lidx_main_v74 (ix3 h d e) j = ix3 h j d := funext fun a => match a with
    | ⟨0, _⟩ => rfl
    | ⟨1, _⟩ => rfl
    | ⟨2, _⟩ => rfl
  have e2 : ridx_main_v74 (ix3 h d e) j = ix3 h j e := funext fun a => match a with
    | ⟨0, _⟩ => rfl
    | ⟨1, _⟩ => rfl
    | ⟨2, _⟩ => rfl
  rw [e1, e2, val_main_v71_apply, metaRope, metaDec, metaV_ref]
  rfl

/-! ## The prompt -/

theorem promptK (b : Fin 8) (h : Fin 4) (n : Fin 16) (j d : Fin 128) :
    val_main_v78 (F := Ideal) x0 (ix4 b h (posAt n.val j) d) = rowsOf x0 512 b.val n.val h j d := by
  rw [val_main_v78_apply, val_main_v77_apply, val_main_v9_apply]
  refine congrArg x0 (funext fun a => Fin.ext ?_)
  have hb := b.isLt; have hn := n.isLt; have hh := h.isLt; have hj := j.isLt; have hd := d.isLt
  match a with
  | ⟨0, _⟩ => show (((b.val * 2048 + (n.val * 128 + j.val) % 2048) * 4 + h.val) * 128 + d.val) / 512 = (b.val * 2048 + n.val * 128 + j.val) % 16384; omega
  | ⟨1, _⟩ => show 512 + (((b.val * 2048 + (n.val * 128 + j.val) % 2048) * 4 + h.val) * 128 + d.val) % 512 = (512 + h.val * 128 + d.val) % 2560; omega

theorem promptLo (b : Fin 8) (h : Fin 4) (n : Fin 16) (j : Fin 128) (i : Fin 64) : val_main_v105 (F := Ideal) x0 (ix4 b h (posAt n.val j) i)
    = rowsOf x0 512 b.val n.val h j ⟨i.val, by have := i.isLt; omega⟩ * cosP (ix2 (posAt n.val j) i)
      - rowsOf x0 512 b.val n.val h j ⟨64 + i.val, by have := i.isLt; omega⟩ * sinP (ix2 (posAt n.val j) i) := by
  have e1 : idx_main_v97 (ix4 b h (posAt n.val j) i) = ix4 b h (posAt n.val j) ⟨i.val, by have := i.isLt; omega⟩ := funext fun a => match a with
    | ⟨0, _⟩ => rfl
    | ⟨1, _⟩ => rfl
    | ⟨2, _⟩ => rfl
    | ⟨3, _⟩ => rfl
  have e2 : idx_main_v98 (ix4 b h (posAt n.val j) i) = ix4 b h (posAt n.val j) ⟨64 + i.val, by have := i.isLt; omega⟩ := funext fun a => match a with
    | ⟨0, _⟩ => rfl
    | ⟨1, _⟩ => rfl
    | ⟨2, _⟩ => rfl
    | ⟨3, _⟩ => rfl
  have e3 : idx_main_v99 (idx_main_v100 (ix4 b h (posAt n.val j) i)) = ix2 (posAt n.val j) i := funext fun a => match a with
    | ⟨0, _⟩ => rfl
    | ⟨1, _⟩ => rfl
  have e4 : idx_main_v102 (idx_main_v103 (ix4 b h (posAt n.val j) i)) = ix2 (posAt n.val j) i := funext fun a => match a with
    | ⟨0, _⟩ => rfl
    | ⟨1, _⟩ => rfl
  rw [val_main_v105_apply, val_main_v101_apply, val_main_v104_apply, val_main_v97_apply, val_main_v98_apply, val_main_v100_apply, val_main_v99_apply, val_main_v103_apply, val_main_v102_apply, e1, e2, e3, e4, promptK, promptK]
  rfl

theorem promptHi (b : Fin 8) (h : Fin 4) (n : Fin 16) (j : Fin 128) (i : Fin 64) : val_main_v112 (F := Ideal) x0 (ix4 b h (posAt n.val j) i)
    = rowsOf x0 512 b.val n.val h j ⟨64 + i.val, by have := i.isLt; omega⟩ * cosP (ix2 (posAt n.val j) i)
      + rowsOf x0 512 b.val n.val h j ⟨i.val, by have := i.isLt; omega⟩ * sinP (ix2 (posAt n.val j) i) := by
  have e1 : idx_main_v97 (ix4 b h (posAt n.val j) i) = ix4 b h (posAt n.val j) ⟨i.val, by have := i.isLt; omega⟩ := funext fun a => match a with
    | ⟨0, _⟩ => rfl
    | ⟨1, _⟩ => rfl
    | ⟨2, _⟩ => rfl
    | ⟨3, _⟩ => rfl
  have e2 : idx_main_v98 (ix4 b h (posAt n.val j) i) = ix4 b h (posAt n.val j) ⟨64 + i.val, by have := i.isLt; omega⟩ := funext fun a => match a with
    | ⟨0, _⟩ => rfl
    | ⟨1, _⟩ => rfl
    | ⟨2, _⟩ => rfl
    | ⟨3, _⟩ => rfl
  have e3 : idx_main_v106 (idx_main_v107 (ix4 b h (posAt n.val j) i)) = ix2 (posAt n.val j) i := funext fun a => match a with
    | ⟨0, _⟩ => rfl
    | ⟨1, _⟩ => rfl
  have e4 : idx_main_v109 (idx_main_v110 (ix4 b h (posAt n.val j) i)) = ix2 (posAt n.val j) i := funext fun a => match a with
    | ⟨0, _⟩ => rfl
    | ⟨1, _⟩ => rfl
  rw [val_main_v112_apply, val_main_v108_apply, val_main_v111_apply, val_main_v97_apply, val_main_v98_apply, val_main_v107_apply, val_main_v106_apply, val_main_v110_apply, val_main_v109_apply, e1, e2, e3, e4, promptK, promptK]
  rfl

theorem promptRope (b : Fin 8) (h : Fin 4) (n : Fin 16) (j d : Fin 128) : val_main_v113 (F := Ideal) x0 (ix4 b h (posAt n.val j) d)
    = rope (rowsOf x0 512 b.val n.val h) (cosC n.val) (sinC n.val) j d := by
  unfold val_main_v113 cosC sinC
  by_cases hd : d.val < 64
  · rw [rope_lo _ _ _ _ _ hd]
    refine (concatenate_pair_apply_left (t := S8x4x2048x128) (s₁ := S8x4x2048x64) (s₂ := S8x4x2048x64) 3 (val_main_v105 (F := Ideal) x0) (val_main_v112 (F := Ideal) x0)
      concatenates_S8x4x2048x64_S8x4x2048x64_S8x4x2048x128_d3 (ix4 b h (posAt n.val j) d) rfl (ix4 b h (posAt n.val j) (freq d)) fun b => ?_).trans
      (promptLo x0 b h n j (freq d))
    match b with
    | ⟨0, _⟩ => rfl
    | ⟨1, _⟩ => rfl
    | ⟨2, _⟩ => rfl
    | ⟨3, _⟩ => exact Nat.mod_eq_of_lt hd
  · rw [rope_hi _ _ _ _ _ hd]
    refine (concatenate_pair_apply_right (t := S8x4x2048x128) (s₁ := S8x4x2048x64) (s₂ := S8x4x2048x64) 3 (val_main_v105 (F := Ideal) x0) (val_main_v112 (F := Ideal) x0)
      concatenates_S8x4x2048x64_S8x4x2048x64_S8x4x2048x128_d3 (ix4 b h (posAt n.val j) d) rfl rfl (ix4 b h (posAt n.val j) (freq d)) (fun b hb => ?_) ?_).trans
      (promptHi x0 b h n j (freq d))
    · match b, hb with
      | ⟨0, _⟩, _ => rfl
      | ⟨1, _⟩, _ => rfl
      | ⟨2, _⟩, _ => rfl
      | ⟨3, _⟩, hb => exact absurd rfl hb
    · show d.val % 64 + 64 = d.val
      have := d.isLt; omega

theorem promptDec (b : Fin 8) (h : Fin 4) (n : Fin 16) (j d : Fin 128) : val_main_v128 (F := Ideal) (ix5 b h n j d) = decP h j := by
  have e1 : idx_main_v119 (idx_main_v123 (idx_main_v127 (idx_main_v128 (ix5 b h n j d)))) = ix1 h := funext fun a => match a with
    | ⟨0, _⟩ => rfl
  have e2 : idx_main_v122 (idx_main_v124 (idx_main_v127 (idx_main_v128 (ix5 b h n j d)))) = ix1 j := funext fun a => match a with
    | ⟨0, _⟩ => rfl
  rw [val_main_v128_apply, val_main_v127_apply, val_main_v126_apply, val_main_v125_apply, val_main_v123_apply, val_main_v119_apply, val_main_v124_apply, val_main_v122_apply, e1, e2]
  rfl

theorem split (b : Fin 8) (h : Fin 4) (n : Fin 16) (j d : Fin 128) : idx_main_v114 (ix5 b h n j d) = ix4 b h (posAt n.val j) d := by
  have hb := b.isLt; have hn := n.isLt; have hh := h.isLt; have hj := j.isLt; have hd := d.isLt
  refine funext fun a => Fin.ext ?_
  match a with
  | ⟨0, _⟩ => show ((((b.val * 4 + h.val) * 16 + n.val) * 128 + j.val) * 128 + d.val) / 1048576 = b.val; omega
  | ⟨1, _⟩ => show ((((b.val * 4 + h.val) * 16 + n.val) * 128 + j.val) * 128 + d.val) / 262144 % 4 = h.val; omega
  | ⟨2, _⟩ => show ((((b.val * 4 + h.val) * 16 + n.val) * 128 + j.val) * 128 + d.val) / 128 % 2048 = (n.val * 128 + j.val) % 2048; omega
  | ⟨3, _⟩ => show ((((b.val * 4 + h.val) * 16 + n.val) * 128 + j.val) * 128 + d.val) % 128 = d.val; omega

/-- A chunk's rotated, decayed keys. -/
theorem ref_keys (b : Fin 8) (h : Fin 4) (n : Fin 16) (j d : Fin 128) : val_main_v129 (F := Ideal) x0 (ix5 b h n j d)
    = rope (rowsOf x0 512 b.val n.val h) (cosC n.val) (sinC n.val) j d * decP h j := by
  rw [val_main_v129_apply, val_main_v114_apply, split, promptRope, promptDec]
  rfl

/-- A chunk's values. -/
theorem ref_values (b : Fin 8) (h : Fin 4) (n : Fin 16) (j e : Fin 128) : val_main_v117 (F := Ideal) x0 (ix5 b h n j e)
    = rowsOf x0 1024 b.val n.val h j e := by
  rw [val_main_v117_apply, show idx_main_v117 (ix5 b h n j e) = ix4 b h (posAt n.val j) e from split b h n j e, val_main_v116_apply, val_main_v115_apply, val_main_v10_apply]
  refine congrArg x0 (funext fun a => Fin.ext ?_)
  have hb := b.isLt; have hn := n.isLt; have hh := h.isLt; have hj := j.isLt; have hd := e.isLt
  match a with
  | ⟨0, _⟩ => show (((b.val * 2048 + (n.val * 128 + j.val) % 2048) * 4 + h.val) * 128 + e.val) / 512 = (b.val * 2048 + n.val * 128 + j.val) % 16384; omega
  | ⟨1, _⟩ => show 1024 + (((b.val * 2048 + (n.val * 128 + j.val) % 2048) * 4 + h.val) * 128 + e.val) % 512 = (1024 + h.val * 128 + e.val) % 2560; omega

/-- The pooling buffer. -/
theorem ref_pool (b : Fin 8) (r : Fin 15) (q : Fin 512) : val_main_v323 (F := Ideal) x0 (ix3 b r q)
    = x0 (ix2 ⟨b.val * 2048 + 2033 + r.val, by have := b.isLt; have := r.isLt; omega⟩ ⟨2048 + q.val, by have := q.isLt; omega⟩) := by
  rw [val_main_v323_apply, val_main_v322_apply, val_main_v12_apply]
  refine congrArg x0 (funext fun a => Fin.ext ?_)
  have hb := b.isLt; have hr := r.isLt; have hq := q.isLt
  match a with
  | ⟨0, _⟩ => show ((b.val * 2048 + (2033 + r.val)) * 512 + q.val) / 512 = b.val * 2048 + 2033 + r.val; omega
  | ⟨1, _⟩ => show 2048 + ((b.val * 2048 + (2033 + r.val)) * 512 + q.val) % 512 = 2048 + q.val; omega

end Cert.Mixer

end
-- ==== Proof.Mixer.RefSteps.lean ====
/- The reference's sixteen chunk steps: after each one its state is the specification's. -/
module

public import proofs.«01_k».proof.Proof.Mixer.RefParts

@[expose] public section

set_option maxRecDepth 16384

noncomputable section

namespace Cert.Mixer

open Cert.ReferenceIdeal Cert.ReferenceIdeal.Gen Cert.ReferenceIdeal.Read Cert.Rows
open Idealize.ShloMosaic Idealize.ShloMosaic.TcCoe
open scoped BigOperators

variable (x0 : Vec Ideal S16384x2560 .f32) (x2 : Vec Ideal S528x2560 .f32)

theorem bits_128 : FloatOps.ofBits (F := Ideal) .f32 0x43000000#32 = ((128 : ℝ) : EReal) := by
  show Ideal.ofBits .f32 0x43000000#32 = _
  simp [Ideal.ofBits, Ideal.ieee, -EReal.coe_mul]; norm_num

/-- One step's arithmetic, from its pieces. -/
theorem ref_step (b n : Nat) (h : Fin 4) (d e : Fin 128) (g s : EReal) (k v : Fin 128 → EReal) (hg : g = gam h) (hs : s = stN x0 x2 b n h d e)
    (hk : ∀ j, k j = rope (rowsOf x0 512 b n h) (cosC n) (sinC n) j d * decP h j) (hv : ∀ j, v j = rowsOf x0 1024 b n h j e) :
    g * s + ∑ j : Fin 128, k j * v j = stN x0 x2 b (n + 1) h d e := by
  rw [hg, hs, Finset.sum_congr rfl fun j _ => by rw [hk j, hv j]]
  rfl

/-- The decay over a chunk, wherever the plain program writes it. -/
theorem decay_eq (h : Fin 4) (i : S4.Idx) (hi : (i 0).val = h.val) :
    Ideal.exp (lg i * FloatOps.ofBits (F := Ideal) .f32 0x43000000#32) = gam h := by
  rw [show i = ix1 h from funext fun a => match a with | ⟨0, _⟩ => Fin.ext hi, gam_eq, bits_128]

/-- The coordinates at which the plain program reads row `j`, lane `d` of chunk `n`: those of the flat position with the
    chunk's axis cut out. -/
def cut (b : Fin 8) (h : Fin 4) (n : Nat) (j d : Fin 128) : Fin 5 → Nat
  | 0 => (((b.val * 4 + h.val) * 128 + j.val) * 128 + d.val) / 65536
  | 1 => (((b.val * 4 + h.val) * 128 + j.val) * 128 + d.val) / 16384 % 4
  | 2 => n
  | 3 => (((b.val * 4 + h.val) * 128 + j.val) * 128 + d.val) / 128 % 128
  | 4 => (((b.val * 4 + h.val) * 128 + j.val) * 128 + d.val) % 128

theorem cut_eq (b : Fin 8) (h : Fin 4) (n : Fin 16) (j d : Fin 128) (i : S8x4x16x128x128.Idx)
    (hi : ∀ a : Fin 5, (i a).val = cut b h n.val j d a) : i = ix5 b h n j d := by
  have hb := b.isLt; have hh := h.isLt; have hj := j.isLt; have hd := d.isLt
  refine funext fun a => Fin.ext ((hi a).trans ?_)
  match a with
  | ⟨0, _⟩ => show (((b.val * 4 + h.val) * 128 + j.val) * 128 + d.val) / 65536 = b.val; omega
  | ⟨1, _⟩ => show (((b.val * 4 + h.val) * 128 + j.val) * 128 + d.val) / 16384 % 4 = h.val; omega
  | ⟨2, _⟩ => rfl
  | ⟨3, _⟩ => show (((b.val * 4 + h.val) * 128 + j.val) * 128 + d.val) / 128 % 128 = j.val; omega
  | ⟨4, _⟩ => show (((b.val * 4 + h.val) * 128 + j.val) * 128 + d.val) % 128 = d.val; omega

/-- One step of the plain program, from the places at which it reads the decay, the keys and the values. -/
theorem ref_step_at (b : Fin 8) (n : Fin 16) (h : Fin 4) (d e : Fin 128) (s : EReal) (ig : S4.Idx) (ik iv : Fin 128 → S8x4x16x128x128.Idx)
    (hg : (ig 0).val = h.val) (hs : s = stN x0 x2 b.val n.val h d e)
    (hk : ∀ j (a : Fin 5), (ik j a).val = cut b h n.val j d a) (hv : ∀ j (a : Fin 5), (iv j a).val = cut b h n.val j e a) :
    Ideal.exp (lg ig * FloatOps.ofBits (F := Ideal) .f32 0x43000000#32) * s
      + ∑ j : Fin 128, val_main_v129 (F := Ideal) x0 (ik j) * val_main_v117 (F := Ideal) x0 (iv j) = stN x0 x2 b.val (n.val + 1) h d e :=
  ref_step x0 x2 b.val n.val h d e _ _ _ _ (decay_eq h ig hg) hs
    (fun j => by rw [cut_eq b h n j d (ik j) (hk j)]; exact ref_keys x0 b h n j d)
    (fun j => by rw [cut_eq b h n j e (iv j) (hv j)]; exact ref_values x0 b h n j e)

theorem ref_start (b : Fin 8) (h : Fin 4) (d e : Fin 128) : val_main_v76 (F := Ideal) x2 (ix4 b h d e) = stN x0 x2 b.val 0 h d e := by
  have i : idx_main_v75 (idx_main_v76 (ix4 b h d e)) = ix3 h d e := funext fun a => match a with
    | ⟨0, _⟩ => rfl
    | ⟨1, _⟩ => rfl
    | ⟨2, _⟩ => rfl
  rw [val_main_v76_apply, val_main_v75_apply, i]
  exact ref_meta x0 x2 b.val h d e

theorem ref_step_1 (b : Fin 8) (h : Fin 4) (d e : Fin 128) : val_main_v141 (F := Ideal) x0 x2 (ix4 b h d e) = stN x0 x2 b.val 1 h d e := by
  rw [val_main_v141_apply, val_main_v135_apply, val_main_v134_apply, val_main_v133_apply, val_main_v132_apply, val_main_v131_apply, val_main_v130_apply, val_main_v140_apply]
  simp only [val_main_v139_apply, val_main_v138_apply, val_main_v137_apply, val_main_v136_apply]
  exact ref_step_at x0 x2 b 0 h d e _ _ _ _ rfl (ref_start x0 x2 b h d e) (fun _ a => match a with | 0 => rfl | 1 => rfl | 2 => rfl | 3 => rfl | 4 => rfl)
    (fun _ a => match a with | 0 => rfl | 1 => rfl | 2 => rfl | 3 => rfl | 4 => rfl)

theorem ref_step_2 (b : Fin 8) (h : Fin 4) (d e : Fin 128) : val_main_v153 (F := Ideal) x0 x2 (ix4 b h d e) = stN x0 x2 b.val 2 h d e := by
  rw [val_main_v153_apply, val_main_v147_apply, val_main_v146_apply, val_main_v145_apply, val_main_v144_apply, val_main_v143_apply, val_main_v142_apply, val_main_v152_apply]
  simp only [val_main_v151_apply, val_main_v150_apply, val_main_v149_apply, val_main_v148_apply]
  exact ref_step_at x0 x2 b 1 h d e _ _ _ _ rfl (ref_step_1 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_3 (b : Fin 8) (h : Fin 4) (d e : Fin 128) : val_main_v165 (F := Ideal) x0 x2 (ix4 b h d e) = stN x0 x2 b.val 3 h d e := by
  rw [val_main_v165_apply, val_main_v159_apply, val_main_v158_apply, val_main_v157_apply, val_main_v156_apply, val_main_v155_apply, val_main_v154_apply, val_main_v164_apply]
  simp only [val_main_v163_apply, val_main_v162_apply, val_main_v161_apply, val_main_v160_apply]
  exact ref_step_at x0 x2 b 2 h d e _ _ _ _ rfl (ref_step_2 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_4 (b : Fin 8) (h : Fin 4) (d e : Fin 128) : val_main_v177 (F := Ideal) x0 x2 (ix4 b h d e) = stN x0 x2 b.val 4 h d e := by
  rw [val_main_v177_apply, val_main_v171_apply, val_main_v170_apply, val_main_v169_apply, val_main_v168_apply, val_main_v167_apply, val_main_v166_apply, val_main_v176_apply]
  simp only [val_main_v175_apply, val_main_v174_apply, val_main_v173_apply, val_main_v172_apply]
  exact ref_step_at x0 x2 b 3 h d e _ _ _ _ rfl (ref_step_3 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_5 (b : Fin 8) (h : Fin 4) (d e : Fin 128) : val_main_v189 (F := Ideal) x0 x2 (ix4 b h d e) = stN x0 x2 b.val 5 h d e := by
  rw [val_main_v189_apply, val_main_v183_apply, val_main_v182_apply, val_main_v181_apply, val_main_v180_apply, val_main_v179_apply, val_main_v178_apply, val_main_v188_apply]
  simp only [val_main_v187_apply, val_main_v186_apply, val_main_v185_apply, val_main_v184_apply]
  exact ref_step_at x0 x2 b 4 h d e _ _ _ _ rfl (ref_step_4 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_6 (b : Fin 8) (h : Fin 4) (d e : Fin 128) : val_main_v201 (F := Ideal) x0 x2 (ix4 b h d e) = stN x0 x2 b.val 6 h d e := by
  rw [val_main_v201_apply, val_main_v195_apply, val_main_v194_apply, val_main_v193_apply, val_main_v192_apply, val_main_v191_apply, val_main_v190_apply, val_main_v200_apply]
  simp only [val_main_v199_apply, val_main_v198_apply, val_main_v197_apply, val_main_v196_apply]
  exact ref_step_at x0 x2 b 5 h d e _ _ _ _ rfl (ref_step_5 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_7 (b : Fin 8) (h : Fin 4) (d e : Fin 128) : val_main_v213 (F := Ideal) x0 x2 (ix4 b h d e) = stN x0 x2 b.val 7 h d e := by
  rw [val_main_v213_apply, val_main_v207_apply, val_main_v206_apply, val_main_v205_apply, val_main_v204_apply, val_main_v203_apply, val_main_v202_apply, val_main_v212_apply]
  simp only [val_main_v211_apply, val_main_v210_apply, val_main_v209_apply, val_main_v208_apply]
  exact ref_step_at x0 x2 b 6 h d e _ _ _ _ rfl (ref_step_6 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_8 (b : Fin 8) (h : Fin 4) (d e : Fin 128) : val_main_v225 (F := Ideal) x0 x2 (ix4 b h d e) = stN x0 x2 b.val 8 h d e := by
  rw [val_main_v225_apply, val_main_v219_apply, val_main_v218_apply, val_main_v217_apply, val_main_v216_apply, val_main_v215_apply, val_main_v214_apply, val_main_v224_apply]
  simp only [val_main_v223_apply, val_main_v222_apply, val_main_v221_apply, val_main_v220_apply]
  exact ref_step_at x0 x2 b 7 h d e _ _ _ _ rfl (ref_step_7 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_9 (b : Fin 8) (h : Fin 4) (d e : Fin 128) : val_main_v237 (F := Ideal) x0 x2 (ix4 b h d e) = stN x0 x2 b.val 9 h d e := by
  rw [val_main_v237_apply, val_main_v231_apply, val_main_v230_apply, val_main_v229_apply, val_main_v228_apply, val_main_v227_apply, val_main_v226_apply, val_main_v236_apply]
  simp only [val_main_v235_apply, val_main_v234_apply, val_main_v233_apply, val_main_v232_apply]
  exact ref_step_at x0 x2 b 8 h d e _ _ _ _ rfl (ref_step_8 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_10 (b : Fin 8) (h : Fin 4) (d e : Fin 128) : val_main_v249 (F := Ideal) x0 x2 (ix4 b h d e) = stN x0 x2 b.val 10 h d e := by
  rw [val_main_v249_apply, val_main_v243_apply, val_main_v242_apply, val_main_v241_apply, val_main_v240_apply, val_main_v239_apply, val_main_v238_apply, val_main_v248_apply]
  simp only [val_main_v247_apply, val_main_v246_apply, val_main_v245_apply, val_main_v244_apply]
  exact ref_step_at x0 x2 b 9 h d e _ _ _ _ rfl (ref_step_9 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_11 (b : Fin 8) (h : Fin 4) (d e : Fin 128) : val_main_v261 (F := Ideal) x0 x2 (ix4 b h d e) = stN x0 x2 b.val 11 h d e := by
  rw [val_main_v261_apply, val_main_v255_apply, val_main_v254_apply, val_main_v253_apply, val_main_v252_apply, val_main_v251_apply, val_main_v250_apply, val_main_v260_apply]
  simp only [val_main_v259_apply, val_main_v258_apply, val_main_v257_apply, val_main_v256_apply]
  exact ref_step_at x0 x2 b 10 h d e _ _ _ _ rfl (ref_step_10 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_12 (b : Fin 8) (h : Fin 4) (d e : Fin 128) : val_main_v273 (F := Ideal) x0 x2 (ix4 b h d e) = stN x0 x2 b.val 12 h d e := by
  rw [val_main_v273_apply, val_main_v267_apply, val_main_v266_apply, val_main_v265_apply, val_main_v264_apply, val_main_v263_apply, val_main_v262_apply, val_main_v272_apply]
  simp only [val_main_v271_apply, val_main_v270_apply, val_main_v269_apply, val_main_v268_apply]
  exact ref_step_at x0 x2 b 11 h d e _ _ _ _ rfl (ref_step_11 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_13 (b : Fin 8) (h : Fin 4) (d e : Fin 128) : val_main_v285 (F := Ideal) x0 x2 (ix4 b h d e) = stN x0 x2 b.val 13 h d e := by
  rw [val_main_v285_apply, val_main_v279_apply, val_main_v278_apply, val_main_v277_apply, val_main_v276_apply, val_main_v275_apply, val_main_v274_apply, val_main_v284_apply]
  simp only [val_main_v283_apply, val_main_v282_apply, val_main_v281_apply, val_main_v280_apply]
  exact ref_step_at x0 x2 b 12 h d e _ _ _ _ rfl (ref_step_12 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_14 (b : Fin 8) (h : Fin 4) (d e : Fin 128) : val_main_v297 (F := Ideal) x0 x2 (ix4 b h d e) = stN x0 x2 b.val 14 h d e := by
  rw [val_main_v297_apply, val_main_v291_apply, val_main_v290_apply, val_main_v289_apply, val_main_v288_apply, val_main_v287_apply, val_main_v286_apply, val_main_v296_apply]
  simp only [val_main_v295_apply, val_main_v294_apply, val_main_v293_apply, val_main_v292_apply]
  exact ref_step_at x0 x2 b 13 h d e _ _ _ _ rfl (ref_step_13 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_15 (b : Fin 8) (h : Fin 4) (d e : Fin 128) : val_main_v309 (F := Ideal) x0 x2 (ix4 b h d e) = stN x0 x2 b.val 15 h d e := by
  rw [val_main_v309_apply, val_main_v303_apply, val_main_v302_apply, val_main_v301_apply, val_main_v300_apply, val_main_v299_apply, val_main_v298_apply, val_main_v308_apply]
  simp only [val_main_v307_apply, val_main_v306_apply, val_main_v305_apply, val_main_v304_apply]
  exact ref_step_at x0 x2 b 14 h d e _ _ _ _ rfl (ref_step_14 x0 x2 b h d e) (fun _ a => match a with | 0 => rfl | 1 => rfl | 2 => rfl | 3 => rfl | 4 => rfl)
    (fun _ a => match a with | 0 => rfl | 1 => rfl | 2 => rfl | 3 => rfl | 4 => rfl)

theorem ref_step_16 (b : Fin 8) (h : Fin 4) (d e : Fin 128) : val_main_v321 (F := Ideal) x0 x2 (ix4 b h d e) = stN x0 x2 b.val 16 h d e := by
  rw [val_main_v321_apply, val_main_v315_apply, val_main_v314_apply, val_main_v313_apply, val_main_v312_apply, val_main_v311_apply, val_main_v310_apply, val_main_v320_apply]
  simp only [val_main_v319_apply, val_main_v318_apply, val_main_v317_apply, val_main_v316_apply]
  exact ref_step_at x0 x2 b 15 h d e _ _ _ _ rfl (ref_step_15 x0 x2 b h d e) (fun _ a => match a with | 0 => rfl | 1 => rfl | 2 => rfl | 3 => rfl | 4 => rfl)
    (fun _ a => match a with | 0 => rfl | 1 => rfl | 2 => rfl | 3 => rfl | 4 => rfl)

end Cert.Mixer

end
-- ==== Proof.Mixer.Bits.lean ====
/- The two printed programs of the mixer are one program: at the bit floats the named constants of the
   second are the literals of the first. -/
module

public import proofs.«01_k».proof.Defs
public import proofs.«01_k».proof.Proof.Gen.Kernel
public import proofs.«01_k».proof.Proof.Gen.KernelIdeal

@[expose] public section
set_option maxRecDepth 65536
noncomputable section
set_option maxHeartbeats 4000000

namespace Cert.Mixer
open Idealize.ShloMosaic

/-- At the bit floats a named constant is the literal it stands for. -/
instance litNamed : Named Bits where
  named _ _ {φ} bits := Scalar.ofBits φ bits

attribute [local instance] Cert.Kernel.Gen.facts Cert.KernelIdeal.Gen.facts

theorem body_eq : Cert.Kernel.cc0_prompt_mixer (F := Bits) = Cert.KernelIdeal.cc0_prompt_mixer (F := Bits) := rfl

end Cert.Mixer

namespace Cert.Kernel.Mixer
open Idealize.ShloMosaic Idealize.SL.Sem Facts₀ Facts

attribute [local instance] Cert.Kernel.Gen.facts

def arm (t : Fin grid0.N) (s : (w : Fin 25) → Fin (win0 w).nbuf) : Prog (TpuEff nD τ sig (Elt Bits) Λ₀ .tc) PUnit :=
  cc0_prompt_mixer (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (win0_13.stage (s 13)) (hstage0_13 ((s 13).cast nbuf0_13)) (win0_14.stage (s 14)) (hstage0_14 ((s 14).cast nbuf0_14)) (win0_15.stage (s 15)) (hstage0_15 ((s 15).cast nbuf0_15)) (win0_16.stage (s 16)) (hstage0_16 ((s 16).cast nbuf0_16)) (win0_17.stage (s 17)) (hstage0_17 ((s 17).cast nbuf0_17)) (win0_18.stage (s 18)) (hstage0_18 ((s 18).cast nbuf0_18)) (win0_19.stage (s 19)) (hstage0_19 ((s 19).cast nbuf0_19)) (win0_20.stage (s 20)) (hstage0_20 ((s 20).cast nbuf0_20)) (win0_21.stage (s 21)) (hstage0_21 ((s 21).cast nbuf0_21)) (win0_22.stage (s 22)) (hstage0_22 ((s 22).cast nbuf0_22)) (win0_23.stage (s 23)) (hstage0_23 ((s 23).cast nbuf0_23)) (win0_24.stage (s 24)) (hstage0_24 ((s 24).cast nbuf0_24)) (Memref.whole cc0_scratch0) (Memref.isWhole_whole _) (Memref.whole cc0_scratch1) (Memref.isWhole_whole _) (Memref.whole cc0_scratch2) (Memref.isWhole_whole _)

end Cert.Kernel.Mixer

namespace Cert.KernelIdeal.Mixer
open Cert.Mixer Idealize.ShloMosaic Idealize.SL.Sem Facts₀ Facts

attribute [local instance] Cert.KernelIdeal.Gen.facts

def arm (t : Fin grid0.N) (s : (w : Fin 25) → Fin (win0 w).nbuf) : Prog (TpuEff nD τ sig (Elt Bits) Λ₀ .tc) PUnit :=
  cc0_prompt_mixer (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (win0_13.stage (s 13)) (hstage0_13 ((s 13).cast nbuf0_13)) (win0_14.stage (s 14)) (hstage0_14 ((s 14).cast nbuf0_14)) (win0_15.stage (s 15)) (hstage0_15 ((s 15).cast nbuf0_15)) (win0_16.stage (s 16)) (hstage0_16 ((s 16).cast nbuf0_16)) (win0_17.stage (s 17)) (hstage0_17 ((s 17).cast nbuf0_17)) (win0_18.stage (s 18)) (hstage0_18 ((s 18).cast nbuf0_18)) (win0_19.stage (s 19)) (hstage0_19 ((s 19).cast nbuf0_19)) (win0_20.stage (s 20)) (hstage0_20 ((s 20).cast nbuf0_20)) (win0_21.stage (s 21)) (hstage0_21 ((s 21).cast nbuf0_21)) (win0_22.stage (s 22)) (hstage0_22 ((s 22).cast nbuf0_22)) (win0_23.stage (s 23)) (hstage0_23 ((s 23).cast nbuf0_23)) (win0_24.stage (s 24)) (hstage0_24 ((s 24).cast nbuf0_24)) (Memref.whole cc0_scratch0) (Memref.isWhole_whole _) (Memref.whole cc0_scratch1) (Memref.isWhole_whole _) (Memref.whole cc0_scratch2) (Memref.isWhole_whole _)

end Cert.KernelIdeal.Mixer

namespace Cert.Mixer
open Idealize.ShloMosaic

attribute [local instance] Cert.Kernel.Gen.facts Cert.KernelIdeal.Gen.facts

theorem arm_eq (t : Fin Cert.KernelIdeal.grid0.N) (s : (w : Fin 25) → Fin (Cert.KernelIdeal.win0 w).nbuf) :
    Cert.Kernel.Mixer.arm t s = Cert.KernelIdeal.Mixer.arm t s := by
  unfold Cert.Kernel.Mixer.arm Cert.KernelIdeal.Mixer.arm
  rw [body_eq]
  rfl

theorem armK (t : Fin Cert.Kernel.grid0.N) (s : (w : Fin 25) → Fin (Cert.Kernel.win0 w).nbuf) :
    (Cert.Kernel.defs₀ (F := Bits)) .tc 0 (t, s) = Cert.Kernel.Mixer.arm t s := by
  unfold Cert.Kernel.defs₀ Cert.Kernel.Mixer.arm; rfl

theorem armI (t : Fin Cert.KernelIdeal.grid0.N) (s : (w : Fin 25) → Fin (Cert.KernelIdeal.win0 w).nbuf) :
    (Cert.KernelIdeal.defs₀ (F := Bits)) .tc 0 (t, s) = Cert.KernelIdeal.Mixer.arm t s := by
  unfold Cert.KernelIdeal.defs₀ Cert.KernelIdeal.Mixer.arm; rfl

theorem defs0_eq : Cert.Kernel.defs₀ (F := Bits) = Cert.KernelIdeal.defs₀ (F := Bits) := by
  funext p ℓ a
  match p with
  | .tc =>
    match ℓ, a with
    | 0, (t, s) => exact (armK t s).trans ((arm_eq t s).trans (armI t s).symm)
    | ⟨_ + 1, h⟩, _ => exact absurd h (Nat.not_lt.2 (Nat.le_add_left _ _))
  | .scScalar _ => rfl
  | .scVector _ _ => rfl

end Cert.Mixer
-- ==== Proof.Mixer.SameMain.lean ====
/- The two printed programs of the mixer have the same host program. -/
module

public import proofs.«01_k».proof.Proof.Mixer.Bits

@[expose] public section

set_option maxRecDepth 65536
set_option maxHeartbeats 4000000

noncomputable section

namespace Cert.Mixer

open Idealize.ShloMosaic

attribute [local instance] Cert.Kernel.Gen.facts Cert.KernelIdeal.Gen.facts

theorem main_eq : Cert.Kernel.main (F := Bits) = Cert.KernelIdeal.main (F := Bits) := rfl

end Cert.Mixer

end
-- ==== Proof.Mixer.SameDefs.lean ====
/- The two printed programs of the mixer have the same launched program. -/
module

public import proofs.«01_k».proof.Proof.Mixer.Bits

@[expose] public section

set_option maxRecDepth 65536
set_option maxHeartbeats 4000000

noncomputable section

namespace Cert.Mixer

open Idealize.ShloMosaic

attribute [local instance] Cert.Kernel.Gen.facts Cert.KernelIdeal.Gen.facts

theorem defs_eq : Cert.Kernel.defs (F := Bits) = Cert.KernelIdeal.defs (F := Bits) := by
  unfold Cert.Kernel.defs Cert.KernelIdeal.defs
  rw [defs0_eq]
  rfl

end Cert.Mixer

end
-- ==== Proof.Mixer.Claims.lean ====
/- The claims about the prompt mixer's call: its frames, its idealization and its states and pooling buffers against the
   plain program's. -/
module

public import proofs.«01_k».proof.Defs
public import proofs.«01_k».proof.Proof.Mixer.State
public import proofs.«01_k».proof.Proof.Mixer.RefSteps
public import proofs.«01_k».proof.Proof.Mixer.SameMain
public import proofs.«01_k».proof.Proof.Mixer.SameDefs
public import proofs.«01_k».proof.Proof.Gen.ReferenceIdeal.Run
public import Idealize.ShloMosaic.Lib.Claim

@[expose] public section

set_option maxRecDepth 16384

noncomputable section

namespace Cert.Mixer

open Idealize.ShloMosaic Idealize.SL.Sem Cert.Rows

attribute [local instance] Cert.Kernel.Gen.facts Cert.KernelIdeal.Gen.facts

/-- The mixer's call as written: the same program as the named one, at the bit floats. -/
theorem frame_kernel : Cert.quiescent_Kernel := by
  intro m g _
  rw [defs_eq, main_eq]
  exact frame (F := Bits) m g

theorem frame_kernelIdeal : Cert.quiescent_KernelIdeal := fun m g _ => frame (F := Ideal) m g

/-- The plain program leaves its arguments and has no semaphore. -/
theorem frame_ref : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Each named constant is its literal, rounded. -/
theorem named : Cert.preserves_Kernel_KernelIdeal :=
  ⟨IdealRules.named_const.statement _ "gamma_0_c" .f32 0x3C8CC36A#32 _ rfl, IdealRules.named_const.statement _ "gamma_1_c" .f32 0x3E08698E#32 _ rfl,
    IdealRules.named_const.statement _ "gamma_2_c" .f32 0x3EBB9DB9#32 _ rfl, IdealRules.named_const.statement _ "gamma_3_c" .f32 0x3F1B1EB1#32 _ rfl⟩

open Cert.ReferenceIdeal in
theorem ref_states (a : Vec Ideal S16384x2560 .f32) (c : Vec Ideal S528x2560 .f32) (m : (ℓ : Loc Cert.KernelIdeal.nD Cert.KernelIdeal.τ Cert.KernelIdeal.sig) → Buf (Elt Ideal) ℓ)
    (k : Dev Cert.KernelIdeal.nD) (ha : a = a0 m k) (hc : c = a2 m k) : Read.val_main_v321 (F := Ideal) a c = G23 m k := by
  subst ha hc
  funext y
  obtain ⟨b, h, d, e, rfl⟩ : ∃ (b : Fin 8) (h : Fin 4) (d e : Fin 128), y = ix4 b h d e := ⟨y 0, y 1, y 2, y 3, ValueIdx.eq_ix4 y⟩
  exact (ref_step_16 _ _ b h d e).trans (final_state m k b h d e).symm

open Cert.ReferenceIdeal in
theorem ref_buffer (a : Vec Ideal S16384x2560 .f32) (m : (ℓ : Loc Cert.KernelIdeal.nD Cert.KernelIdeal.τ Cert.KernelIdeal.sig) → Buf (Elt Ideal) ℓ)
    (k : Dev Cert.KernelIdeal.nD) (ha : a = a0 m k) : Read.val_main_v323 (F := Ideal) a = G24 m k := by
  subst ha
  funext y
  obtain ⟨b, r, q, rfl⟩ : ∃ (b : Fin 8) (r : Fin 15) (q : Fin 512), y = ix3 b r q := ⟨y 0, y 1, y 2, ValueIdx.eq_ix3 y⟩
  exact (ref_pool _ b r q).trans (final_pool m k b r q).symm

/-- The prompts' states and pooling buffers. -/
theorem states : Cert.algebraic_KernelIdeal_ReferenceIdeal := by
  intro m g m' g' _ hag
  refine ⟨fun c => G23 m c, fun c => G24 m c, run_values (F := Ideal) m g, ?_⟩
  refine (θ_run Cert.ReferenceIdeal.defs _ _).mono (fun r h c => ⟨(h c).1.trans ?_, (h c).2.1.trans ?_, (h c).2.2⟩)
    (Cert.ReferenceIdeal.Value.run (F := Ideal) m' g')
  · exact (Cert.ReferenceIdeal.Read.val_main_v321_eq _).trans (ref_states _ _ m c (hag c).1 (hag c).2.2.1)
  · exact (Cert.ReferenceIdeal.Read.val_main_v323_eq _).trans (ref_buffer _ m c (hag c).1)

end Cert.Mixer

end
-- ==== Proof.Decode.Step.lean ====
/- What one point of the decoding mixer stores into a sequence's retention state and pooling buffer, as functions of the
   point's blocks. -/
module

public import proofs.«01_k».proof.Proof.Gen.Kernel5Ideal.Frame
public import proofs.«01_k».proof.Proof.Rows
public import Idealize.ShloMosaic.Lib.Pipeline.ReadBack
public import Idealize.ShloMosaic.Lib.ValueIdx
public import Idealize.ShloMosaic.PureOps.Ideal.Laws

@[expose] public section

set_option maxRecDepth 16384

noncomputable section

namespace Cert.Decode

open Cert.Kernel5Ideal Cert.Kernel5Ideal.Gen
open Idealize.ShloMosaic Idealize.ShloMosaic.TcCoe Idealize.ShloMosaic.Tactic
open scoped BigOperators

set_option maxHeartbeats 2000000

/-- The decay of a head over a sampled sequence's four tokens. -/
def gam : Nat → Ideal .f32
  | 0 => Named.named κ "gamma_0_d" 0x3F617810#32
  | 1 => Named.named κ "gamma_1_d" 0x3F705F01#32
  | 2 => Named.named κ "gamma_2_d" 0x3F7817E0#32
  | _ => Named.named κ "gamma_3_d" 0x3F7C05FC#32

/-- The channel half a head away. -/
def half (d : Fin 128) : Fin 128 := ⟨(d.val + 64) % 128, Nat.mod_lt _ (by decide)⟩

/-- The state the kernel stores for one sequence and head: the decayed state plus the outer product of the group's keys
    with the values of the sequence's rows. -/
def decV (g : Ideal .f32) (j : BitVec 32) (o : Nat) (ho : S64x128.Slices ![o, 0] S16x128) (cs sn k v : Vec Ideal S64x128 .f32)
    (kd : Vec Ideal S1x64x128 .f32) (s : Vec Ideal S1x1x128x128 .f32) : Vec Ideal S1x1x128x128 .f32 :=
  shapeCast S1x1x128x128 (addf (mulf (broadcast S128x128 g) (shapeCast S128x128 s shapeCasts_S1x1x128x128_S128x128))
    (matmul dot_S16x128_S16x128_S128x128_0_0_1_1_n_n none
      (truncf .bf16 (extractStridedSlice S16x128 ![o, 0] (mulf (addf (mulf k (shapeCast S64x128 cs shapeCasts_S64x128_S64x128))
          (mulf (dynamicRotate 1 64#32 none k rotates_S64x128_d1) (shapeCast S64x128 sn shapeCasts_S64x128_S64x128)))
        (shapeCast S64x128 kd shapeCasts_S1x64x128_S64x128)) ho) bitsLt_bf16_f32)
      (truncf .bf16 (select (cmpi .eq k0_pay4 (broadcast S16x128 j)) (extractStridedSlice S16x128 ![o, 0] v ho)
        (broadcast S16x128 (Scalar.ofBits .f32 0x00000000#32))) bitsLt_bf16_f32) (constant S128x128 .f32 0x00000000#32)))
    shapeCasts_S128x128_S1x1x128x128

/-- Which of its group's four sequences a row belongs to. -/
theorem rowSeq (r : Fin 16) (d : Fin 128) : k0_pay4 (ix2 r d) = BitVec.ofNat 32 (r.val / 4) := by
  pointwise [k0_pay4]
  revert r
  decide

theorem eqSeq : ∀ (r : Fin 16) (n : Fin 4),
    IntOp.cmpi .eq (BitVec.ofNat 32 (r.val / 4)) (BitVec.ofNat 32 n.val) = if r.val / 4 = n.val then 1#1 else 0#1 := by decide

theorem decV_apply (g : Ideal .f32) (n : Fin 4) (o : Nat) (ho : S64x128.Slices ![o, 0] S16x128) (ho' : o + 16 ≤ 64) (cs sn k v : Vec Ideal S64x128 .f32)
    (kd : Vec Ideal S1x64x128 .f32) (s : Vec Ideal S1x1x128x128 .f32) (d e : Fin 128) :
    decV g (BitVec.ofNat 32 n.val) o ho cs sn k v kd s (ix4 0 0 d e)
      = g * s (ix4 0 0 d e) + ∑ r : Fin 16, (k (ix2 ⟨o + r.val, by omega⟩ d) * cs (ix2 ⟨o + r.val, by omega⟩ d)
          + k (ix2 ⟨o + r.val, by omega⟩ (half d)) * sn (ix2 ⟨o + r.val, by omega⟩ d)) * kd (ix3 0 ⟨o + r.val, by omega⟩ d)
          * (if r.val / 4 = n.val then v (ix2 ⟨o + r.val, by omega⟩ e) else 0) := by
  unfold decV half
  pointwise
  refine congrArg (g * s (ix4 0 0 d e) + ·) (Finset.sum_congr rfl fun r _ => ?_)
  rw [rowSeq, eqSeq]
  by_cases h : r.val / 4 = n.val
  · rw [if_pos h, if_pos h]
    rfl
  · rw [if_neg h, if_neg h, mul_zero]
    rfl

/-- Only the sequence's own rows count. -/
theorem collapse (f v : Fin 16 → EReal) (n : Fin 4) :
    ∑ r : Fin 16, f r * (if r.val / 4 = n.val then v r else 0)
      = ∑ i : Fin 4, f ⟨4 * n.val + i.val, by omega⟩ * v ⟨4 * n.val + i.val, by omega⟩ := by
  fin_cases n <;> simp [Fin.sum_univ_succ] <;> rfl

theorem decV_own (g : Ideal .f32) (n : Fin 4) (o : Nat) (ho : S64x128.Slices ![o, 0] S16x128) (ho' : o + 16 ≤ 64) (cs sn k v : Vec Ideal S64x128 .f32)
    (kd : Vec Ideal S1x64x128 .f32) (s : Vec Ideal S1x1x128x128 .f32) (d e : Fin 128) :
    decV g (BitVec.ofNat 32 n.val) o ho cs sn k v kd s (ix4 0 0 d e)
      = g * s (ix4 0 0 d e) + ∑ i : Fin 4, (k (ix2 ⟨o + (4 * n.val + i.val), by omega⟩ d) * cs (ix2 ⟨o + (4 * n.val + i.val), by omega⟩ d)
          + k (ix2 ⟨o + (4 * n.val + i.val), by omega⟩ (half d)) * sn (ix2 ⟨o + (4 * n.val + i.val), by omega⟩ d))
          * kd (ix3 0 ⟨o + (4 * n.val + i.val), by omega⟩ d) * v (ix2 ⟨o + (4 * n.val + i.val), by omega⟩ e) :=
  (decV_apply g n o ho ho' cs sn k v kd s d e).trans (congrArg (g * s (ix4 0 0 d e) + ·)
    (collapse (fun r => (k (ix2 ⟨o + r.val, by omega⟩ d) * cs (ix2 ⟨o + r.val, by omega⟩ d)
          + k (ix2 ⟨o + r.val, by omega⟩ (half d)) * sn (ix2 ⟨o + r.val, by omega⟩ d)) * kd (ix3 0 ⟨o + r.val, by omega⟩ d))
      (fun r => v (ix2 ⟨o + r.val, by omega⟩ e)) n))

theorem cast4 (w : Vec Ideal S4x512 .f32) (i : Fin 4) (q : Fin 512) :
    shapeCast S1x4x512 w shapeCasts_S4x512_S1x4x512 (ix3 0 i q) = w (ix2 i q) := by
  pointwise

theorem cast15 (w : Vec Ideal S1x15x512 .f32) (r : Fin 15) (q : Fin 512) :
    shapeCast S1x15x512 (shapeCast S15x512 w shapeCasts_S1x15x512_S15x512) shapeCasts_S15x512_S1x15x512 (ix3 0 r q) = w (ix3 0 r q) := by
  pointwise

end Cert.Decode

end
-- ==== Proof.Decode.Decay.lean ====
/- A head's decay: the reference computes its logarithm from the head's number, the kernel tabulates it and names
   its fourth power. They are the same extended reals. -/
module

public import proofs.«01_k».proof.Proof.Decode.Step
public import proofs.«01_k».proof.Proof.Gen.Reference5Ideal.Read

@[expose] public section

set_option maxRecDepth 16384

noncomputable section

namespace Cert.Decode

open Cert.Kernel5Ideal Cert.Kernel5Ideal.Gen Cert.Rows
open Idealize.ShloMosaic Idealize.ShloMosaic.TcCoe Idealize.ShloMosaic.Tactic

/-- The logarithm of a head's decay, as the reference computes it. -/
def lg : Vec Ideal S4 .f32 := Cert.Reference5Ideal.Read.val_main_v7 (F := Ideal)

/-- A head's decay. -/
def dec (h : Fin 4) : ℝ := (2 ^ (5 + h.val) - 1) / 2 ^ (5 + h.val)

theorem dec_pos (h : Fin 4) : 0 < dec h := by
  fin_cases h <;> norm_num [dec]

theorem one_sub_rpow (h : Fin 4) : 1 - Real.rpow 2 (-5 - (h.val : ℝ)) = dec h := by
  have e : Real.rpow 2 (-5 - (h.val : ℝ)) = ((2 : ℝ) ^ (5 + h.val))⁻¹ := by
    have : (-5 - (h.val : ℝ)) = -(((5 + h.val : ℕ)) : ℝ) := by push_cast; ring
    rw [this]
    exact (Real.rpow_neg (by norm_num) _).trans (congrArg _ (Real.rpow_natCast 2 (5 + h.val)))
  rw [e, dec, sub_div, div_self (by positivity), one_div]

theorem lg_coe (h : Fin 4) : lg (ix1 h) = ((Real.log (dec h) : ℝ) : EReal) := by
  have two : Ideal.ofBits .f32 0x40000000#32 = ((2 : ℝ) : EReal) := by
    simp [Ideal.ofBits, Ideal.ieee, -EReal.coe_mul]; norm_num
  have five : Ideal.ofBits .f32 0xC0A00000#32 = ((-5 : ℝ) : EReal) := by
    simp [Ideal.ofBits, Ideal.ieee, -EReal.coe_mul]; norm_num
  unfold lg
  rw [Cert.Reference5Ideal.Read.val_main_v7_apply, Cert.Reference5Ideal.Read.val_main_v6_apply, Cert.Reference5Ideal.Read.val_main_v5_apply,
    Cert.Reference5Ideal.Read.val_main_v4_apply, Cert.Reference5Ideal.Read.val_main_v3_apply, Cert.Reference5Ideal.Read.val_main_v2_apply,
    Cert.Reference5Ideal.Read.val_main_v1_apply, Cert.Reference5Ideal.Read.val_main_cst_1_apply, Cert.Reference5Ideal.Read.val_main_cst_0_apply, Cert.Reference5Ideal.Read.val_main_cst_apply]
  have i0 : Cert.Reference5Ideal.Read.val_main_v0 (F := Ideal) (ix1 h) = ((h.val : ℝ) : EReal) := by
    unfold Cert.Reference5Ideal.Read.val_main_v0
    fin_cases h <;> simp [sitofp, iotaInDim]
    · show (((0#32 : BitVec 32).toInt : ℝ) : EReal) = 0
      simp
    · show (((1#32 : BitVec 32).toInt : ℝ) : EReal) = 1
      simp
    · show (((2#32 : BitVec 32).toInt : ℝ) : EReal) = ((2 : ℝ) : EReal)
      simp
    · show (((3#32 : BitVec 32).toInt : ℝ) : EReal) = ((3 : ℝ) : EReal)
      simp
  rw [i0]
  show Ideal.log (Ideal.ofBits .f32 0x3F800000#32 - Ideal.pow (Ideal.ofBits .f32 0x40000000#32) (Ideal.ofBits .f32 0xC0A00000#32 - ((h.val : ℝ) : EReal))) = _
  rw [Ideal.ofBits_one_f32, two, five, ← EReal.coe_sub, Ideal.pow_coe_coe, ← EReal.coe_one, ← EReal.coe_sub, one_sub_rpow, Ideal.log_coe, if_neg (not_le.2 (dec_pos h))]

theorem lit0_eq (h : Fin 4) : Ideal.log (Ideal.ofBits .f32 (lit0 (S4.rowMajor (ix1 h)))) = lg (ix1 h) := by
  rw [lg_coe]
  have e : Ideal.ofBits .f32 (lit0 (S4.rowMajor (ix1 h))) = ((dec h : ℝ) : EReal) := by
    have r : S4.rowMajor (ix1 h) = h := Fin.ext (by fin_cases h <;> decide +kernel)
    rw [r]
    fin_cases h <;> simp [lit0, dec, Ideal.ofBits, Ideal.ieee, -EReal.coe_mul] <;> norm_num
  rw [e, Ideal.log_coe, if_neg (not_le.2 (dec_pos h))]

theorem gam_coe (h : Fin 4) : gam h.val = ((dec h ^ 4 : ℝ) : EReal) := by
  fin_cases h
  · refine (IdealRules.named_const.ideal_named_scalar κ "gamma_0_d" 0x3F617810#32 _ rfl).trans ?_
    norm_num [dec]
  · refine (IdealRules.named_const.ideal_named_scalar κ "gamma_1_d" 0x3F705F01#32 _ rfl).trans ?_
    norm_num [dec]
  · refine (IdealRules.named_const.ideal_named_scalar κ "gamma_2_d" 0x3F7817E0#32 _ rfl).trans ?_
    norm_num [dec]
  · refine (IdealRules.named_const.ideal_named_scalar κ "gamma_3_d" 0x3F7C05FC#32 _ rfl).trans ?_
    norm_num [dec]

theorem gam_eq (h : Fin 4) : gam h.val = Ideal.exp (lg (ix1 h) * ((4 : ℝ) : EReal)) := by
  rw [lg_coe, gam_coe, ← EReal.coe_mul, Ideal.exp_coe, mul_comm, ← Real.log_rpow (dec_pos h), Real.exp_log (Real.rpow_pos_of_pos (dec_pos h) _)]
  norm_cast

end Cert.Decode

end
-- ==== Proof.Decode.Host.lean ====
/- The tables the decoding mixer's host prepares, over a point's 64 rows: row `r` is token `r % 4` of its sequence. They are
   the reference's cosines, sines and decays at that token. -/
module

public import proofs.«01_k».proof.Proof.Decode.Decay
public import proofs.«01_k».proof.Proof.Gen.Kernel5Ideal.Value
public import Idealize.ShloMosaic.Lib.Claim

@[expose] public section

set_option maxRecDepth 16384

noncomputable section

namespace Cert.Decode

open Cert.Kernel5Ideal Cert.Kernel5Ideal.Gen Cert.Rows
open Idealize.ShloMosaic Idealize.ShloMosaic.TcCoe Idealize.ShloMosaic.Tactic

variable (m : (ℓ : Loc nD τ sig) → Buf (Elt Ideal) ℓ)

set_option maxHeartbeats 4000000

/-- The cosines of the sampled tokens' positions: token, then frequency. -/
def cosS : Vec Ideal Cert.Reference5Ideal.S4x64 .f32 := Cert.Reference5Ideal.Read.val_main_v35 (F := Ideal)
/-- The sines of the sampled tokens' positions. -/
def sinS : Vec Ideal Cert.Reference5Ideal.S4x64 .f32 := Cert.Reference5Ideal.Read.val_main_v36 (F := Ideal)
/-- How many steps of decay a sampled token's key sees. -/
def backS : Vec Ideal S4 .f32 := Cert.Reference5Ideal.Read.val_main_v59 (F := Ideal)
/-- The decay of a sampled token's key. -/
def decS (h : Fin 4) (i : Fin 4) : EReal := Ideal.exp (lg (ix1 h) * backS (ix1 i))

/-- The frequency of a channel. -/
def freq (d : Fin 128) : Fin 64 := ⟨d.val % 64, Nat.mod_lt _ (by decide)⟩
/-- A row's token. -/
def tk (r : Fin 64) : Fin 4 := ⟨r.val % 4, Nat.mod_lt _ (by decide)⟩

/-- The divisor four, as the remainder's call guards it. -/
def four : IVec S_ 32 :=
  select (cmpi .eq (id (constantI S_ 32 4#32)) (constantI S_ 32 0#32)) (constantI S_ 32 1#32)
    (id (constantI S_ 32 4#32))

/-- The rows' numbers modulo four, as the host computes them. -/
def remI : IVec S64 32 :=
  select
    (andi
      (cmpi .ne
        (cmpi .slt (Host.remsi (iotaInDim S64 32 0) (broadcastInDim S64 ![] bcast_S_S64 four))
          (broadcastInDim S64 ![] bcast_S_S64 (constantI S_ 32 0#32)))
        (broadcastInDim S64 ![] bcast_S_S64 (cmpi .slt four (constantI S_ 32 0#32))))
      (cmpi .ne (Host.remsi (iotaInDim S64 32 0) (broadcastInDim S64 ![] bcast_S_S64 four))
        (broadcastInDim S64 ![] bcast_S_S64 (constantI S_ 32 0#32))))
    (addi (Host.remsi (iotaInDim S64 32 0) (broadcastInDim S64 ![] bcast_S_S64 four))
      (broadcastInDim S64 ![] bcast_S_S64 four))
    (Host.remsi (iotaInDim S64 32 0) (broadcastInDim S64 ![] bcast_S_S64 four))

theorem remI_at : ∀ r : Fin 64, remI (ix1 r) = BitVec.ofNat 32 (r.val % 4) := by
  decide +kernel

theorem ofBuf_c (h h' h'') (x : IVec S_ 32) : (StableHlo.TRef.of main_c h h' h'' : StableHlo.TRef sig ⟨S_, .i32⟩).ofBuf (Val := Elt Ideal) x = x := rfl
theorem ofBuf_c6 (h h' h'') (x : IVec S_ 32) : (StableHlo.TRef.of main_c_6 h h' h'' : StableHlo.TRef sig ⟨S_, .i32⟩).ofBuf (Val := Elt Ideal) x = x := rfl
theorem ofBuf_v12 (h h' h'') (x : IVec S64 32) : (StableHlo.TRef.of main_v12 h h' h'' : StableHlo.TRef sig ⟨S64, .i32⟩).ofBuf (Val := Elt Ideal) x = x := rfl
theorem ofBuf_v37 (h h' h'') (x : IVec S64 32) : (StableHlo.TRef.of main_v37 h h' h'' : StableHlo.TRef sig ⟨S64, .i32⟩).ofBuf (Val := Elt Ideal) x = x := rfl
theorem toBuf_v13 (h h' h'') (x : IVec S64 32) : (StableHlo.TRef.of main_v13 h h' h'' : StableHlo.TRef sig ⟨S64, .i32⟩).toBuf (Val := Elt Ideal) x = x := rfl
theorem toBuf_v39 (h h' h'') (x : IVec S64 32) : (StableHlo.TRef.of main_v39 h h' h'' : StableHlo.TRef sig ⟨S64, .i32⟩).toBuf (Val := Elt Ideal) x = x := rfl

/-- The rows' angles: position times frequency, from the rows' tokens. -/
def angle (t : IVec S64 32) : Vec Ideal S64x64 .f32 :=
  mulf (F := Ideal) (φ := .f32)
    (broadcastInDim S64x64 ![0, 1] bcast_S64x1_S64x64_0_1 (broadcastInDim S64x1 ![0] bcast_S64_S64x1_0
      (sitofp (F := Ideal) .f32 (addi (broadcastInDim S64 ![] bcast_S_S64 (constantI S_ 32 16384#32)) t))))
    (broadcastInDim S64x64 ![0, 1] bcast_S1x64_S64x64_0_1 (broadcastInDim S1x64 ![1] bcast_S64_S1x64_1
      (Host.powf (F := Ideal) (φ := .f32) (broadcastInDim S64 ![] bcast_S_S64 (constant (F := Ideal) S_ .f32 0x461C4000#32))
        (Host.divf (F := Ideal) (φ := .f32)
          (Host.negf (F := Ideal) (φ := .f32) (addf (F := Ideal) (φ := .f32) (broadcastInDim S64 ![] bcast_S_S64 (constant (F := Ideal) S_ .f32 0x00000000#32))
            (mulf (F := Ideal) (φ := .f32) (broadcastInDim S64 ![] bcast_S_S64 (constant (F := Ideal) S_ .f32 0x40000000#32)) (sitofp (F := Ideal) .f32 (iotaInDim S64 32 0)))))
          (broadcastInDim S64 ![] bcast_S_S64 (constant (F := Ideal) S_ .f32 0x43000000#32))))))

/-- The rows' decays. -/
def decay (t : IVec S64 32) : Vec Ideal S4x64x128 .f32 :=
  broadcastInDim S4x64x128 ![0, 1, 2] bcast_S4x64x1_S4x64x128_0_1_2 (Host.exp (F := Ideal) (φ := .f32) (mulf (F := Ideal) (φ := .f32)
    (broadcastInDim S4x64x1 ![0, 1, 2] bcast_S4x1x1_S4x64x1_0_1_2 (broadcastInDim S4x1x1 ![0] bcast_S4_S4x1x1_0
      (Host.log (F := Ideal) (φ := .f32) (fun i => FloatOps.ofBits (F := Ideal) .f32 (lit0 (S4.rowMajor i))))))
    (broadcastInDim S4x64x1 ![0, 1, 2] bcast_S1x64x1_S4x64x1_0_1_2 (broadcastInDim S1x64x1 ![1, 2] bcast_S64x1_S1x64x1_1_2
      (broadcastInDim S64x1 ![0] bcast_S64_S64x1_0
        (subf (F := Ideal) (φ := .f32) (broadcastInDim S64 ![] bcast_S_S64 (constant (F := Ideal) S_ .f32 0x40400000#32)) (sitofp (F := Ideal) .f32 t)))))))

theorem cos_at (r : Fin 64) (i : Fin 64) : Host.cos (F := Ideal) (φ := .f32) (angle remI) (ix2 r i) = cosS (ix2 (tk r) i) := by
  unfold angle cosS
  simp only [Cert.Reference5Ideal.Read.val_main_v35_apply, Cert.Reference5Ideal.Read.val_main_v34_apply, Cert.Reference5Ideal.Read.val_main_v32_apply, Cert.Reference5Ideal.Read.val_main_v33_apply, Cert.Reference5Ideal.Read.val_main_v30_apply, Cert.Reference5Ideal.Read.val_main_v31_apply,
    Cert.Reference5Ideal.Read.val_main_v29_apply, Cert.Reference5Ideal.Read.val_main_v16_apply, Cert.Reference5Ideal.Read.val_main_v15_apply, Cert.Reference5Ideal.Read.val_main_c_apply, Cert.Reference5Ideal.Read.val_main_v14_apply, Cert.Reference5Ideal.Read.val_main_v28_apply, Cert.Reference5Ideal.Read.val_main_v27_apply, Cert.Reference5Ideal.Read.val_main_cst_5_apply, Cert.Reference5Ideal.Read.val_main_v26_apply, Cert.Reference5Ideal.Read.val_main_v25_apply, Cert.Reference5Ideal.Read.val_main_cst_4_apply, Cert.Reference5Ideal.Read.val_main_v24_apply, Cert.Reference5Ideal.Read.val_main_v23_apply, Cert.Reference5Ideal.Read.val_main_v22_apply, Cert.Reference5Ideal.Read.val_main_cst_3_apply, Cert.Reference5Ideal.Read.val_main_v21_apply, Cert.Reference5Ideal.Read.val_main_v20_apply, Cert.Reference5Ideal.Read.val_main_cst_2_apply, Cert.Reference5Ideal.Read.val_main_v19]
  pointwise
  rw [remI_at]
  rfl

theorem sin_at (r : Fin 64) (i : Fin 64) : Host.sin (F := Ideal) (φ := .f32) (angle remI) (ix2 r i) = sinS (ix2 (tk r) i) := by
  unfold angle sinS
  simp only [Cert.Reference5Ideal.Read.val_main_v36_apply, Cert.Reference5Ideal.Read.val_main_v34_apply, Cert.Reference5Ideal.Read.val_main_v32_apply, Cert.Reference5Ideal.Read.val_main_v33_apply, Cert.Reference5Ideal.Read.val_main_v30_apply, Cert.Reference5Ideal.Read.val_main_v31_apply,
    Cert.Reference5Ideal.Read.val_main_v29_apply, Cert.Reference5Ideal.Read.val_main_v16_apply, Cert.Reference5Ideal.Read.val_main_v15_apply, Cert.Reference5Ideal.Read.val_main_c_apply, Cert.Reference5Ideal.Read.val_main_v14_apply, Cert.Reference5Ideal.Read.val_main_v28_apply, Cert.Reference5Ideal.Read.val_main_v27_apply, Cert.Reference5Ideal.Read.val_main_cst_5_apply, Cert.Reference5Ideal.Read.val_main_v26_apply, Cert.Reference5Ideal.Read.val_main_v25_apply, Cert.Reference5Ideal.Read.val_main_cst_4_apply, Cert.Reference5Ideal.Read.val_main_v24_apply, Cert.Reference5Ideal.Read.val_main_v23_apply, Cert.Reference5Ideal.Read.val_main_v22_apply, Cert.Reference5Ideal.Read.val_main_cst_3_apply, Cert.Reference5Ideal.Read.val_main_v21_apply, Cert.Reference5Ideal.Read.val_main_v20_apply, Cert.Reference5Ideal.Read.val_main_cst_2_apply, Cert.Reference5Ideal.Read.val_main_v19]
  pointwise
  rw [remI_at]
  rfl

theorem decay_at (h : Fin 4) (r : Fin 64) (d : Fin 128) : decay remI (ix3 h r d) = decS h (tk r) := by
  unfold decay decS backS
  rw [← lit0_eq]
  pointwise
  rw [remI_at]
  rfl

theorem V34_eq (c : Dev nD) : @Eq (Vec Ideal S64x128 .f32) (V m c main_v34)
    (concatenate S64x128 1 [⟨S64x64, Host.cos (F := Ideal) (φ := .f32) (angle remI)⟩, ⟨S64x64, Host.cos (F := Ideal) (φ := .f32) (angle remI)⟩] concatenates_S64x64_S64x64_S64x128_d1) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine congrArg₂ (fun y z : Vec Ideal S64x64 .f32 => concatenate S64x128 1 [⟨S64x64, y⟩, ⟨S64x64, z⟩] concatenates_S64x64_S64x64_S64x128_d1) ?_ ?_
  all_goals
    after_results_simp
    simp only [StableHlo.TRef.ofBuf_toBuf, ofBuf_c, ofBuf_v12, toBuf_v13]
    rfl

theorem V36_eq (c : Dev nD) : @Eq (Vec Ideal S64x128 .f32) (V m c main_v36)
    (concatenate S64x128 1 [⟨S64x64, Host.negf (F := Ideal) (φ := .f32) (Host.sin (F := Ideal) (φ := .f32) (angle remI))⟩, ⟨S64x64, Host.sin (F := Ideal) (φ := .f32) (angle remI)⟩] concatenates_S64x64_S64x64_S64x128_d1) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine congrArg₂ (fun y z : Vec Ideal S64x64 .f32 => concatenate S64x128 1 [⟨S64x64, y⟩, ⟨S64x64, z⟩] concatenates_S64x64_S64x64_S64x128_d1) ?_ ?_
  all_goals
    after_results_simp
    simp only [StableHlo.TRef.ofBuf_toBuf, ofBuf_c, ofBuf_v12, toBuf_v13]
    rfl

theorem V85_eq (c : Dev nD) : @Eq (Vec Ideal S4x64x128 .f32) (V m c main_v85) (decay remI) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.ofBuf_toBuf, ofBuf_c6, ofBuf_v37, toBuf_v39]
  rfl

theorem V0_eq (c : Dev nD) : @Eq (Vec Ideal S128x4x128x128 .f32) (V m c main_v0)
    (shapeCast S128x4x128x128 (show Vec Ideal S1x128x4x128x128 .f32 from m ((c : Thread nD τ).loc main_arg2)) shapeCasts_S1x128x4x128x128_S128x4x128x128) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V1_eq (c : Dev nD) : @Eq (Vec Ideal S128x15x512 .f32) (V m c main_v1)
    (shapeCast S128x15x512 (show Vec Ideal S1x128x15x512 .f32 from m ((c : Thread nD τ).loc main_arg3)) shapeCasts_S1x128x15x512_S128x15x512) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V34 (c : Dev nD) (r : Fin 64) (d : Fin 128) : V m c main_v34 (ix2 r d) = cosS (ix2 (tk r) (freq d)) := by
  rw [V34_eq m c, ← cos_at]
  by_cases hd : d.val < 64
  · refine concatenate_pair_apply_left (t := S64x128) (s₁ := S64x64) (s₂ := S64x64) 1 _ _ concatenates_S64x64_S64x64_S64x128_d1 (ix2 r d) rfl (ix2 r (freq d)) fun b => ?_
    match b with
    | ⟨0, _⟩ => rfl
    | ⟨1, _⟩ => exact Nat.mod_eq_of_lt hd
  · refine concatenate_pair_apply_right (t := S64x128) (s₁ := S64x64) (s₂ := S64x64) 1 _ _ concatenates_S64x64_S64x64_S64x128_d1 (ix2 r d) rfl rfl (ix2 r (freq d)) (fun b hb => ?_) ?_
    · match b, hb with
      | ⟨0, _⟩, _ => rfl
      | ⟨1, _⟩, hb => exact absurd rfl hb
    · show d.val % 64 + 64 = d.val
      have := d.isLt; omega

theorem V36 (c : Dev nD) (r : Fin 64) (d : Fin 128) :
    V m c main_v36 (ix2 r d) = if d.val < 64 then -sinS (ix2 (tk r) (freq d)) else sinS (ix2 (tk r) (freq d)) := by
  rw [V36_eq m c, ← sin_at]
  by_cases hd : d.val < 64
  · rw [if_pos hd]
    refine (concatenate_pair_apply_left (t := S64x128) (s₁ := S64x64) (s₂ := S64x64) 1 (Host.negf (F := Ideal) (φ := .f32) (Host.sin (F := Ideal) (φ := .f32) (angle remI))) _
      concatenates_S64x64_S64x64_S64x128_d1 (ix2 r d) rfl (ix2 r (freq d)) fun b => ?_).trans rfl
    match b with
    | ⟨0, _⟩ => rfl
    | ⟨1, _⟩ => exact Nat.mod_eq_of_lt hd
  · rw [if_neg hd]
    refine concatenate_pair_apply_right (t := S64x128) (s₁ := S64x64) (s₂ := S64x64) 1 _ _ concatenates_S64x64_S64x64_S64x128_d1 (ix2 r d) rfl rfl (ix2 r (freq d)) (fun b hb => ?_) ?_
    · match b, hb with
      | ⟨0, _⟩, _ => rfl
      | ⟨1, _⟩, hb => exact absurd rfl hb
    · show d.val % 64 + 64 = d.val
      have := d.isLt; omega

theorem V85 (c : Dev nD) (h : Fin 4) (r : Fin 64) (d : Fin 128) : V m c main_v85 (ix3 h r d) = decS h (tk r) := by
  rw [V85_eq m c]
  exact decay_at h r d

theorem V0 (c : Dev nD) (b : Fin 128) (h : Fin 4) (d e : Fin 128) :
    V m c main_v0 (ix4 b h d e) = m ((c : Thread nD τ).loc main_arg2) (ix5 0 b h d e) := by
  rw [V0_eq m c]
  exact shapeCast_dropUnit_apply ![128, 4, 128, 128] _ _ (ix4 b h d e) |>.trans (congrArg _ (funext fun x => by fin_cases x <;> rfl))

theorem V1 (c : Dev nD) (b : Fin 128) (r : Fin 15) (q : Fin 512) :
    V m c main_v1 (ix3 b r q) = m ((c : Thread nD τ).loc main_arg3) (ix4 0 b r q) := by
  rw [V1_eq m c]
  exact shapeCast_dropUnit_apply ![128, 15, 512] _ _ (ix3 b r q) |>.trans (congrArg _ (funext fun x => by fin_cases x <;> rfl))

end Cert.Decode

end
-- ==== Proof.Decode.Pieces.lean ====
/- The stores of one point of the decoding mixer into the retention states and the pooling buffers, listed: one store for
   each head and sequence, and one for each sequence. -/
module

public import proofs.«01_k».proof.Proof.Decode.Step

@[expose] public section

set_option maxRecDepth 65536

noncomputable section

namespace Cert.Decode

open Cert.Kernel5Ideal Cert.Kernel5Ideal.Gen
open Idealize.ShloMosaic Idealize.ShloMosaic.TcCoe Idealize.ShloMosaic.Tactic
open Idealize.ShloMosaic.Rounds

set_option maxHeartbeats 8000000

theorem inb2 {o p a b A B : Nat} (h0 : o + a ≤ A) (h1 : p + b ≤ B) :
    ∀ x, (![o, p] : Fin 2 → Nat) x + (![a, b] : Fin 2 → Nat) x ≤ (⟨2, ![A, B]⟩ : Shape).size x := by
  intro x; fin_cases x; exacts [h0, h1]

theorem inb3 {o p q a b c A B C : Nat} (h0 : o + a ≤ A) (h1 : p + b ≤ B) (h2 : q + c ≤ C) :
    ∀ x, (![o, p, q] : Fin 3 → Nat) x + (![a, b, c] : Fin 3 → Nat) x ≤ (⟨3, ![A, B, C]⟩ : Shape).size x := by
  intro x; fin_cases x; exacts [h0, h1, h2]

theorem inb4 {o p q r a b c d A B C D : Nat} (h0 : o + a ≤ A) (h1 : p + b ≤ B) (h2 : q + c ≤ C) (h3 : r + d ≤ D) :
    ∀ x, (![o, p, q, r] : Fin 4 → Nat) x + (![a, b, c, d] : Fin 4 → Nat) x ≤ (⟨4, ![A, B, C, D]⟩ : Shape).size x := by
  intro x; fin_cases x; exacts [h0, h1, h2, h3]

/-- The state stored `n`-th: head `n / 16` of sequence `n % 16`. -/
def decN (x1 x2 : Vec Ideal S64x512 .f32) (x6 : Vec Ideal S16x4x128x128 .f32) (x8 x9 : Vec Ideal S64x128 .f32) (x12 : Vec Ideal S4x64x128 .f32)
    (n : Nat) (hn : n < 64) : Vec Ideal S1x1x128x128 .f32 :=
  decV (gam (n / 16)) (BitVec.ofNat 32 (n % 4)) (n % 16 / 4 * 16)
    (by have : n % 16 / 4 < 4 := by omega
        generalize n % 16 / 4 = q at this
        interval_cases q <;> decide)
    (View.ld x8 (Rect.unit (s := S64x128) ![0, 0] ![64, 128] (by decide)))
    (View.ld x9 (Rect.unit (s := S64x128) ![0, 0] ![64, 128] (by decide)))
    (View.ld x1 (Rect.unit (s := S64x512) ![0, n / 16 * 128] ![64, 128] (by refine inb2 ?_ ?_ <;> omega)))
    (View.ld x2 (Rect.unit (s := S64x512) ![0, n / 16 * 128] ![64, 128] (by refine inb2 ?_ ?_ <;> omega)))
    (View.ld x12 (Rect.unit (s := S4x64x128) ![n / 16, 0, 0] ![1, 64, 128] (by refine inb3 ?_ ?_ ?_ <;> omega)))
    (View.ld x6 (Rect.unit (s := S16x4x128x128) ![n % 16, n / 16, 0, 0] ![1, 1, 128, 128]
      (by refine inb4 ?_ ?_ ?_ ?_ <;> omega)))

/-- The first `n` states stored, last first. -/
def states (x1 x2 : Vec Ideal S64x512 .f32) (x6 : Vec Ideal S16x4x128x128 .f32) (x8 x9 : Vec Ideal S64x128 .f32) (x12 : Vec Ideal S4x64x128 .f32) :
    (n : Nat) → n ≤ 64 → List (View.Piece (Elt Ideal) S16x4x128x128 .f32)
  | 0, _ => []
  | n + 1, h => ⟨Rect.unit (s := S16x4x128x128) ![n % 16, n / 16, 0, 0] ![1, 1, 128, 128]
      (by refine inb4 ?_ ?_ ?_ ?_ <;> omega),
      decN x1 x2 x6 x8 x9 x12 n (by omega)⟩ :: states x1 x2 x6 x8 x9 x12 n (by omega)

/-- The first `n` sequences' rows stored in the scratch, last first: the four new rows after the fifteen handed in. -/
def rows (x4 : Vec Ideal S64x512 .f32) (x7 : Vec Ideal S16x15x512 .f32) : (n : Nat) → n ≤ 16 → List (View.Piece (Elt Ideal) S16x24x512 .f32)
  | 0, _ => []
  | n + 1, h =>
    ⟨Rect.unit (s := S16x24x512) ![n, 16, 0] ![1, 4, 512]
      (by refine inb3 ?_ ?_ ?_ <;> omega),
      shapeCast S1x4x512 (View.ld x4 (Rect.unit (s := S64x512) ![n * 4, 0] ![4, 512]
        (by refine inb2 ?_ ?_ <;> omega))) shapeCasts_S4x512_S1x4x512⟩ ::
    ⟨Rect.unit (s := S16x24x512) ![n, 1, 0] ![1, 15, 512]
      (by refine inb3 ?_ ?_ ?_ <;> omega),
      shapeCast S1x15x512 (shapeCast S15x512 (View.ld x7 (Rect.unit (s := S16x15x512) ![n, 0, 0] ![1, 15, 512]
        (by refine inb3 ?_ ?_ ?_ <;> omega))) shapeCasts_S1x15x512_S15x512)
        shapeCasts_S15x512_S1x15x512⟩ :: rows x4 x7 n (by omega)

/-- The first `n` pooling buffers stored, last first: the scratch's last fifteen rows. -/
def buffers (v : View sig .tc .vmem S16x24x512 .f32) (L : List (View.Piece (Elt Ideal) S16x24x512 .f32)) :
    (n : Nat) → n ≤ 16 → List (View.Piece (Elt Ideal) S16x15x512 .f32)
  | 0, _ => []
  | n + 1, h =>
    ⟨Rect.unit (s := S16x15x512) ![n, 0, 0] ![1, 15, 512]
      (by refine inb3 ?_ ?_ ?_ <;> omega),
      shapeCast S1x15x512 (shapeCast S15x512 (v.readCov L (Rect.unit (s := S16x24x512) ![n, 5, 0] ![1, 15, 512]
        (by refine inb3 ?_ ?_ ?_ <;> omega)).toLoadRect) shapeCasts_S1x15x512_S15x512)
        shapeCasts_S15x512_S1x15x512⟩ :: buffers v L n (by omega)

theorem states_eq (c : Dev nD) (i : grid0.Coords) (arg1 : Memref sig .tc .vmem S64x512 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S64x1024 .f32) (harg6 : arg6.IsWhole) (arg7 : Memref sig .tc .vmem S16x4x128x128 .f32) (harg7 : arg7.IsWhole) (arg8 : Memref sig .tc .vmem S16x15x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S4x64x64 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x128x128 .bf16) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S64x1024 .f32) (harg19 : arg19.IsWhole) (arg20 : Memref sig .tc .vmem S16x4x128x128 .f32) (harg20 : arg20.IsWhole) (arg21 : Memref sig .tc .vmem S16x15x512 .f32) (harg21 : arg21.IsWhole) (arg22 : Memref sig .tc .vmem S16x24x512 .f32) (harg22 : arg22.IsWhole) (arg23 : Memref sig .tc .vmem S64x512 .f32) (harg23 : arg23.IsWhole) (arg24 : Memref sig .tc .vmem S64x1024 .bf16) (harg24 : arg24.IsWhole)
    (x0 : Vec Ideal S64x512 .f32) (x1 : Vec Ideal S64x512 .f32) (x2 : Vec Ideal S64x512 .f32) (x3 : Vec Ideal S64x512 .f32) (x4 : Vec Ideal S64x512 .f32) (x5 : Vec Ideal S64x1024 .f32) (x6 : Vec Ideal S16x4x128x128 .f32) (x7 : Vec Ideal S16x15x512 .f32) (x8 : Vec Ideal S64x128 .f32) (x9 : Vec Ideal S64x128 .f32) (x10 : Vec Ideal S4x64x64 .f32) (x11 : Vec Ideal S4x64x128 .f32) (x12 : Vec Ideal S4x64x128 .f32) (x13 : Vec Ideal S4x128x128 .bf16) (x14 : Vec Ideal S1x512 .f32) (x15 : Vec Ideal S1024x1024 .bf16) (x16 : Vec Ideal S1x1024 .f32) (x17 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.1 = states x1 x2 x6 x8 x9 x12 64 (Nat.le_refl _) := by
  unfold kernelRun0_A
  dsimp only
  sl_unfold_words
  simp only [View.readAt_eq_ld, harg2.read_unread, harg3.read_unread, harg7.read_unread, harg9.read_unread, harg10.read_unread, harg13.read_unread]
  rfl

theorem buffers_eq (c : Dev nD) (i : grid0.Coords) (arg1 : Memref sig .tc .vmem S64x512 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S64x1024 .f32) (harg6 : arg6.IsWhole) (arg7 : Memref sig .tc .vmem S16x4x128x128 .f32) (harg7 : arg7.IsWhole) (arg8 : Memref sig .tc .vmem S16x15x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S4x64x64 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x128x128 .bf16) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S64x1024 .f32) (harg19 : arg19.IsWhole) (arg20 : Memref sig .tc .vmem S16x4x128x128 .f32) (harg20 : arg20.IsWhole) (arg21 : Memref sig .tc .vmem S16x15x512 .f32) (harg21 : arg21.IsWhole) (arg22 : Memref sig .tc .vmem S16x24x512 .f32) (harg22 : arg22.IsWhole) (arg23 : Memref sig .tc .vmem S64x512 .f32) (harg23 : arg23.IsWhole) (arg24 : Memref sig .tc .vmem S64x1024 .bf16) (harg24 : arg24.IsWhole)
    (x0 : Vec Ideal S64x512 .f32) (x1 : Vec Ideal S64x512 .f32) (x2 : Vec Ideal S64x512 .f32) (x3 : Vec Ideal S64x512 .f32) (x4 : Vec Ideal S64x512 .f32) (x5 : Vec Ideal S64x1024 .f32) (x6 : Vec Ideal S16x4x128x128 .f32) (x7 : Vec Ideal S16x15x512 .f32) (x8 : Vec Ideal S64x128 .f32) (x9 : Vec Ideal S64x128 .f32) (x10 : Vec Ideal S4x64x64 .f32) (x11 : Vec Ideal S4x64x128 .f32) (x12 : Vec Ideal S4x64x128 .f32) (x13 : Vec Ideal S4x128x128 .bf16) (x14 : Vec Ideal S1x512 .f32) (x15 : Vec Ideal S1024x1024 .bf16) (x16 : Vec Ideal S1x1024 .f32) (x17 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.1 = buffers arg22.view (rows x4 x7 16 (Nat.le_refl _)) 16 (Nat.le_refl _) := by
  unfold kernelRun0_A
  dsimp only
  sl_unfold_words
  simp only [View.readAt_eq_ld, harg5.read_unread, harg8.read_unread]
  rfl

end Cert.Decode

end
-- ==== Proof.Decode.Stored.lean ====
/- What one point of the decoding mixer leaves in its blocks of the retention states and of the pooling buffers. -/
module

public import proofs.«01_k».proof.Proof.Decode.Pieces

@[expose] public section

set_option maxRecDepth 16384

noncomputable section

namespace Cert.Decode

open Cert.Kernel5Ideal Cert.Kernel5Ideal.Gen Cert.Rows
open Idealize.ShloMosaic Idealize.ShloMosaic.TcCoe Idealize.ShloMosaic.Tactic
open scoped BigOperators

set_option maxHeartbeats 2000000

/-- The row of a point's block that holds token `i` of its sequence `b`. -/
def tok (b : Fin 16) (i : Fin 4) : Fin 64 := ⟨4 * b.val + i.val, by omega⟩
/-- Channel `d` of head `h`. -/
def chan (h : Fin 4) (d : Fin 128) : Fin 512 := ⟨h.val * 128 + d.val, by omega⟩

/-- A sequence's new state for one head, from a point's blocks. -/
def stateOf (x1 x2 : Vec Ideal S64x512 .f32) (x6 : Vec Ideal S16x4x128x128 .f32) (x8 x9 : Vec Ideal S64x128 .f32) (x12 : Vec Ideal S4x64x128 .f32)
    (b : Fin 16) (h : Fin 4) (d e : Fin 128) : EReal :=
  gam h.val * x6 (ix4 b h d e) + ∑ i : Fin 4, (x1 (ix2 (tok b i) (chan h d)) * x8 (ix2 (tok b i) d)
    + x1 (ix2 (tok b i) (chan h (half d))) * x9 (ix2 (tok b i) d)) * x12 (ix3 h (tok b i) d) * x2 (ix2 (tok b i) (chan h e))

/-- A sequence's new pooling buffer, from a point's blocks. -/
def bufferOf (x4 : Vec Ideal S64x512 .f32) (x7 : Vec Ideal S16x15x512 .f32) (b : Fin 16) (r : Fin 15) (q : Fin 512) : EReal :=
  if h : r.val < 11 then x7 (ix3 b ⟨r.val + 4, by omega⟩ q) else x4 (ix2 ⟨4 * b.val + (r.val - 11), by omega⟩ q)

theorem decN_apply (x1 x2 : Vec Ideal S64x512 .f32) (x6 : Vec Ideal S16x4x128x128 .f32) (x8 x9 : Vec Ideal S64x128 .f32) (x12 : Vec Ideal S4x64x128 .f32)
    (n : Nat) (hn : n < 64) (b : Fin 16) (h : Fin 4) (hb : n % 16 = b.val) (hh : n / 16 = h.val) (d e : Fin 128) :
    decN x1 x2 x6 x8 x9 x12 n hn (ix4 0 0 d e) = stateOf x1 x2 x6 x8 x9 x12 b h d e := by
  unfold decN
  refine (decV_own (gam (n / 16)) ⟨n % 4, Nat.mod_lt _ (by decide)⟩ _ _ (by omega) _ _ _ _ _ _ d e).trans ?_
  unfold stateOf
  have hk : ∀ i : Fin 4, n % 16 / 4 * 16 + (4 * (n % 4) + i.val) = 4 * b.val + i.val := fun i => by omega
  have ld2 : ∀ (x : Vec Ideal S64x512 .f32) (inb) (i : Fin 4) (hl) (d : Fin 128),
      View.ld x (Rect.unit (s := S64x512) ![0, n / 16 * 128] ![64, 128] inb) (ix2 ⟨n % 16 / 4 * 16 + (4 * (n % 4) + i.val), hl⟩ d) = x (ix2 (tok b i) (chan h d)) := by
    intro x inb i hl d
    refine congrArg x (funext fun a => ?_)
    fin_cases a
    · exact Fin.ext (show 0 + 1 * (n % 16 / 4 * 16 + (4 * (n % 4) + i.val)) = 4 * b.val + i.val from by have := hk i; omega)
    · exact Fin.ext (show n / 16 * 128 + 1 * d.val = h.val * 128 + d.val by omega)
  have ldT : ∀ (x : Vec Ideal S64x128 .f32) (inb) (i : Fin 4) (hl) (d : Fin 128),
      View.ld x (Rect.unit (s := S64x128) ![0, 0] ![64, 128] inb) (ix2 ⟨n % 16 / 4 * 16 + (4 * (n % 4) + i.val), hl⟩ d) = x (ix2 (tok b i) d) := by
    intro x inb i hl d
    refine congrArg x (funext fun a => ?_)
    fin_cases a
    · exact Fin.ext (show 0 + 1 * (n % 16 / 4 * 16 + (4 * (n % 4) + i.val)) = 4 * b.val + i.val from by have := hk i; omega)
    · exact Fin.ext (show 0 + 1 * d.val = d.val by omega)
  have ldK : ∀ (inb) (i : Fin 4) (hl) (d : Fin 128),
      View.ld x12 (Rect.unit (s := S4x64x128) ![n / 16, 0, 0] ![1, 64, 128] inb) (ix3 0 ⟨n % 16 / 4 * 16 + (4 * (n % 4) + i.val), hl⟩ d) = x12 (ix3 h (tok b i) d) := by
    intro inb i hl d
    refine congrArg x12 (funext fun a => ?_)
    fin_cases a
    · exact Fin.ext (show n / 16 + 1 * 0 = h.val by omega)
    · exact Fin.ext (show 0 + 1 * (n % 16 / 4 * 16 + (4 * (n % 4) + i.val)) = 4 * b.val + i.val from by have := hk i; omega)
    · exact Fin.ext (show 0 + 1 * d.val = d.val by omega)
  have ldS : ∀ (inb) (d e : Fin 128),
      View.ld x6 (Rect.unit (s := S16x4x128x128) ![n % 16, n / 16, 0, 0] ![1, 1, 128, 128] inb) (ix4 0 0 d e) = x6 (ix4 b h d e) := by
    intro inb d e
    refine congrArg x6 (funext fun a => ?_)
    fin_cases a
    · exact Fin.ext (show n % 16 + 1 * 0 = b.val by omega)
    · exact Fin.ext (show n / 16 + 1 * 0 = h.val by omega)
    · exact Fin.ext (show 0 + 1 * d.val = d.val by omega)
    · exact Fin.ext (show 0 + 1 * e.val = e.val by omega)
  refine congrArg₂ (· + ·) (congrArg₂ (· * ·) (congrArg gam hh) (ldS _ d e)) (Finset.sum_congr rfl fun i _ => ?_)
  exact congrArg₂ (· * ·) (congrArg₂ (· * ·) (congrArg₂ (· + ·) (congrArg₂ (· * ·) (ld2 x1 _ i _ d) (ldT x8 _ i _ d)) (congrArg₂ (· * ·) (ld2 x1 _ i _ (half d)) (ldT x9 _ i _ d))) (ldK _ i _ d)) (ld2 x2 _ i _ e)

theorem states_at (x1 x2 : Vec Ideal S64x512 .f32) (x6 : Vec Ideal S16x4x128x128 .f32) (x8 x9 : Vec Ideal S64x128 .f32) (x12 : Vec Ideal S4x64x128 .f32)
    (b : Fin 16) (h : Fin 4) (d e : Fin 128) : ∀ (n : Nat) (hn : n ≤ 64), h.val * 16 + b.val < n →
    View.canon (states x1 x2 x6 x8 x9 x12 n hn) (ix4 b h d e) = stateOf x1 x2 x6 x8 x9 x12 b h d e
  | 0, _, h0 => absurd h0 (Nat.not_lt_zero _)
  | n + 1, hn, h0 => by
    unfold states
    by_cases hb : n % 16 = b.val ∧ n / 16 = h.val
    · have e0 := View.canon_cons_emb (Val := Elt Ideal) (e := .f32) (Rect.unit (s := S16x4x128x128) ![n % 16, n / 16, 0, 0] ![1, 1, 128, 128]
        (by refine inb4 ?_ ?_ ?_ ?_ <;> omega)) (decN x1 x2 x6 x8 x9 x12 n (by omega)) (states x1 x2 x6 x8 x9 x12 n (by omega)) (ix4 (0 : Fin 1) (0 : Fin 1) d e)
      refine Eq.trans (congrArg _ ?_) (e0.trans (decN_apply x1 x2 x6 x8 x9 x12 n _ b h hb.1 hb.2 d e))
      funext a; fin_cases a
      · exact Fin.ext (show b.val = n % 16 + 1 * 0 by omega)
      · exact Fin.ext (show h.val = n / 16 + 1 * 0 by omega)
      · exact Fin.ext (show d.val = 0 + 1 * d.val by omega)
      · exact Fin.ext (show e.val = 0 + 1 * e.val by omega)
    · rw [View.canon_cons_of_not_mem]
      · exact states_at x1 x2 x6 x8 x9 x12 b h d e n (by omega) (by omega)
      · intro hm
        dsimp only at hm
        have m0 : n % 16 ≤ b.val ∧ b.val < n % 16 + 1 := (Rect.mem_set_unit.mp hm) 0
        have m1 : n / 16 ≤ h.val ∧ h.val < n / 16 + 1 := (Rect.mem_set_unit.mp hm) 1
        omega

theorem rows_at (x4 : Vec Ideal S64x512 .f32) (x7 : Vec Ideal S16x15x512 .f32) (b : Fin 16) (r : Fin 15) (q : Fin 512) :
    ∀ (n : Nat) (hn : n ≤ 16), b.val < n →
    View.canon (rows x4 x7 n hn) (ix3 b ⟨5 + r.val, by omega⟩ q) = bufferOf x4 x7 b r q
  | 0, _, h0 => absurd h0 (Nat.not_lt_zero _)
  | n + 1, hn, h0 => by
    unfold rows
    by_cases hb : n = b.val
    · by_cases hr : r.val < 11
      · rw [View.canon_cons_of_not_mem]
        · refine Eq.trans (congrArg _ ?_) ((View.canon_cons_emb (Val := Elt Ideal) (e := .f32) (Rect.unit (s := S16x24x512) ![n, 1, 0] ![1, 15, 512]
            (by refine inb3 ?_ ?_ ?_ <;> omega)) _ (rows x4 x7 n (by omega)) (ix3 (0 : Fin 1) (⟨r.val + 4, by omega⟩ : Fin 15) q)).trans ?_)
          · funext a; fin_cases a
            · exact Fin.ext (show b.val = n + 1 * 0 by omega)
            · exact Fin.ext (show 5 + r.val = 1 + 1 * (r.val + 4) by omega)
            · exact Fin.ext (show q.val = 0 + 1 * q.val by omega)
          · unfold bufferOf
            rw [dif_pos hr]
            rw [cast15]
            refine congrArg x7 (funext fun a => ?_)
            fin_cases a
            · exact Fin.ext (show n + 1 * 0 = b.val by omega)
            · exact Fin.ext (show 0 + 1 * (r.val + 4) = r.val + 4 by omega)
            · exact Fin.ext (show 0 + 1 * q.val = q.val by omega)
        · intro hm
          dsimp only at hm
          have m1 : 16 ≤ 5 + r.val ∧ 5 + r.val < 16 + 4 := (Rect.mem_set_unit.mp hm) 1
          omega
      · refine Eq.trans (congrArg _ ?_) ((View.canon_cons_emb (Val := Elt Ideal) (e := .f32) (Rect.unit (s := S16x24x512) ![n, 16, 0] ![1, 4, 512]
            (by refine inb3 ?_ ?_ ?_ <;> omega)) _ _ (ix3 (0 : Fin 1) (⟨r.val - 11, by omega⟩ : Fin 4) q)).trans ?_)
        · funext a; fin_cases a
          · exact Fin.ext (show b.val = n + 1 * 0 by omega)
          · exact Fin.ext (show 5 + r.val = 16 + 1 * (r.val - 11) by omega)
          · exact Fin.ext (show q.val = 0 + 1 * q.val by omega)
        · unfold bufferOf
          rw [dif_neg hr]
          rw [cast4]
          refine congrArg x4 (funext fun a => ?_)
          fin_cases a
          · exact Fin.ext (show n * 4 + 1 * (r.val - 11) = 4 * b.val + (r.val - 11) by omega)
          · exact Fin.ext (show 0 + 1 * q.val = q.val by omega)
    · rw [View.canon_cons_of_not_mem, View.canon_cons_of_not_mem]
      · exact rows_at x4 x7 b r q n (by omega) (by omega)
      · intro hm
        dsimp only at hm
        have m0 : n ≤ b.val ∧ b.val < n + 1 := (Rect.mem_set_unit.mp hm) 0
        omega
      · intro hm
        dsimp only at hm
        have m0 : n ≤ b.val ∧ b.val < n + 1 := (Rect.mem_set_unit.mp hm) 0
        omega

theorem buffers_at (v : View sig .tc .vmem S16x24x512 .f32) (x4 : Vec Ideal S64x512 .f32) (x7 : Vec Ideal S16x15x512 .f32) (b : Fin 16) (r : Fin 15) (q : Fin 512) :
    ∀ (n : Nat) (hn : n ≤ 16), b.val < n →
    View.canon (buffers v (rows x4 x7 16 (Nat.le_refl _)) n hn) (ix3 b r q) = bufferOf x4 x7 b r q
  | 0, _, h0 => absurd h0 (Nat.not_lt_zero _)
  | n + 1, hn, h0 => by
    unfold buffers
    by_cases hb : n = b.val
    · refine Eq.trans (congrArg _ ?_) ((View.canon_cons_emb (Val := Elt Ideal) (e := .f32) (Rect.unit (s := S16x15x512) ![n, 0, 0] ![1, 15, 512]
            (by refine inb3 ?_ ?_ ?_ <;> omega)) _ (buffers v _ n (by omega)) (ix3 (0 : Fin 1) r q)).trans ?_)
      · funext a; fin_cases a
        · exact Fin.ext (show b.val = n + 1 * 0 by omega)
        · exact Fin.ext (show r.val = 0 + 1 * r.val by omega)
        · exact Fin.ext (show q.val = 0 + 1 * q.val by omega)
      · rw [cast15, View.readCov_eq_canon']
        refine Eq.trans (congrArg _ ?_) (rows_at x4 x7 b r q 16 (Nat.le_refl _) b.isLt)
        funext a; fin_cases a
        · exact Fin.ext (show n + 1 * 0 = b.val by omega)
        · exact Fin.ext (show 5 + 1 * r.val = 5 + r.val by omega)
        · exact Fin.ext (show 0 + 1 * q.val = q.val by omega)
    · rw [View.canon_cons_of_not_mem]
      · exact buffers_at v x4 x7 b r q n (by omega) (by omega)
      · intro hm
        dsimp only at hm
        have m0 : n ≤ b.val ∧ b.val < n + 1 := (Rect.mem_set_unit.mp hm) 0
        omega

theorem out19 (c : Dev nD) (i : grid0.Coords) (arg1 : Memref sig .tc .vmem S64x512 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S64x1024 .f32) (harg6 : arg6.IsWhole) (arg7 : Memref sig .tc .vmem S16x4x128x128 .f32) (harg7 : arg7.IsWhole) (arg8 : Memref sig .tc .vmem S16x15x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S4x64x64 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x128x128 .bf16) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S64x1024 .f32) (harg19 : arg19.IsWhole) (arg20 : Memref sig .tc .vmem S16x4x128x128 .f32) (harg20 : arg20.IsWhole) (arg21 : Memref sig .tc .vmem S16x15x512 .f32) (harg21 : arg21.IsWhole) (arg22 : Memref sig .tc .vmem S16x24x512 .f32) (harg22 : arg22.IsWhole) (arg23 : Memref sig .tc .vmem S64x512 .f32) (harg23 : arg23.IsWhole) (arg24 : Memref sig .tc .vmem S64x1024 .bf16) (harg24 : arg24.IsWhole)
    (x0 : Vec Ideal S64x512 .f32) (x1 : Vec Ideal S64x512 .f32) (x2 : Vec Ideal S64x512 .f32) (x3 : Vec Ideal S64x512 .f32) (x4 : Vec Ideal S64x512 .f32) (x5 : Vec Ideal S64x1024 .f32) (x6 : Vec Ideal S16x4x128x128 .f32) (x7 : Vec Ideal S16x15x512 .f32) (x8 : Vec Ideal S64x128 .f32) (x9 : Vec Ideal S64x128 .f32) (x10 : Vec Ideal S4x64x64 .f32) (x11 : Vec Ideal S4x64x128 .f32) (x12 : Vec Ideal S4x64x128 .f32) (x13 : Vec Ideal S4x128x128 .bf16) (x14 : Vec Ideal S1x512 .f32) (x15 : Vec Ideal S1024x1024 .bf16) (x16 : Vec Ideal S1x1024 .f32) (x17 : Vec Ideal S1x1024 .f32) (b : Fin 16) (h : Fin 4) (d e : Fin 128) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 (ix4 b h d e) = stateOf x1 x2 x6 x8 x9 x12 b h d e := by
  unfold out0_A_19
  rw [View.read_writes_junk_eq_canon, states_eq]
  exact states_at x1 x2 x6 x8 x9 x12 b h d e 64 _ (by omega)

theorem out20 (c : Dev nD) (i : grid0.Coords) (arg1 : Memref sig .tc .vmem S64x512 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S64x1024 .f32) (harg6 : arg6.IsWhole) (arg7 : Memref sig .tc .vmem S16x4x128x128 .f32) (harg7 : arg7.IsWhole) (arg8 : Memref sig .tc .vmem S16x15x512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S4x64x64 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x128x128 .bf16) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S64x1024 .f32) (harg19 : arg19.IsWhole) (arg20 : Memref sig .tc .vmem S16x4x128x128 .f32) (harg20 : arg20.IsWhole) (arg21 : Memref sig .tc .vmem S16x15x512 .f32) (harg21 : arg21.IsWhole) (arg22 : Memref sig .tc .vmem S16x24x512 .f32) (harg22 : arg22.IsWhole) (arg23 : Memref sig .tc .vmem S64x512 .f32) (harg23 : arg23.IsWhole) (arg24 : Memref sig .tc .vmem S64x1024 .bf16) (harg24 : arg24.IsWhole)
    (x0 : Vec Ideal S64x512 .f32) (x1 : Vec Ideal S64x512 .f32) (x2 : Vec Ideal S64x512 .f32) (x3 : Vec Ideal S64x512 .f32) (x4 : Vec Ideal S64x512 .f32) (x5 : Vec Ideal S64x1024 .f32) (x6 : Vec Ideal S16x4x128x128 .f32) (x7 : Vec Ideal S16x15x512 .f32) (x8 : Vec Ideal S64x128 .f32) (x9 : Vec Ideal S64x128 .f32) (x10 : Vec Ideal S4x64x64 .f32) (x11 : Vec Ideal S4x64x128 .f32) (x12 : Vec Ideal S4x64x128 .f32) (x13 : Vec Ideal S4x128x128 .bf16) (x14 : Vec Ideal S1x512 .f32) (x15 : Vec Ideal S1024x1024 .bf16) (x16 : Vec Ideal S1x1024 .f32) (x17 : Vec Ideal S1x1024 .f32) (b : Fin 16) (r : Fin 15) (q : Fin 512) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 (ix3 b r q) = bufferOf x4 x7 b r q := by
  unfold out0_A_20
  rw [View.read_writes_junk_eq_canon, buffers_eq]
  exact buffers_at _ x4 x7 b r q 16 _ b.isLt

end Cert.Decode

end
-- ==== Proof.Decode.Blocks.lean ====
/- What the decoding mixer leaves in the sampled sequences' retention states and pooling buffers, as functions of its
   arguments, and the blocks a point is given as the arrays' own entries: point `t` works on sequences `16 * t` to
   `16 * t + 15`. -/
module

public import proofs.«01_k».proof.Proof.Decode.Host
public import proofs.«01_k».proof.Proof.Decode.Stored

@[expose] public section

set_option maxRecDepth 16384

noncomputable section

namespace Cert.Decode

open Cert.Kernel5Ideal Cert.Kernel5Ideal.Gen Cert.Rows
open Idealize.ShloMosaic Idealize.ShloMosaic.TcCoe
open scoped BigOperators

/-- Token `i` of sequence `s`, as a row of the projection. -/
def rowS (s : Fin 128) (i : Fin 4) : Fin 528 := ⟨4 * s.val + i.val, by omega⟩
/-- Channel `d` of head `h`, in the columns that start at `o`. -/
def colS (o : Nat) (h : Fin 4) (d : Fin 128) : Fin 2560 := ⟨(o + h.val * 128 + d.val) % 2560, Nat.mod_lt _ (by decide)⟩
/-- Sequence `b` of point `t`. -/
def seqAt (t : Nat) (b : Fin 16) : Fin 128 := ⟨(16 * t + b.val) % 128, Nat.mod_lt _ (by decide)⟩

/-- The sine table over both halves of the channels, negated on the first. -/
def signedS (i : Fin 4) (d : Fin 128) : EReal := if d.val < 64 then -sinS (ix2 i (freq d)) else sinS (ix2 i (freq d))

/-- A sequence's new state for one head: the old one decayed over four tokens, plus the tokens' rotated, decayed keys times
    their values. -/
def newState (x0 : Vec Ideal S528x2560 .f32) (x2 : Vec Ideal S1x128x4x128x128 .f32) (s : Fin 128) (h : Fin 4) (d e : Fin 128) : EReal :=
  gam h.val * x2 (ix5 0 s h d e) + ∑ i : Fin 4, (x0 (ix2 (rowS s i) (colS 512 h d)) * cosS (ix2 i (freq d))
    + x0 (ix2 (rowS s i) (colS 512 h (half d))) * signedS i d) * decS h i * x0 (ix2 (rowS s i) (colS 1024 h e))

/-- A sequence's new pooling buffer: the last fifteen of the old rows and the four new ones. -/
def newBuffer (x0 : Vec Ideal S528x2560 .f32) (x3 : Vec Ideal S1x128x15x512 .f32) (s : Fin 128) (r : Fin 15) (q : Fin 512) : EReal :=
  if h : r.val < 11 then x3 (ix4 0 s ⟨r.val + 4, by omega⟩ q) else x0 (ix2 (rowS s ⟨r.val - 11, by omega⟩) ⟨2048 + q.val, by omega⟩)

variable (m : (ℓ : Loc nD τ sig) → Buf (Elt Ideal) ℓ)

/-- The projection the kernel is given. -/
abbrev a0 (c : Dev nD) : Vec Ideal S528x2560 .f32 := m ((c : Thread nD τ).loc main_arg0)
/-- The retention states it is given. -/
abbrev a2 (c : Dev nD) : Vec Ideal S1x128x4x128x128 .f32 := m ((c : Thread nD τ).loc main_arg2)
/-- The pooling buffers it is given. -/
abbrev a3 (c : Dev nD) : Vec Ideal S1x128x15x512 .f32 := m ((c : Thread nD τ).loc main_arg3)

theorem N8 (t : Fin cfg0.N) : t.val < 8 := by
  have := t.isLt; have h := N_0; simp only [Pipeline.Cfg.N] at *; omega

theorem idx1 : ∀ t : Fin cfg0.N, win0_1.index t (0 : Fin 2) = t.val ∧ win0_1.index t (1 : Fin 2) = 1 := (by decide +kernel : ∀ t : Fin grid0.N, _)
theorem idx2 : ∀ t : Fin cfg0.N, win0_2.index t (0 : Fin 2) = t.val ∧ win0_2.index t (1 : Fin 2) = 2 := (by decide +kernel : ∀ t : Fin grid0.N, _)
theorem idx4 : ∀ t : Fin cfg0.N, win0_4.index t (0 : Fin 2) = t.val ∧ win0_4.index t (1 : Fin 2) = 4 := (by decide +kernel : ∀ t : Fin grid0.N, _)
theorem idx6 : ∀ t : Fin cfg0.N, win0_6.index t (0 : Fin 4) = t.val ∧ win0_6.index t (1 : Fin 4) = 0 ∧ win0_6.index t (2 : Fin 4) = 0 ∧ win0_6.index t (3 : Fin 4) = 0 := (by decide +kernel : ∀ t : Fin grid0.N, _)
theorem idx7 : ∀ t : Fin cfg0.N, win0_7.index t (0 : Fin 3) = t.val ∧ win0_7.index t (1 : Fin 3) = 0 ∧ win0_7.index t (2 : Fin 3) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx12 : ∀ t : Fin cfg0.N, win0_12.index t (0 : Fin 3) = 0 ∧ win0_12.index t (1 : Fin 3) = 0 ∧ win0_12.index t (2 : Fin 3) = 0 := (by decide +kernel : ∀ t : Fin grid0.N, _)

theorem tk_tok (b : Fin 16) (i : Fin 4) : tk (tok b i) = i := Fin.ext (show (4 * b.val + i.val) % 4 = i.val by omega)

theorem blk1 (c : Dev nD) (t : Fin cfg0.N) (b : Fin 16) (i : Fin 4) (h : Fin 4) (d : Fin 128) :
    X0_1 m c t (ix2 (tok b i) (chan h d)) = a0 m c (ix2 (rowS (seqAt t.val b) i) (colS 512 h d)) := by
  unfold X0_1 Pipeline.Window.fill
  rw [dif_pos (moved0_1 t _)]
  refine Eq.trans ?_ (congrFun (V_main_arg0 m c) (ix2 (rowS (seqAt t.val b) i) (colS 512 h d)))
  show V m c main_arg0 (((cfg0.win 1).blk t).view.emb _) = _
  refine congrArg _ (funext fun a => Fin.ext ?_)
  obtain ⟨e0, e1⟩ := idx1 t
  have ht := N8 t
  match a with
  | ⟨0, _⟩ => show win0_1.index t (0 : Fin 2) * 64 + 1 * (4 * b.val + i.val) = 4 * ((16 * t.val + b.val) % 128) + i.val; omega
  | ⟨1, _⟩ => show win0_1.index t (1 : Fin 2) * 512 + 1 * (h.val * 128 + d.val) = (512 + h.val * 128 + d.val) % 2560; omega

theorem blk2 (c : Dev nD) (t : Fin cfg0.N) (b : Fin 16) (i : Fin 4) (h : Fin 4) (d : Fin 128) :
    X0_2 m c t (ix2 (tok b i) (chan h d)) = a0 m c (ix2 (rowS (seqAt t.val b) i) (colS 1024 h d)) := by
  unfold X0_2 Pipeline.Window.fill
  rw [dif_pos (moved0_2 t _)]
  refine Eq.trans ?_ (congrFun (V_main_arg0 m c) (ix2 (rowS (seqAt t.val b) i) (colS 1024 h d)))
  show V m c main_arg0 (((cfg0.win 2).blk t).view.emb _) = _
  refine congrArg _ (funext fun a => Fin.ext ?_)
  obtain ⟨e0, e1⟩ := idx2 t
  have ht := N8 t
  match a with
  | ⟨0, _⟩ => show win0_2.index t (0 : Fin 2) * 64 + 1 * (4 * b.val + i.val) = 4 * ((16 * t.val + b.val) % 128) + i.val; omega
  | ⟨1, _⟩ => show win0_2.index t (1 : Fin 2) * 512 + 1 * (h.val * 128 + d.val) = (1024 + h.val * 128 + d.val) % 2560; omega

theorem blk4 (c : Dev nD) (t : Fin cfg0.N) (b : Fin 16) (k : Nat) (hk : k < 4) (hl : 4 * b.val + k < 64) (q : Fin 512) :
    X0_4 m c t (ix2 ⟨4 * b.val + k, hl⟩ q) = a0 m c (ix2 (rowS (seqAt t.val b) ⟨k, hk⟩) ⟨2048 + q.val, by omega⟩) := by
  unfold X0_4 Pipeline.Window.fill
  rw [dif_pos (moved0_4 t _)]
  refine Eq.trans ?_ (congrFun (V_main_arg0 m c) (ix2 (rowS (seqAt t.val b) ⟨k, hk⟩) ⟨2048 + q.val, by omega⟩))
  show V m c main_arg0 (((cfg0.win 4).blk t).view.emb _) = _
  refine congrArg _ (funext fun a => Fin.ext ?_)
  obtain ⟨e0, e1⟩ := idx4 t
  have ht := N8 t
  match a with
  | ⟨0, _⟩ => show win0_4.index t (0 : Fin 2) * 64 + 1 * (4 * b.val + k) = 4 * ((16 * t.val + b.val) % 128) + k; omega
  | ⟨1, _⟩ => show win0_4.index t (1 : Fin 2) * 512 + 1 * q.val = 2048 + q.val; omega

theorem blk6 (c : Dev nD) (t : Fin cfg0.N) (b : Fin 16) (h : Fin 4) (d e : Fin 128) :
    iblk m c 6 t (ix4 b h d e) = a2 m c (ix5 0 (seqAt t.val b) h d e) := by
  refine Eq.trans ?_ (V0 m c (seqAt t.val b) h d e)
  show V m c main_v0 (((cfg0.win 6).blk t).view.emb (ix4 b h d e)) = _
  refine congrArg _ (funext fun a => Fin.ext ?_)
  obtain ⟨e0, e1, e2, e3⟩ := idx6 t
  have ht := N8 t
  match a with
  | ⟨0, _⟩ => show win0_6.index t (0 : Fin 4) * 16 + 1 * b.val = (16 * t.val + b.val) % 128; omega
  | ⟨1, _⟩ => show win0_6.index t (1 : Fin 4) * 4 + 1 * h.val = h.val; omega
  | ⟨2, _⟩ => show win0_6.index t (2 : Fin 4) * 128 + 1 * d.val = d.val; omega
  | ⟨3, _⟩ => show win0_6.index t (3 : Fin 4) * 128 + 1 * e.val = e.val; omega

theorem blk7 (c : Dev nD) (t : Fin cfg0.N) (b : Fin 16) (r : Fin 15) (q : Fin 512) :
    iblk m c 7 t (ix3 b r q) = a3 m c (ix4 0 (seqAt t.val b) r q) := by
  refine Eq.trans ?_ (V1 m c (seqAt t.val b) r q)
  show V m c main_v1 (((cfg0.win 7).blk t).view.emb (ix3 b r q)) = _
  refine congrArg _ (funext fun a => Fin.ext ?_)
  obtain ⟨e0, e1, e2⟩ := idx7 t
  have ht := N8 t
  match a with
  | ⟨0, _⟩ => show win0_7.index t (0 : Fin 3) * 16 + 1 * b.val = (16 * t.val + b.val) % 128; omega
  | ⟨1, _⟩ => show win0_7.index t (1 : Fin 3) * 15 + 1 * r.val = r.val; omega
  | ⟨2, _⟩ => show win0_7.index t (2 : Fin 3) * 512 + 1 * q.val = q.val; omega

theorem blk8 (c : Dev nD) (t : Fin cfg0.N) (b : Fin 16) (i : Fin 4) (d : Fin 128) :
    iblk m c 8 t (ix2 (tok b i) d) = cosS (ix2 i (freq d)) := by
  refine Eq.trans ?_ ((V34 m c (tok b i) d).trans (by rw [tk_tok]))
  show V m c main_v34 (((cfg0.win 8).blk t).view.emb (ix2 (tok b i) d)) = _
  refine congrArg _ (funext fun a => Fin.ext ?_)
  obtain ⟨e0, e1⟩ := idx8 t
  match a with
  | ⟨0, _⟩ => show win0_8.index t (0 : Fin 2) * 64 + 1 * (tok b i).val = (tok b i).val; omega
  | ⟨1, _⟩ => show win0_8.index t (1 : Fin 2) * 128 + 1 * d.val = d.val; omega

theorem blk9 (c : Dev nD) (t : Fin cfg0.N) (b : Fin 16) (i : Fin 4) (d : Fin 128) :
    iblk m c 9 t (ix2 (tok b i) d) = signedS i d := by
  refine Eq.trans ?_ ((V36 m c (tok b i) d).trans (by rw [tk_tok]; rfl))
  show V m c main_v36 (((cfg0.win 9).blk t).view.emb (ix2 (tok b i) d)) = _
  refine congrArg _ (funext fun a => Fin.ext ?_)
  obtain ⟨e0, e1⟩ := idx9 t
  match a with
  | ⟨0, _⟩ => show win0_9.index t (0 : Fin 2) * 64 + 1 * (tok b i).val = (tok b i).val; omega
  | ⟨1, _⟩ => show win0_9.index t (1 : Fin 2) * 128 + 1 * d.val = d.val; omega

theorem blk12 (c : Dev nD) (t : Fin cfg0.N) (h : Fin 4) (b : Fin 16) (i : Fin 4) (d : Fin 128) :
    iblk m c 12 t (ix3 h (tok b i) d) = decS h i := by
  refine Eq.trans ?_ ((V85 m c h (tok b i) d).trans (by rw [tk_tok]))
  show V m c main_v85 (((cfg0.win 12).blk t).view.emb (ix3 h (tok b i) d)) = _
  refine congrArg _ (funext fun a => Fin.ext ?_)
  obtain ⟨e0, e1, e2⟩ := idx12 t
  match a with
  | ⟨0, _⟩ => show win0_12.index t (0 : Fin 3) * 4 + 1 * h.val = h.val; omega
  | ⟨1, _⟩ => show win0_12.index t (1 : Fin 3) * 64 + 1 * (tok b i).val = (tok b i).val; omega
  | ⟨2, _⟩ => show win0_12.index t (2 : Fin 3) * 128 + 1 * d.val = d.val; omega

/-- What a point leaves of a sequence's state. -/
theorem point_state (c : Dev nD) (t : Fin cfg0.N) (b : Fin 16) (h : Fin 4) (d e : Fin 128) :
    (outsAt0 m c t).2.1 (ix4 b h d e) = newState (a0 m c) (a2 m c) (seqAt t.val b) h d e := by
  simp only [outsAt0]
  rw [out19]
  unfold stateOf newState
  refine congrArg₂ (· + ·) (congrArg (gam h.val * ·) (blk6 m c t b h d e)) (Finset.sum_congr rfl fun i _ => ?_)
  exact congrArg₂ (· * ·) (congrArg₂ (· * ·) (congrArg₂ (· + ·) (congrArg₂ (· * ·) (blk1 m c t b i h d) (blk8 m c t b i d))
    (congrArg₂ (· * ·) (blk1 m c t b i h (half d)) (blk9 m c t b i d))) (blk12 m c t h b i d)) (blk2 m c t b i h e)

/-- What a point leaves of a sequence's pooling buffer. -/
theorem point_buffer (c : Dev nD) (t : Fin cfg0.N) (b : Fin 16) (r : Fin 15) (q : Fin 512) :
    (outsAt0 m c t).2.2 (ix3 b r q) = newBuffer (a0 m c) (a3 m c) (seqAt t.val b) r q := by
  simp only [outsAt0]
  rw [out20]
  unfold bufferOf newBuffer
  by_cases hr : r.val < 11
  · rw [dif_pos hr, dif_pos hr]
    exact blk7 m c t b _ q
  · rw [dif_neg hr, dif_neg hr]
    exact blk4 m c t b _ _ _ q

end Cert.Decode

end
-- ==== Proof.Decode.Value.lean ====
/- The decoding mixer's arrays after the run: every sequence's new state and pooling buffer. -/
module

public import proofs.«01_k».proof.Proof.Decode.Blocks

@[expose] public section

set_option maxRecDepth 16384

noncomputable section

namespace Cert.Decode

open Cert.Kernel5Ideal Cert.Kernel5Ideal.Gen Cert.Rows
open Idealize.ShloMosaic Idealize.ShloMosaic.TcCoe Idealize.SL.Sem

variable (m : (ℓ : Loc nD τ sig) → Buf (Elt Ideal) ℓ) (ρ : Dev nD → PrngReg)

/-- The states' array after the run. -/
def G19 (c : Dev nD) : Vec Ideal S128x4x128x128 .f32 := fun y => newState (a0 m c) (a2 m c) (y 0) (y 1) (y 2) (y 3)
/-- The pooling buffers' array after the run. -/
def G20 (c : Dev nD) : Vec Ideal S128x15x512 .f32 := fun y => newBuffer (a0 m c) (a3 m c) (y 0) (y 1) (y 2)

theorem idx19 : ∀ t : Fin cfg0.N, win0_19.index t (0 : Fin 4) = t.val ∧ win0_19.index t (1 : Fin 4) = 0 ∧ win0_19.index t (2 : Fin 4) = 0 ∧ win0_19.index t (3 : Fin 4) = 0 := (by decide +kernel : ∀ t : Fin grid0.N, _)
theorem idx20 : ∀ t : Fin cfg0.N, win0_20.index t (0 : Fin 3) = t.val ∧ win0_20.index t (1 : Fin 3) = 0 ∧ win0_20.index t (2 : Fin 3) = 0 := (by decide +kernel : ∀ t : Fin grid0.N, _)
theorem writes19 : ∀ t : Fin cfg0.N, (cfg0.win 19).flush t = true := (by decide +kernel : ∀ t : Fin grid0.N, win0_19.flush t = true)
theorem writes20 : ∀ t : Fin cfg0.N, (cfg0.win 20).flush t = true := (by decide +kernel : ∀ t : Fin grid0.N, win0_20.flush t = true)

theorem flushed19_eq (c : Dev nD) (t : Fin cfg0.N) : (dats m 0 c).flushed 19 t = ((cfg0.win 19).blk t).view.read (Elt Ideal) (G19 m c) := by
  rw [Value.flushed19]
  obtain ⟨e0, e1, e2, e3⟩ := idx19 t
  have ht := N8 t
  funext y
  have h0 : (y 0).val < 16 := (y 0).isLt
  have h1 : (y 1).val < 4 := (y 1).isLt
  have h2 : (y 2).val < 128 := (y 2).isLt
  have h3 : (y 3).val < 128 := (y 3).isLt
  have hx : (cfg0.win 19).xinj (grid0.coords t) y = ix4 (⟨(y 0).val, h0⟩ : Fin 16) (⟨(y 1).val, h1⟩ : Fin 4) (⟨(y 2).val, h2⟩ : Fin 128) (⟨(y 3).val, h3⟩ : Fin 128) :=
    funext fun a => match a with
      | ⟨0, _⟩ => rfl
      | ⟨1, _⟩ => rfl
      | ⟨2, _⟩ => rfl
      | ⟨3, _⟩ => rfl
  show (outsAt0 m c t).2.1 ((cfg0.win 19).xinj (grid0.coords t) y) = G19 m c (((cfg0.win 19).blk t).view.emb y)
  rw [hx, point_state]
  unfold G19
  have i0 : seqAt t.val (⟨(y 0).val, h0⟩ : Fin 16) = ((cfg0.win 19).blk t).view.emb y 0 :=
    Fin.ext (show (16 * t.val + (y 0).val) % 128 = win0_19.index t (0 : Fin 4) * 16 + 1 * (y 0).val by omega)
  have i1 : (⟨(y 1).val, h1⟩ : Fin 4) = ((cfg0.win 19).blk t).view.emb y 1 :=
    Fin.ext (show (y 1).val = win0_19.index t (1 : Fin 4) * 4 + 1 * (y 1).val by omega)
  have i2 : (⟨(y 2).val, h2⟩ : Fin 128) = ((cfg0.win 19).blk t).view.emb y 2 :=
    Fin.ext (show (y 2).val = win0_19.index t (2 : Fin 4) * 128 + 1 * (y 2).val by omega)
  have i3 : (⟨(y 3).val, h3⟩ : Fin 128) = ((cfg0.win 19).blk t).view.emb y 3 :=
    Fin.ext (show (y 3).val = win0_19.index t (3 : Fin 4) * 128 + 1 * (y 3).val by omega)
  rw [i0, i1, i2, i3]

theorem flushed20_eq (c : Dev nD) (t : Fin cfg0.N) : (dats m 0 c).flushed 20 t = ((cfg0.win 20).blk t).view.read (Elt Ideal) (G20 m c) := by
  rw [Value.flushed20]
  obtain ⟨e0, e1, e2⟩ := idx20 t
  have ht := N8 t
  funext y
  have h0 : (y 0).val < 16 := (y 0).isLt
  have h1 : (y 1).val < 15 := (y 1).isLt
  have h2 : (y 2).val < 512 := (y 2).isLt
  have hx : (cfg0.win 20).xinj (grid0.coords t) y = ix3 (⟨(y 0).val, h0⟩ : Fin 16) (⟨(y 1).val, h1⟩ : Fin 15) (⟨(y 2).val, h2⟩ : Fin 512) :=
    funext fun a => match a with
      | ⟨0, _⟩ => rfl
      | ⟨1, _⟩ => rfl
      | ⟨2, _⟩ => rfl
  show (outsAt0 m c t).2.2 ((cfg0.win 20).xinj (grid0.coords t) y) = G20 m c (((cfg0.win 20).blk t).view.emb y)
  rw [hx, point_buffer]
  unfold G20
  have i0 : seqAt t.val (⟨(y 0).val, h0⟩ : Fin 16) = ((cfg0.win 20).blk t).view.emb y 0 :=
    Fin.ext (show (16 * t.val + (y 0).val) % 128 = win0_20.index t (0 : Fin 3) * 16 + 1 * (y 0).val by omega)
  have i1 : (⟨(y 1).val, h1⟩ : Fin 15) = ((cfg0.win 20).blk t).view.emb y 1 :=
    Fin.ext (show (y 1).val = win0_20.index t (1 : Fin 3) * 15 + 1 * (y 1).val by omega)
  have i2 : (⟨(y 2).val, h2⟩ : Fin 512) = ((cfg0.win 20).blk t).view.emb y 2 :=
    Fin.ext (show (y 2).val = win0_20.index t (2 : Fin 3) * 512 + 1 * (y 2).val by omega)
  rw [i0, i1, i2]

theorem mem_blk19 (t : Fin cfg0.N) (i : S128x4x128x128.Idx) :
    i ∈ ((cfg0.win 19).blk t).view.set ↔ ∀ a : Fin 4, win0_19.index t a * S16x4x128x128.size a ≤ (i a).val ∧ (i a).val < win0_19.index t a * S16x4x128x128.size a + S16x4x128x128.size a := by
  show i ∈ ((View.whole main_v86_1).slice (win0_19.rect t)).set ↔ _
  rw [View.set_slice_whole, Rect.mem_set_unit]
  exact Iff.rfl

theorem mem_blk20 (t : Fin cfg0.N) (i : S128x15x512.Idx) :
    i ∈ ((cfg0.win 20).blk t).view.set ↔ ∀ a : Fin 3, win0_20.index t a * S16x15x512.size a ≤ (i a).val ∧ (i a).val < win0_20.index t a * S16x15x512.size a + S16x15x512.size a := by
  show i ∈ ((View.whole main_v86_2).slice (win0_20.rect t)).set ↔ _
  rw [View.set_slice_whole, Rect.mem_set_unit]
  exact Iff.rfl

/-- The point that holds a sequence. -/
def pointOf (s : Nat) (h : s < 128) : Fin cfg0.N := ⟨s / 16, lt_of_lt_of_eq (by omega : s / 16 < 8) N_0.symm⟩

/-- The states' array after the run. -/
theorem final19 (c : Dev nD) : (dats m 0 c).arrAt 19 cfg0.N = G19 m c :=
  (dats m 0 c).arrAt_eq_of_cover 19 _ (fun t _ => flushed19_eq m c t) fun i => by
    have h0 : (i 0).val < 128 := (i 0).isLt
    have h1 : (i 1).val < 4 := (i 1).isLt
    have h2 : (i 2).val < 128 := (i 2).isLt
    have h3 : (i 3).val < 128 := (i 3).isLt
    refine ⟨pointOf (i 0).val h0, writes19 _, (mem_blk19 _ i).2 fun a => ?_⟩
    obtain ⟨e0, e1, e2, e3⟩ := idx19 (pointOf (i 0).val h0)
    have ev : (pointOf (i 0).val h0).val = (i 0).val / 16 := rfl
    match a with
    | ⟨0, _⟩ => show win0_19.index _ (0 : Fin 4) * 16 ≤ (i 0).val ∧ (i 0).val < win0_19.index _ (0 : Fin 4) * 16 + 16; omega
    | ⟨1, _⟩ => show win0_19.index _ (1 : Fin 4) * 4 ≤ (i 1).val ∧ (i 1).val < win0_19.index _ (1 : Fin 4) * 4 + 4; omega
    | ⟨2, _⟩ => show win0_19.index _ (2 : Fin 4) * 128 ≤ (i 2).val ∧ (i 2).val < win0_19.index _ (2 : Fin 4) * 128 + 128; omega
    | ⟨3, _⟩ => show win0_19.index _ (3 : Fin 4) * 128 ≤ (i 3).val ∧ (i 3).val < win0_19.index _ (3 : Fin 4) * 128 + 128; omega

/-- The pooling buffers' array after the run. -/
theorem final20 (c : Dev nD) : (dats m 0 c).arrAt 20 cfg0.N = G20 m c :=
  (dats m 0 c).arrAt_eq_of_cover 20 _ (fun t _ => flushed20_eq m c t) fun i => by
    have h0 : (i 0).val < 128 := (i 0).isLt
    have h1 : (i 1).val < 15 := (i 1).isLt
    have h2 : (i 2).val < 512 := (i 2).isLt
    refine ⟨pointOf (i 0).val h0, writes20 _, (mem_blk20 _ i).2 fun a => ?_⟩
    obtain ⟨e0, e1, e2⟩ := idx20 (pointOf (i 0).val h0)
    have ev : (pointOf (i 0).val h0).val = (i 0).val / 16 := rfl
    match a with
    | ⟨0, _⟩ => show win0_20.index _ (0 : Fin 3) * 16 ≤ (i 0).val ∧ (i 0).val < win0_20.index _ (0 : Fin 3) * 16 + 16; omega
    | ⟨1, _⟩ => show win0_20.index _ (1 : Fin 3) * 15 ≤ (i 1).val ∧ (i 1).val < win0_20.index _ (1 : Fin 3) * 15 + 15; omega
    | ⟨2, _⟩ => show win0_20.index _ (2 : Fin 3) * 512 ≤ (i 2).val ∧ (i 2).val < win0_20.index _ (2 : Fin 3) * 512 + 512; omega

/-- The run: the two arrays, and the arguments unchanged. -/
theorem run_values : θ_run defs (onTc (τ := τ) (main (F := Ideal))) ⟨m, fun _ => 0, ρ⟩ fun r => ∀ c : Dev nD,
      r.2.mem ((c : Thread nD τ).loc main_v86_1) = G19 m c
      ∧ r.2.mem ((c : Thread nD τ).loc main_v86_2) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).2.1.trans (final19 m c), (h c).2.2.1.trans (final20 m c), (h c).2.2.2⟩)
    (Value.run_blocks m ρ)

end Cert.Decode

end
-- ==== Proof.Decode.Ref.lean ====
/- What the plain program leaves in the sampled sequences' retention states and pooling buffers, entry by entry. -/
module

public import proofs.«01_k».proof.Proof.Decode.Blocks

@[expose] public section

set_option maxRecDepth 16384

noncomputable section

namespace Cert.Decode

open Cert.Reference5Ideal Cert.Reference5Ideal.Gen Cert.Reference5Ideal.Read Cert.Rows
open Idealize.ShloMosaic
open scoped BigOperators

variable (x0 : Vec Ideal S528x2560 .f32) (x2 : Vec Ideal S1x128x4x128x128 .f32) (x3 : Vec Ideal S1x128x15x512 .f32)

theorem ref_key (b : Fin 128) (h k : Fin 4) (d : Fin 128) : val_main_v18 (F := Ideal) x0 (ix4 b h k d) = x0 (ix2 (rowS b k) (colS 512 h d)) := by
  rw [val_main_v18_apply, val_main_v17_apply, val_main_v10_apply, val_main_v8_apply]
  refine congrArg x0 (funext fun a => Fin.ext ?_)
  have hb := b.isLt; have hh := h.isLt; have hk := k.isLt; have hd := d.isLt
  match a with
  | ⟨0, _⟩ => show (((b.val * 4 + k.val) * 4 + h.val) * 128 + d.val) / 512 = 4 * b.val + k.val; omega
  | ⟨1, _⟩ => show 512 + (((b.val * 4 + k.val) * 4 + h.val) * 128 + d.val) % 512 = (512 + h.val * 128 + d.val) % 2560; omega

theorem ref_value (b : Fin 128) (h k : Fin 4) (d : Fin 128) : val_main_v55 (F := Ideal) x0 (ix4 b h k d) = x0 (ix2 (rowS b k) (colS 1024 h d)) := by
  rw [val_main_v55_apply, val_main_v54_apply, val_main_v11_apply, val_main_v8_apply]
  refine congrArg x0 (funext fun a => Fin.ext ?_)
  have hb := b.isLt; have hh := h.isLt; have hk := k.isLt; have hd := d.isLt
  match a with
  | ⟨0, _⟩ => show (((b.val * 4 + k.val) * 4 + h.val) * 128 + d.val) / 512 = 4 * b.val + k.val; omega
  | ⟨1, _⟩ => show 1024 + (((b.val * 4 + k.val) * 4 + h.val) * 128 + d.val) % 512 = (1024 + h.val * 128 + d.val) % 2560; omega

/-- A lane of the first half, among a head's channels. -/
def lane0 (i : Fin 64) : Fin 128 := ⟨i.val, by omega⟩
/-- The same lane of the second half. -/
def lane1 (i : Fin 64) : Fin 128 := ⟨64 + i.val, by omega⟩

theorem ref_first (b : Fin 128) (h k : Fin 4) (i : Fin 64) : val_main_v37 (F := Ideal) x0 (ix4 b h k i) = x0 (ix2 (rowS b k) (colS 512 h (lane0 i))) := by
  have e : idx_main_v37 (ix4 b h k i) = ix4 b h k (lane0 i) := funext fun a => match a with
    | ⟨0, _⟩ => rfl
    | ⟨1, _⟩ => rfl
    | ⟨2, _⟩ => rfl
    | ⟨3, _⟩ => rfl
  rw [val_main_v37_apply, e, ref_key]

theorem ref_second (b : Fin 128) (h k : Fin 4) (i : Fin 64) : val_main_v38 (F := Ideal) x0 (ix4 b h k i) = x0 (ix2 (rowS b k) (colS 512 h (lane1 i))) := by
  have e : idx_main_v38 (ix4 b h k i) = ix4 b h k (lane1 i) := funext fun a => match a with
    | ⟨0, _⟩ => rfl
    | ⟨1, _⟩ => rfl
    | ⟨2, _⟩ => rfl
    | ⟨3, _⟩ => rfl
  rw [val_main_v38_apply, e, ref_key]

theorem ref_lo (b : Fin 128) (h k : Fin 4) (i : Fin 64) : val_main_v45 (F := Ideal) x0 (ix4 b h k i)
    = x0 (ix2 (rowS b k) (colS 512 h (lane0 i))) * cosS (ix2 k i) - x0 (ix2 (rowS b k) (colS 512 h (lane1 i))) * sinS (ix2 k i) := by
  have e1 : idx_main_v39 (idx_main_v40 (ix4 b h k i)) = ix2 k i := funext fun a => match a with
    | ⟨0, _⟩ => rfl
    | ⟨1, _⟩ => rfl
  have e2 : idx_main_v42 (idx_main_v43 (ix4 b h k i)) = ix2 k i := funext fun a => match a with
    | ⟨0, _⟩ => rfl
    | ⟨1, _⟩ => rfl
  rw [val_main_v45_apply, val_main_v41_apply, val_main_v44_apply, ref_first, ref_second, val_main_v40_apply, val_main_v39_apply, val_main_v43_apply, val_main_v42_apply, e1, e2]
  rfl

theorem ref_hi (b : Fin 128) (h k : Fin 4) (i : Fin 64) : val_main_v52 (F := Ideal) x0 (ix4 b h k i)
    = x0 (ix2 (rowS b k) (colS 512 h (lane1 i))) * cosS (ix2 k i) + x0 (ix2 (rowS b k) (colS 512 h (lane0 i))) * sinS (ix2 k i) := by
  have e1 : idx_main_v46 (idx_main_v47 (ix4 b h k i)) = ix2 k i := funext fun a => match a with
    | ⟨0, _⟩ => rfl
    | ⟨1, _⟩ => rfl
  have e2 : idx_main_v49 (idx_main_v50 (ix4 b h k i)) = ix2 k i := funext fun a => match a with
    | ⟨0, _⟩ => rfl
    | ⟨1, _⟩ => rfl
  rw [val_main_v52_apply, val_main_v48_apply, val_main_v51_apply, ref_first, ref_second, val_main_v47_apply, val_main_v46_apply, val_main_v50_apply, val_main_v49_apply, e1, e2]
  rfl

/-- A token's rotated keys. -/
theorem ref_rope (b : Fin 128) (h k : Fin 4) (d : Fin 128) : val_main_v53 (F := Ideal) x0 (ix4 b h k d)
    = x0 (ix2 (rowS b k) (colS 512 h d)) * cosS (ix2 k (freq d)) + x0 (ix2 (rowS b k) (colS 512 h (half d))) * signedS k d := by
  have hlt := d.isLt
  unfold val_main_v53 signedS
  by_cases hd : d.val < 64
  · have l0 : lane0 (freq d) = d := Fin.ext (Nat.mod_eq_of_lt hd)
    have l1 : lane1 (freq d) = half d := Fin.ext (show 64 + d.val % 64 = (d.val + 64) % 128 by omega)
    rw [if_pos hd, mul_neg, ← sub_eq_add_neg]
    refine (concatenate_pair_apply_left (t := S128x4x4x128) (s₁ := S128x4x4x64) (s₂ := S128x4x4x64) 3 (val_main_v45 (F := Ideal) x0) (val_main_v52 (F := Ideal) x0)
      concatenates_S128x4x4x64_S128x4x4x64_S128x4x4x128_d3 (ix4 b h k d) rfl (ix4 b h k (freq d)) fun b => ?_).trans
      ((ref_lo x0 b h k (freq d)).trans (by rw [l0, l1]))
    match b with
    | ⟨0, _⟩ => rfl
    | ⟨1, _⟩ => rfl
    | ⟨2, _⟩ => rfl
    | ⟨3, _⟩ => exact Nat.mod_eq_of_lt hd
  · have l1 : lane1 (freq d) = d := Fin.ext (show 64 + d.val % 64 = d.val by omega)
    have l0 : lane0 (freq d) = half d := Fin.ext (show d.val % 64 = (d.val + 64) % 128 by omega)
    rw [if_neg hd]
    refine (concatenate_pair_apply_right (t := S128x4x4x128) (s₁ := S128x4x4x64) (s₂ := S128x4x4x64) 3 (val_main_v45 (F := Ideal) x0) (val_main_v52 (F := Ideal) x0)
      concatenates_S128x4x4x64_S128x4x4x64_S128x4x4x128_d3 (ix4 b h k d) rfl rfl (ix4 b h k (freq d)) (fun b hb => ?_) ?_).trans
      ((ref_hi x0 b h k (freq d)).trans (by rw [l0, l1]))
    · match b, hb with
      | ⟨0, _⟩, _ => rfl
      | ⟨1, _⟩, _ => rfl
      | ⟨2, _⟩, _ => rfl
      | ⟨3, _⟩, hb => exact absurd rfl hb
    · show d.val % 64 + 64 = d.val
      omega

theorem ref_decay (b : Fin 128) (h k : Fin 4) (d : Fin 128) : val_main_v66 (F := Ideal) (ix4 b h k d) = decS h k := by
  have e1 : idx_main_v57 (idx_main_v61 (idx_main_v65 (idx_main_v66 (ix4 b h k d)))) = ix1 h := funext fun a => match a with
    | ⟨0, _⟩ => rfl
  have e2 : idx_main_v60 (idx_main_v62 (idx_main_v65 (idx_main_v66 (ix4 b h k d)))) = ix1 k := funext fun a => match a with
    | ⟨0, _⟩ => rfl
  rw [val_main_v66_apply, val_main_v65_apply, val_main_v64_apply, val_main_v63_apply, val_main_v61_apply, val_main_v57_apply, val_main_v62_apply, val_main_v60_apply, e1, e2]
  rfl

theorem ref_gam (b : Fin 128) (h : Fin 4) (d e : Fin 128) : val_main_v73 (F := Ideal) (ix4 b h d e) = gam h.val := by
  have four : Ideal.ofBits .f32 0x40800000#32 = ((4 : ℝ) : EReal) := by
    simp [Ideal.ofBits, Ideal.ieee, -EReal.coe_mul]; norm_num
  have e1 : idx_main_v71 (idx_main_v73 (ix4 b h d e)) = ix1 h := funext fun a => match a with
    | ⟨0, _⟩ => rfl
  rw [val_main_v73_apply, val_main_v71_apply, val_main_v70_apply, val_main_v69_apply, val_main_v68_apply, val_main_cst_7_apply, e1, gam_eq, ← four]
  rfl

/-- A sequence's new state. -/
theorem ref_state (b : Fin 128) (h : Fin 4) (d e : Fin 128) : val_main_v76 (F := Ideal) x0 x2 (ix4 b h d e) = newState x0 x2 b h d e := by
  have hb := b.isLt; have hh := h.isLt; have hd := d.isLt; have he := e.isLt
  rw [val_main_v76_apply, val_main_v74_apply, val_main_v75_apply, ref_gam, val_main_v72_apply]
  unfold newState
  refine congrArg₂ (· + ·) (congrArg (fun y => gam h.val * x2 y) (funext fun a => Fin.ext ?_)) (Finset.sum_congr rfl fun k _ => ?_)
  · match a with
    | ⟨0, _⟩ => rfl
    | ⟨1, _⟩ => show (((b.val * 4 + h.val) * 128 + d.val) * 128 + e.val) / 65536 % 128 = b.val; omega
    | ⟨2, _⟩ => show (((b.val * 4 + h.val) * 128 + d.val) * 128 + e.val) / 16384 % 4 = h.val; omega
    | ⟨3, _⟩ => show (((b.val * 4 + h.val) * 128 + d.val) * 128 + e.val) / 128 % 128 = d.val; omega
    | ⟨4, _⟩ => show (((b.val * 4 + h.val) * 128 + d.val) * 128 + e.val) % 128 = e.val; omega
  · have e1 : lidx_main_v75 (ix4 b h d e) k = ix4 b h k d := funext fun a => match a with
      | ⟨0, _⟩ => rfl
      | ⟨1, _⟩ => rfl
      | ⟨2, _⟩ => rfl
      | ⟨3, _⟩ => rfl
    have e2 : ridx_main_v75 (ix4 b h d e) k = ix4 b h k e := funext fun a => match a with
      | ⟨0, _⟩ => rfl
      | ⟨1, _⟩ => rfl
      | ⟨2, _⟩ => rfl
      | ⟨3, _⟩ => rfl
    rw [e1, e2, val_main_v67_apply, ref_rope, ref_decay, ref_value]
    rfl

/-- A sequence's new pooling buffer. -/
theorem ref_buffer (b : Fin 128) (r : Fin 15) (q : Fin 512) : val_main_v80 (F := Ideal) x0 x3 (ix3 b r q) = newBuffer x0 x3 b r q := by
  have hb := b.isLt; have hr := r.isLt; have hq := q.isLt
  have e : idx_main_v80 (ix3 b r q) = ix3 b (⟨4 + r.val, by omega⟩ : Fin 19) q := funext fun a => match a with
    | ⟨0, _⟩ => rfl
    | ⟨1, _⟩ => rfl
    | ⟨2, _⟩ => rfl
  rw [val_main_v80_apply, e]
  unfold val_main_v79 newBuffer
  by_cases h : r.val < 11
  · rw [dif_pos h]
    refine (concatenate_pair_apply_left (t := S128x19x512) (s₁ := S128x15x512) (s₂ := S128x4x512) 1 (val_main_v77 (F := Ideal) x3) (val_main_v78 (F := Ideal) x0)
      concatenates_S128x15x512_S128x4x512_S128x19x512_d1 (ix3 b (⟨4 + r.val, by omega⟩ : Fin 19) q) rfl (ix3 b ⟨r.val + 4, by omega⟩ q) fun a => ?_).trans ?_
    · match a with
      | ⟨0, _⟩ => rfl
      | ⟨1, _⟩ => exact Nat.add_comm r.val 4
      | ⟨2, _⟩ => rfl
    · rw [val_main_v77_apply]
      refine congrArg x3 (funext fun a => Fin.ext ?_)
      match a with
      | ⟨0, _⟩ => rfl
      | ⟨1, _⟩ => show ((b.val * 15 + (r.val + 4)) * 512 + q.val) / 7680 % 128 = b.val; omega
      | ⟨2, _⟩ => show ((b.val * 15 + (r.val + 4)) * 512 + q.val) / 512 % 15 = r.val + 4; omega
      | ⟨3, _⟩ => show ((b.val * 15 + (r.val + 4)) * 512 + q.val) % 512 = q.val; omega
  · rw [dif_neg h]
    refine (concatenate_pair_apply_right (t := S128x19x512) (s₁ := S128x15x512) (s₂ := S128x4x512) 1 (val_main_v77 (F := Ideal) x3) (val_main_v78 (F := Ideal) x0)
      concatenates_S128x15x512_S128x4x512_S128x19x512_d1 (ix3 b (⟨4 + r.val, by omega⟩ : Fin 19) q) rfl rfl (ix3 b ⟨r.val - 11, by omega⟩ q) (fun a ha => ?_) ?_).trans ?_
    · match a, ha with
      | ⟨0, _⟩, _ => rfl
      | ⟨1, _⟩, ha => exact absurd rfl ha
      | ⟨2, _⟩, _ => rfl
    · show r.val - 11 + 15 = 4 + r.val
      omega
    · rw [val_main_v78_apply, val_main_v13_apply, val_main_v8_apply]
      refine congrArg x0 (funext fun a => Fin.ext ?_)
      match a with
      | ⟨0, _⟩ => show ((b.val * 4 + (r.val - 11)) * 512 + q.val) / 512 = 4 * b.val + (r.val - 11); omega
      | ⟨1, _⟩ => show 2048 + ((b.val * 4 + (r.val - 11)) * 512 + q.val) % 512 = 2048 + q.val; omega

end Cert.Decode

end
-- ==== Proof.Decode.Claims.lean ====
/- The claims about the decoding mixer's call: its frames, its idealization and its states and pooling buffers against the
   plain program's. -/
module

public import proofs.«01_k».proof.Defs
public import proofs.«01_k».proof.Proof.Decode.Value
public import proofs.«01_k».proof.Proof.Decode.Ref
public import proofs.«01_k».proof.Proof.Gen.Kernel5.Frame
public import proofs.«01_k».proof.Proof.Gen.Reference5Ideal.Run
public import Idealize.ShloMosaic.Lib.Claim

@[expose] public section

set_option maxRecDepth 16384

noncomputable section

namespace Cert.Decode

open Idealize.ShloMosaic Idealize.SL.Sem Cert.Rows

attribute [local instance] Cert.Kernel5.Gen.facts Cert.Kernel5Ideal.Gen.facts

theorem frame_kernel : Cert.quiescent_Kernel5 := fun m g _ => Cert.Kernel5.Gen.frame (F := Bits) m g

theorem frame_kernelIdeal : Cert.quiescent_Kernel5Ideal := fun m g _ => Cert.Kernel5Ideal.Gen.frame (F := Ideal) m g

/-- The plain program leaves its arguments and has no semaphore. -/
theorem frame_ref : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- Each named constant is its literal, rounded. -/
theorem named : Cert.preserves_Kernel5_Kernel5Ideal :=
  ⟨IdealRules.named_const.statement _ "gamma_0_d" .f32 0x3F617810#32 _ rfl, IdealRules.named_const.statement _ "gamma_1_d" .f32 0x3F705F01#32 _ rfl,
    IdealRules.named_const.statement _ "gamma_2_d" .f32 0x3F7817E0#32 _ rfl, IdealRules.named_const.statement _ "gamma_3_d" .f32 0x3F7C05FC#32 _ rfl⟩

open Cert.Reference5Ideal in
theorem same_states (a : Vec Ideal S528x2560 .f32) (s : Vec Ideal S1x128x4x128x128 .f32) (m : (ℓ : Loc Cert.Kernel5Ideal.nD Cert.Kernel5Ideal.τ Cert.Kernel5Ideal.sig) → Buf (Elt Ideal) ℓ)
    (k : Dev Cert.Kernel5Ideal.nD) (ha : a = a0 m k) (hs : s = a2 m k) : Read.val_main_v76 (F := Ideal) a s = G19 m k := by
  subst ha hs
  funext y
  obtain ⟨b, h, d, e, rfl⟩ : ∃ (b : Fin 128) (h : Fin 4) (d e : Fin 128), y = ix4 b h d e := ⟨y 0, y 1, y 2, y 3, ValueIdx.eq_ix4 y⟩
  exact ref_state _ _ b h d e

open Cert.Reference5Ideal in
theorem same_buffers (a : Vec Ideal S528x2560 .f32) (s : Vec Ideal S1x128x15x512 .f32) (m : (ℓ : Loc Cert.Kernel5Ideal.nD Cert.Kernel5Ideal.τ Cert.Kernel5Ideal.sig) → Buf (Elt Ideal) ℓ)
    (k : Dev Cert.Kernel5Ideal.nD) (ha : a = a0 m k) (hs : s = a3 m k) : Read.val_main_v80 (F := Ideal) a s = G20 m k := by
  subst ha hs
  funext y
  obtain ⟨b, r, q, rfl⟩ : ∃ (b : Fin 128) (r : Fin 15) (q : Fin 512), y = ix3 b r q := ⟨y 0, y 1, y 2, ValueIdx.eq_ix3 y⟩
  exact ref_buffer _ _ b r q

/-- The sampled sequences' states and pooling buffers. -/
theorem sample_states : Cert.algebraic_Kernel5Ideal_Reference5Ideal := by
  intro m g m' g' _ hag
  refine ⟨fun c => G19 m c, fun c => G20 m c, run_values m g, ?_⟩
  refine (θ_run Cert.Reference5Ideal.defs _ _).mono (fun r h c => ⟨(h c).1.trans ?_, (h c).2.1.trans ?_, (h c).2.2⟩)
    (Cert.Reference5Ideal.Value.run (F := Ideal) m' g')
  · exact (Cert.Reference5Ideal.Read.val_main_v76_eq m' c).trans (same_states _ _ m c (hag c).1 (hag c).2.2.1)
  · exact (Cert.Reference5Ideal.Read.val_main_v80_eq _ _).trans (same_buffers _ _ m c (hag c).1 (hag c).2.2.2.1)

end Cert.Decode

end
-- ==== Proof.Tile.lean ====
/- A tile of rows of the feed-forward half-step: the gated activation goes through a scratch buffer in eleven chunks of
   256 columns and comes back whole. Used by each call of the half-step. -/
module

public import proofs.«01_k».proof.Proof.Rows
public import Idealize.ShloMosaic.Lib.Claim

@[expose] public section

noncomputable section

namespace Cert.Tile

open Idealize.ShloMosaic Cert.Rows

/-- The shape of a matrix. -/
abbrev Sh (a b : Nat) : Shape := ⟨2, ![a, b]⟩

/-- The gated activation of a tile of rows. -/
def hidden {n : Nat} (x0 : Vec Ideal (Sh n 1024) .f32) (x1 x2 : Vec Ideal (Sh 1024 2816) .bf16) (y : (Sh n 2816).Idx) : EReal :=
  gated (fun k => x0 (ix2 (y 0) k)) (fun k j => x1 (ix2 k j)) (fun k j => x2 (ix2 k j)) (y 1)

/-- The result tile of a tile of rows. -/
def tile {n : Nat} (x0 : Vec Ideal (Sh n 1024) .f32) (x1 x2 : Vec Ideal (Sh 1024 2816) .bf16) (x3 : Vec Ideal (Sh 2816 1024) .bf16)
    (x4 x5 : Vec Ideal (Sh 1 1024) .f32) (y : (Sh n 1024).Idx) : EReal :=
  ffnRow (fun k => x0 (ix2 (y 0) k)) (fun k j => x1 (ix2 k j)) (fun k j => x2 (ix2 k j)) (fun k j => x3 (ix2 k j))
    (fun j => x4 (ix2 0 j)) (fun j => x5 (ix2 0 j)) (y 1)

/-- The projected tile of a tile of rows. -/
def projTile {n : Nat} (x0 : Vec Ideal (Sh n 1024) .f32) (x1 x2 : Vec Ideal (Sh 1024 2816) .bf16) (x3 : Vec Ideal (Sh 2816 1024) .bf16)
    (x4 x5 : Vec Ideal (Sh 1 1024) .f32) (x6 : Vec Ideal (Sh 1024 2560) .bf16) (y : (Sh n 2560).Idx) : EReal :=
  mulRow (fun l => tile x0 x1 x2 x3 x4 x5 (ix2 (y 0) l)) (fun l j => x6 (ix2 l j)) (y 1)

theorem hz : (![0, 0] : Fin 2 → Nat) = fun _ => 0 := funext fun a => by fin_cases a <;> rfl

/-- A chunk of 256 columns of the activation, at column `o` of the scratch buffer, is the activation's own block there. -/
theorem chunk {n : Nat} (x0 : Vec Ideal (Sh n 1024) .f32) (x1 x2 : Vec Ideal (Sh 1024 2816) .bf16) (o : Nat)
    (inb : ∀ a, (![0, o] : Fin 2 → Nat) a + (![n, 256] : Fin 2 → Nat) a ≤ (Sh n 2816).size a) (ho : o + 256 ≤ 2816)
    (p : Vec Ideal (Sh n 256) .bf16)
    (hp : ∀ (r : Fin n) (l : Fin 256), p (ix2 r l) = gated (fun k => x0 (ix2 r k))
      (fun k j => x1 (ix2 k (⟨o + j.val, by have := j.isLt; omega⟩ : Fin 2816)))
      (fun k (j : Fin 256) => x2 (ix2 k (⟨o + j.val, by have := j.isLt; omega⟩ : Fin 2816))) l) (x : (Sh n 256).Idx) :
    p x = hidden x0 x1 x2 ((Rect.unit (s := (Sh n 2816)) ![0, o] ![n, 256] inb).emb x) := by
  have e0 : ((Rect.unit (s := (Sh n 2816)) ![0, o] ![n, 256] inb).emb x) 0 = x 0 :=
    Fin.ext (by show 0 + 1 * (x 0).val = (x 0).val; omega)
  have e1 : ((Rect.unit (s := (Sh n 2816)) ![0, o] ![n, 256] inb).emb x) 1
      = (⟨o + (x 1).val, by have : (x 1).val < 256 := (x 1).isLt; omega⟩ : Fin 2816) :=
    Fin.ext (by show o + 1 * (x 1).val = o + (x 1).val; omega)
  unfold hidden
  rw [e0, e1]
  exact (congrArg p (ValueIdx.eq_ix2 x)).trans (hp (x 0) (x 1))

/-- Stores that each leave the activation's own block, and that cover the buffer, leave the activation. -/
theorem canon_hidden {n : Nat} (x0 : Vec Ideal (Sh n 1024) .f32) (x1 x2 : Vec Ideal (Sh 1024 2816) .bf16)
    (L : List (View.Piece (Elt Ideal) (Sh n 2816) .bf16)) (hc : ∀ y, ∃ p ∈ L, y ∈ p.1.set)
    (hp : ∀ p ∈ L, ∀ x : p.1.shape.Idx, p.2 x = hidden x0 x1 x2 (p.1.emb x)) : View.canon L = hidden x0 x1 x2 :=
  funext fun y => View.canon_apply_of_pieces (hidden x0 x1 x2) L hp y (hc y)

/-- The result array as one function of the argument arrays. -/
def G {n : Nat} (a0 : Vec Ideal (Sh n 1024) .f32) (a1 a2 : Vec Ideal (⟨3, ![1, 1024, 2816]⟩ : Shape) .f32) (a3 : Vec Ideal (⟨3, ![1, 2816, 1024]⟩ : Shape) .f32)
    (a4 a5 : Vec Ideal (Sh 1 1024) .f32) (y : (Sh n 1024).Idx) : EReal :=
  ffnRow (fun k => a0 (ix2 (y 0) k)) (fun k j => a1 (ix3 0 k j)) (fun k j => a2 (ix3 0 k j)) (fun k j => a3 (ix3 0 k j))
    (fun j => a4 (ix2 0 j)) (fun j => a5 (ix2 0 j)) (y 1)

end Cert.Tile

end
-- ==== Proof.Ffn2.lean ====
/- The first half-step's feed-forward call, with the input projection: what the kernel's two result arrays hold after the run, and that the
   reference's arrays hold the same. One grid point writes one block of 512 rows; eleven column chunks of the gated
   activation go through the scratch buffer and come back whole, then the down projection, the residual and the
   normalisation are stored. Each row is `Rows.ffnRow` of the same row of the argument. -/
module

public import proofs.«01_k».proof.Proof.Gen.Kernel2Ideal.Value
public import proofs.«01_k».proof.Proof.Tile

@[expose] public section

noncomputable section

namespace Cert.Ffn2

open Idealize.ShloMosaic Idealize.ShloMosaic.TcCoe Idealize.SL.Sem Cert.Rows Cert.Tile
open Cert.Kernel2Ideal Cert.Kernel2Ideal.Gen Cert.Kernel2Ideal.Value

theorem out_eq (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2560 .bf16) (harg7 : arg7.IsWhole) (arg8 : Memref sig .tc .vmem S512x1024 .f32) (harg8 : arg8.IsWhole) (arg9 : Memref sig .tc .vmem S512x2560 .f32) (harg9 : arg9.IsWhole) (arg10 : Memref sig .tc .vmem S512x2816 .bf16) (harg10 : arg10.IsWhole)
    (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (x6 : Vec Ideal S1024x2560 .bf16) :
    out0_A_7 c i arg1 harg1 arg2 harg2 arg3 harg3 arg4 harg4 arg5 harg5 arg6 harg6 arg7 harg7 arg8 harg8 arg9 harg9 arg10 harg10 x0 x1 x2 x3 x4 x5 x6
      = tile x0 x1 x2 x3 x4 x5 := by
  have l0 : ∀ inb, View.ld x0 (Rect.unit ![0, 0] ![512, 1024] inb) = x0 := fun inb => View.ld_unit_zero hz inb x0
  have l3 : ∀ inb, View.ld x3 (Rect.unit ![0, 0] ![2816, 1024] inb) = x3 := fun inb => View.ld_unit_zero hz inb x3
  have l4 : ∀ inb, View.ld x4 (Rect.unit ![0, 0] ![1, 1024] inb) = x4 := fun inb => View.ld_unit_zero hz inb x4
  have l5 : ∀ inb, View.ld x5 (Rect.unit ![0, 0] ![1, 1024] inb) = x5 := fun inb => View.ld_unit_zero hz inb x5
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    l0, l3, l4, l5]
  have hidx : ∀ inb, (fun j => hidden x0 x1 x2 ((Rect.unit (s := S512x2816) ![0, 0] ![512, 2816] inb).toLoadRect.idx j)) = hidden x0 x1 x2 :=
    fun inb => View.ld_unit_zero (Val := Elt Ideal) (e := .bf16) hz inb (hidden x0 x1 x2)
  have scratch : ∀ (L : List (View.Piece (Elt Ideal) S512x2816 .bf16)) inb,
      (∀ y, ∃ p ∈ L, y ∈ p.1.set) → (∀ p ∈ L, ∀ x : p.1.shape.Idx, p.2 x = hidden x0 x1 x2 (p.1.emb x)) →
      arg10.view.readCov L (Rect.unit (s := S512x2816) ![0, 0] ![512, 2816] inb).toLoadRect = hidden x0 x1 x2 := fun L inb hc hp => by
    rw [View.readCov_eq_canon']
    rw [canon_hidden x0 x1 x2 L hc hp]
    exact hidx inb
  refine Eq.trans (congrArg (fun h => k0_pay18 x0 h x3 x4 x5) (scratch _ _ ?_ ?_)) ?_
  · intro y
    exact View.cover_of_tiledL (s := S512x2816) _ S512x256.size (by sl_kernel_rfl) y
  · simp only [List.forall_mem_cons, List.not_mem_nil, false_imp_iff, implies_true, and_true]
    refine ⟨?_, ?_, ?_, ?_, ?_, ?_, ?_, ?_, ?_, ?_, ?_⟩ <;>
      refine chunk x0 x1 x2 _ _ (by norm_num) _ fun r l => ?_ <;>
      · pointwise [k0_pay2, k0_pay3, k0_pay4, k0_pay5, k0_pay6, k0_pay7, k0_pay8, k0_pay9, k0_pay10, k0_pay11, k0_pay12,
          k0_pay13, k0_pay14, k0_pay15, k0_pay16, k0_pay17]
        rfl
  · funext y
    obtain ⟨r, l, rfl⟩ : ∃ r l, y = ix2 r l := ⟨y 0, y 1, ValueIdx.eq_ix2 y⟩
    pointwise [k0_pay18]
    rfl

theorem proj_eq (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2560 .bf16) (harg7 : arg7.IsWhole) (arg8 : Memref sig .tc .vmem S512x1024 .f32) (harg8 : arg8.IsWhole) (arg9 : Memref sig .tc .vmem S512x2560 .f32) (harg9 : arg9.IsWhole) (arg10 : Memref sig .tc .vmem S512x2816 .bf16) (harg10 : arg10.IsWhole)
    (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (x6 : Vec Ideal S1024x2560 .bf16) :
    out0_A_8 c i arg1 harg1 arg2 harg2 arg3 harg3 arg4 harg4 arg5 harg5 arg6 harg6 arg7 harg7 arg8 harg8 arg9 harg9 arg10 harg10 x0 x1 x2 x3 x4 x5 x6
      = projTile x0 x1 x2 x3 x4 x5 x6 := by
  have l0 : ∀ inb, View.ld x0 (Rect.unit ![0, 0] ![512, 1024] inb) = x0 := fun inb => View.ld_unit_zero hz inb x0
  have l3 : ∀ inb, View.ld x3 (Rect.unit ![0, 0] ![2816, 1024] inb) = x3 := fun inb => View.ld_unit_zero hz inb x3
  have l4 : ∀ inb, View.ld x4 (Rect.unit ![0, 0] ![1, 1024] inb) = x4 := fun inb => View.ld_unit_zero hz inb x4
  have l5 : ∀ inb, View.ld x5 (Rect.unit ![0, 0] ![1, 1024] inb) = x5 := fun inb => View.ld_unit_zero hz inb x5
  have l6 : ∀ inb, View.ld x6 (Rect.unit ![0, 0] ![1024, 2560] inb) = x6 := fun inb => View.ld_unit_zero hz inb x6
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    l0, l3, l4, l5, l6]
  have hidx : ∀ inb, (fun j => hidden x0 x1 x2 ((Rect.unit (s := S512x2816) ![0, 0] ![512, 2816] inb).toLoadRect.idx j)) = hidden x0 x1 x2 :=
    fun inb => View.ld_unit_zero (Val := Elt Ideal) (e := .bf16) hz inb (hidden x0 x1 x2)
  have scratch : ∀ (L : List (View.Piece (Elt Ideal) S512x2816 .bf16)) inb,
      (∀ y, ∃ p ∈ L, y ∈ p.1.set) → (∀ p ∈ L, ∀ x : p.1.shape.Idx, p.2 x = hidden x0 x1 x2 (p.1.emb x)) →
      arg10.view.readCov L (Rect.unit (s := S512x2816) ![0, 0] ![512, 2816] inb).toLoadRect = hidden x0 x1 x2 := fun L inb hc hp => by
    rw [View.readCov_eq_canon']
    rw [canon_hidden x0 x1 x2 L hc hp]
    exact hidx inb
  refine Eq.trans (congrArg (fun h => k0_pay1 (k0_pay18 x0 h x3 x4 x5) x6) (scratch _ _ ?_ ?_)) ?_
  · intro y
    exact View.cover_of_tiledL (s := S512x2816) _ S512x256.size (by sl_kernel_rfl) y
  · simp only [List.forall_mem_cons, List.not_mem_nil, false_imp_iff, implies_true, and_true]
    refine ⟨?_, ?_, ?_, ?_, ?_, ?_, ?_, ?_, ?_, ?_, ?_⟩ <;>
      refine chunk x0 x1 x2 _ _ (by norm_num) _ fun r l => ?_ <;>
      · pointwise [k0_pay2, k0_pay3, k0_pay4, k0_pay5, k0_pay6, k0_pay7, k0_pay8, k0_pay9, k0_pay10, k0_pay11, k0_pay12,
          k0_pay13, k0_pay14, k0_pay15, k0_pay16, k0_pay17]
        rfl
  · funext y
    obtain ⟨r, l, rfl⟩ : ∃ r l, y = ix2 r l := ⟨y 0, y 1, ValueIdx.eq_ix2 y⟩
    pointwise [k0_pay1, k0_pay18]
    rfl

variable (m : (ℓ : Loc nD τ sig) → Buf (Elt Ideal) ℓ) (ρ : Dev nD → PrngReg)

theorem V1 (c : Dev nD) (k : Fin 1024) (j : Fin 2816) : V m c main_v1 (ix2 k j) = m ((c : Thread nD τ).loc main_arg1) (ix3 0 k j) := by
  have h : @Eq (Vec Ideal S1024x2816 .bf16) (V m c main_v1) (truncf (F := Ideal) .bf16 (shapeCast S1024x2816 (m ((c : Thread nD τ).loc main_arg1) : Vec Ideal S1x1024x2816 .f32) shapeCasts_S1x1024x2816_S1024x2816) bitsLt_bf16_f32) := by
    unfold_abbrev_sides; after_results_simp <;> rfl
  rw [h]; exact dropUnit2 _ _ k j
theorem V3 (c : Dev nD) (k : Fin 1024) (j : Fin 2816) : V m c main_v3 (ix2 k j) = m ((c : Thread nD τ).loc main_arg2) (ix3 0 k j) := by
  have h : @Eq (Vec Ideal S1024x2816 .bf16) (V m c main_v3) (truncf (F := Ideal) .bf16 (shapeCast S1024x2816 (m ((c : Thread nD τ).loc main_arg2) : Vec Ideal S1x1024x2816 .f32) shapeCasts_S1x1024x2816_S1024x2816) bitsLt_bf16_f32) := by
    unfold_abbrev_sides; after_results_simp <;> rfl
  rw [h]; exact dropUnit2 _ _ k j
theorem V5 (c : Dev nD) (k : Fin 2816) (j : Fin 1024) : V m c main_v5 (ix2 k j) = m ((c : Thread nD τ).loc main_arg3) (ix3 0 k j) := by
  have h : @Eq (Vec Ideal S2816x1024 .bf16) (V m c main_v5) (truncf (F := Ideal) .bf16 (shapeCast S2816x1024 (m ((c : Thread nD τ).loc main_arg3) : Vec Ideal S1x2816x1024 .f32) shapeCasts_S1x2816x1024_S2816x1024) bitsLt_bf16_f32) := by
    unfold_abbrev_sides; after_results_simp <;> rfl
  rw [h]; exact dropUnit2 _ _ k j
theorem V7 (c : Dev nD) (j : Fin 1024) : V m c main_v7 (ix2 0 j) = m ((c : Thread nD τ).loc main_arg4) (ix2 0 j) := by
  have h : V m c main_v7 = shapeCast S1x1024 (shapeCast S1024 (m ((c : Thread nD τ).loc main_arg4)) shapeCasts_S1x1024_S1024) shapeCasts_S1024_S1x1024 := by
    unfold_abbrev_sides; after_results_simp <;> rfl
  rw [h, shapeCast_shapeCast]
theorem V9 (c : Dev nD) (j : Fin 1024) : V m c main_v9 (ix2 0 j) = m ((c : Thread nD τ).loc main_arg5) (ix2 0 j) := by
  have h : V m c main_v9 = shapeCast S1x1024 (shapeCast S1024 (m ((c : Thread nD τ).loc main_arg5)) shapeCasts_S1x1024_S1024) shapeCasts_S1024_S1x1024 := by
    unfold_abbrev_sides; after_results_simp <;> rfl
  rw [h, shapeCast_shapeCast]

theorem V11 (c : Dev nD) (k : Fin 1024) (j : Fin 2560) : V m c main_v11 (ix2 k j) = m ((c : Thread nD τ).loc main_arg6) (ix3 0 k j) := by
  have h : @Eq (Vec Ideal S1024x2560 .bf16) (V m c main_v11) (truncf (F := Ideal) .bf16 (shapeCast S1024x2560 (m ((c : Thread nD τ).loc main_arg6) : Vec Ideal S1x1024x2560 .f32) shapeCasts_S1x1024x2560_S1024x2560) bitsLt_bf16_f32) := by
    unfold_abbrev_sides; after_results_simp <;> rfl
  rw [h]; exact dropUnit2 _ _ k j
theorem idx0 : ∀ t : Fin cfg0.N, win0_0.index t (0 : Fin 2) = t.val ∧ win0_0.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

/-- The row of the array that row `r` of block `t` is. -/
def rowOf (t : Fin cfg0.N) (r : Fin 512) : Fin 16384 := ⟨t.val * 512 + r.val, by have := t.isLt; have h := N_0; have := r.isLt; simp only [Pipeline.Cfg.N] at *; omega⟩

theorem iblk0_eq (c : Dev nD) (t : Fin cfg0.N) (r : Fin 512) (k : Fin 1024) :
    iblk m c 0 t (ix2 r k) = m ((c : Thread nD τ).loc main_arg0) (ix2 (rowOf t r) k) := by
  refine Eq.trans ?_ (congrFun (V_main_arg0 m c) (ix2 (rowOf t r) k))
  show V m c main_arg0 (((cfg0.win 0).blk t).view.emb (ix2 r k)) = _
  refine congrArg _ (funext fun a => Fin.ext ?_)
  obtain ⟨e0, e1⟩ := idx0 t
  match a with
  | ⟨0, _⟩ => show win0_0.index t (0 : Fin 2) * 512 + 1 * r.val = t.val * 512 + r.val; omega
  | ⟨1, _⟩ => show win0_0.index t (1 : Fin 2) * 1024 + 1 * k.val = k.val; omega
theorem iblk1_eq (c : Dev nD) (t : Fin cfg0.N) (k : Fin 1024) (j : Fin 2816) :
    iblk m c 1 t (ix2 k j) = m ((c : Thread nD τ).loc main_arg1) (ix3 0 k j) := by
  refine Eq.trans ?_ (V1 m c k j)
  show V m c main_v1 (((cfg0.win 1).blk t).view.emb (ix2 k j)) = _
  refine congrArg _ (funext fun a => Fin.ext ?_)
  obtain ⟨e0, e1⟩ := idx1 t
  match a with
  | ⟨0, _⟩ => show win0_1.index t (0 : Fin 2) * 1024 + 1 * k.val = k.val; omega
  | ⟨1, _⟩ => show win0_1.index t (1 : Fin 2) * 2816 + 1 * j.val = j.val; omega
theorem iblk2_eq (c : Dev nD) (t : Fin cfg0.N) (k : Fin 1024) (j : Fin 2816) :
    iblk m c 2 t (ix2 k j) = m ((c : Thread nD τ).loc main_arg2) (ix3 0 k j) := by
  refine Eq.trans ?_ (V3 m c k j)
  show V m c main_v3 (((cfg0.win 2).blk t).view.emb (ix2 k j)) = _
  refine congrArg _ (funext fun a => Fin.ext ?_)
  obtain ⟨e0, e1⟩ := idx2 t
  match a with
  | ⟨0, _⟩ => show win0_2.index t (0 : Fin 2) * 1024 + 1 * k.val = k.val; omega
  | ⟨1, _⟩ => show win0_2.index t (1 : Fin 2) * 2816 + 1 * j.val = j.val; omega
theorem iblk3_eq (c : Dev nD) (t : Fin cfg0.N) (k : Fin 2816) (j : Fin 1024) :
    iblk m c 3 t (ix2 k j) = m ((c : Thread nD τ).loc main_arg3) (ix3 0 k j) := by
  refine Eq.trans ?_ (V5 m c k j)
  show V m c main_v5 (((cfg0.win 3).blk t).view.emb (ix2 k j)) = _
  refine congrArg _ (funext fun a => Fin.ext ?_)
  obtain ⟨e0, e1⟩ := idx3 t
  match a with
  | ⟨0, _⟩ => show win0_3.index t (0 : Fin 2) * 2816 + 1 * k.val = k.val; omega
  | ⟨1, _⟩ => show win0_3.index t (1 : Fin 2) * 1024 + 1 * j.val = j.val; omega
theorem iblk4_eq (c : Dev nD) (t : Fin cfg0.N) (j : Fin 1024) :
    iblk m c 4 t (ix2 0 j) = m ((c : Thread nD τ).loc main_arg4) (ix2 0 j) := by
  refine Eq.trans ?_ (V7 m c j)
  show V m c main_v7 (((cfg0.win 4).blk t).view.emb (ix2 0 j)) = _
  refine congrArg _ (funext fun a => Fin.ext ?_)
  obtain ⟨e0, e1⟩ := idx4 t
  match a with
  | ⟨0, _⟩ => show win0_4.index t (0 : Fin 2) * 1 + 1 * 0 = 0; omega
  | ⟨1, _⟩ => show win0_4.index t (1 : Fin 2) * 1024 + 1 * j.val = j.val; omega
theorem iblk5_eq (c : Dev nD) (t : Fin cfg0.N) (j : Fin 1024) :
    iblk m c 5 t (ix2 0 j) = m ((c : Thread nD τ).loc main_arg5) (ix2 0 j) := by
  refine Eq.trans ?_ (V9 m c j)
  show V m c main_v9 (((cfg0.win 5).blk t).view.emb (ix2 0 j)) = _
  refine congrArg _ (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * j.val = j.val; omega

theorem iblk6_eq (c : Dev nD) (t : Fin cfg0.N) (k : Fin 1024) (j : Fin 2560) :
    iblk m c 6 t (ix2 k j) = m ((c : Thread nD τ).loc main_arg6) (ix3 0 k j) := by
  refine Eq.trans ?_ (V11 m c k j)
  show V m c main_v11 (((cfg0.win 6).blk t).view.emb (ix2 k j)) = _
  refine congrArg _ (funext fun a => Fin.ext ?_)
  obtain ⟨e0, e1⟩ := idx6 t
  match a with
  | ⟨0, _⟩ => show win0_6.index t (0 : Fin 2) * 1024 + 1 * k.val = k.val; omega
  | ⟨1, _⟩ => show win0_6.index t (1 : Fin 2) * 2560 + 1 * j.val = j.val; omega

theorem emb7 (t : Fin cfg0.N) (r : Fin 512) (l : Fin 1024) : ((cfg0.win 7).blk t).view.emb (ix2 r l) = ix2 (rowOf t r) l := by
  obtain ⟨e0, e1⟩ := idx7 t
  funext a; apply Fin.ext
  match a with
  | ⟨0, _⟩ => show win0_7.index t (0 : Fin 2) * 512 + 1 * r.val = t.val * 512 + r.val; omega
  | ⟨1, _⟩ => show win0_7.index t (1 : Fin 2) * 1024 + 1 * l.val = l.val; omega

/-- The result array of the launch arguments. -/
abbrev GV (c : Dev nD) : Vec Ideal S16384x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The result tile of a grid point is the result array's own row there. -/
theorem tile_eq (c : Dev nD) (t : Fin cfg0.N) (r : Fin 512) (l : Fin 1024) :
    tile (iblk m c 0 t) (iblk m c 1 t) (iblk m c 2 t) (iblk m c 3 t) (iblk m c 4 t) (iblk m c 5 t) (ix2 r l)
      = GV m c (ix2 (rowOf t r) l) := by
  unfold tile GV G
  have h0 : (fun k => iblk m c 0 t (ix2 r k)) = fun k => m ((c : Thread nD τ).loc main_arg0) (ix2 (rowOf t r) k) := funext fun k => iblk0_eq m c t r k
  have h1 : (fun k j => iblk m c 1 t (ix2 k j)) = fun k j => m ((c : Thread nD τ).loc main_arg1) (ix3 0 k j) := funext fun k => funext fun j => iblk1_eq m c t k j
  have h2 : (fun k j => iblk m c 2 t (ix2 k j)) = fun k j => m ((c : Thread nD τ).loc main_arg2) (ix3 0 k j) := funext fun k => funext fun j => iblk2_eq m c t k j
  have h3 : (fun k j => iblk m c 3 t (ix2 k j)) = fun k j => m ((c : Thread nD τ).loc main_arg3) (ix3 0 k j) := funext fun k => funext fun j => iblk3_eq m c t k j
  have h4 : (fun j => iblk m c 4 t (ix2 0 j)) = fun j => m ((c : Thread nD τ).loc main_arg4) (ix2 0 j) := funext fun j => iblk4_eq m c t j
  have h5 : (fun j => iblk m c 5 t (ix2 0 j)) = fun j => m ((c : Thread nD τ).loc main_arg5) (ix2 0 j) := funext fun j => iblk5_eq m c t j
  show ffnRow (fun k => iblk m c 0 t (ix2 r k)) (fun k j => iblk m c 1 t (ix2 k j)) (fun k j => iblk m c 2 t (ix2 k j))
    (fun k j => iblk m c 3 t (ix2 k j)) (fun j => iblk m c 4 t (ix2 0 j)) (fun j => iblk m c 5 t (ix2 0 j)) l = _
  rw [h0, h1, h2, h3, h4, h5]
  rfl

/-- What a grid point writes back is its block of the result. -/
theorem flushed7_eq (c : Dev nD) (t : Fin cfg0.N) :
    (dats m 0 c).flushed 7 t = ((cfg0.win 7).blk t).view.read (Elt Ideal) (GV m c) := by
  rw [flushed7_A, out_eq]
  funext j
  obtain ⟨r, l, rfl⟩ : ∃ (r : Fin 512) (l : Fin 1024), j = ix2 r l := ⟨j 0, j 1, ValueIdx.eq_ix2 j⟩
  show tile (iblk m c 0 t) (iblk m c 1 t) (iblk m c 2 t) (iblk m c 3 t) (iblk m c 4 t) (iblk m c 5 t) (ix2 r l)
    = GV m c (((cfg0.win 7).blk t).view.emb (ix2 r l))
  rw [emb7]
  exact tile_eq m c t r l

/-- Every row is in the block of its quotient by 512. -/
theorem covered7 (i : S16384x1024.Idx) :
    ∃ t : Fin cfg0.N, (cfg0.win 7).flush t = true ∧ i ∈ ((cfg0.win 7).blk t).view.set := by
  have hi : (i 0).val < 16384 := (i 0).isLt
  let t : Fin cfg0.N := ⟨(i 0).val / 512, by show _ < grid0.N; rw [N_0]; omega⟩
  let r : Fin 512 := ⟨(i 0).val % 512, by omega⟩
  refine ⟨t, flush0_7 _, ?_⟩
  have e : ((cfg0.win 7).blk t).view.emb (ix2 r (i 1)) = i := (emb7 t r (i 1)).trans (by
    funext a; apply Fin.ext
    match a with
    | ⟨0, _⟩ => show (i 0).val / 512 * 512 + (i 0).val % 512 = (i 0).val; omega
    | ⟨1, _⟩ => rfl)
  exact e ▸ ((cfg0.win 7).blk t).view.emb_mem_set (ix2 r (i 1))

/-- The result array after the run. -/
theorem final7 (c : Dev nD) : (dats m 0 c).arrAt 7 cfg0.N = GV m c :=
  (dats m 0 c).arrAt_eq_of_cover 7 (GV m c) (fun t _ => flushed7_eq m c t) covered7

theorem emb8 (t : Fin cfg0.N) (r : Fin 512) (l : Fin 2560) : ((cfg0.win 8).blk t).view.emb (ix2 r l) = ix2 (rowOf t r) l := by
  obtain ⟨e0, e1⟩ := idx8 t
  funext a; apply Fin.ext
  match a with
  | ⟨0, _⟩ => show win0_8.index t (0 : Fin 2) * 512 + 1 * r.val = t.val * 512 + r.val; omega
  | ⟨1, _⟩ => show win0_8.index t (1 : Fin 2) * 2560 + 1 * l.val = l.val; omega

/-- The projected array of the launch arguments. -/
abbrev GP (c : Dev nD) : Vec Ideal S16384x2560 .f32 := fun y =>
  mulRow (fun l => GV m c (ix2 (y 0) l)) (fun l j => m ((c : Thread nD τ).loc main_arg6) (ix3 0 l j)) (y 1)

/-- What a grid point writes back is its block of the projected array. -/
theorem flushed8_eq (c : Dev nD) (t : Fin cfg0.N) :
    (dats m 0 c).flushed 8 t = ((cfg0.win 8).blk t).view.read (Elt Ideal) (GP m c) := by
  rw [flushed8_A, proj_eq]
  funext j
  obtain ⟨r, l, rfl⟩ : ∃ (r : Fin 512) (l : Fin 2560), j = ix2 r l := ⟨j 0, j 1, ValueIdx.eq_ix2 j⟩
  show projTile (iblk m c 0 t) (iblk m c 1 t) (iblk m c 2 t) (iblk m c 3 t) (iblk m c 4 t) (iblk m c 5 t) (iblk m c 6 t) (ix2 r l)
    = GP m c (((cfg0.win 8).blk t).view.emb (ix2 r l))
  rw [emb8]
  have h6 : (fun k j => iblk m c 6 t (ix2 k j)) = fun k j => m ((c : Thread nD τ).loc main_arg6) (ix3 0 k j) := funext fun k => funext fun j => iblk6_eq m c t k j
  have hx : (fun l => tile (iblk m c 0 t) (iblk m c 1 t) (iblk m c 2 t) (iblk m c 3 t) (iblk m c 4 t) (iblk m c 5 t) (ix2 r l))
      = fun l => GV m c (ix2 (rowOf t r) l) := funext fun l => tile_eq m c t r l
  show mulRow (fun l => tile (iblk m c 0 t) (iblk m c 1 t) (iblk m c 2 t) (iblk m c 3 t) (iblk m c 4 t) (iblk m c 5 t) (ix2 r l))
    (fun k j => iblk m c 6 t (ix2 k j)) l = _
  rw [hx, h6]
  rfl

/-- Every row is in the block of its quotient by 512. -/
theorem covered8 (i : S16384x2560.Idx) :
    ∃ t : Fin cfg0.N, (cfg0.win 8).flush t = true ∧ i ∈ ((cfg0.win 8).blk t).view.set := by
  have hi : (i 0).val < 16384 := (i 0).isLt
  let t : Fin cfg0.N := ⟨(i 0).val / 512, by show _ < grid0.N; rw [N_0]; omega⟩
  let r : Fin 512 := ⟨(i 0).val % 512, by omega⟩
  refine ⟨t, flush0_8 _, ?_⟩
  have e : ((cfg0.win 8).blk t).view.emb (ix2 r (i 1)) = i := (emb8 t r (i 1)).trans (by
    funext a; apply Fin.ext
    match a with
    | ⟨0, _⟩ => show (i 0).val / 512 * 512 + (i 0).val % 512 = (i 0).val; omega
    | ⟨1, _⟩ => rfl)
  exact e ▸ ((cfg0.win 8).blk t).view.emb_mem_set (ix2 r (i 1))

/-- The result array after the run. -/
theorem final8 (c : Dev nD) : (dats m 0 c).arrAt 8 cfg0.N = GP m c :=
  (dats m 0 c).arrAt_eq_of_cover 8 (GP m c) (fun t _ => flushed8_eq m c t) covered8

end Cert.Ffn2

end
-- ==== Proof.Ffn2Ref.lean ====
/- The plain feed-forward program's result array, row by row. -/
module

public import proofs.«01_k».proof.Proof.Gen.Reference2Ideal.Read
public import proofs.«01_k».proof.Proof.Rows

@[expose] public section

noncomputable section

namespace Cert.Ffn2Ref

open Idealize.ShloMosaic Idealize.ShloMosaic.TcCoe Idealize.SL.Sem Cert.Rows
open Cert.Reference2Ideal Cert.Reference2Ideal.Gen Cert.Reference2Ideal.Read

variable (x0 : Vec Ideal S16384x1024 .f32) (x1 x2 : Vec Ideal S1x1024x2816 .f32) (x3 : Vec Ideal S1x2816x1024 .f32)
  (x4 x5 : Vec Ideal S1x1024 .f32)

theorem gate_w (k : Fin 1024) (j : Fin 2816) : val_main_v2 (F := Ideal) x1 (ix2 k j) = x1 (ix3 0 k j) := dropUnit2 x1 _ k j
theorem up_w (k : Fin 1024) (j : Fin 2816) : val_main_v3 (F := Ideal) x2 (ix2 k j) = x2 (ix3 0 k j) := dropUnit2 x2 _ k j
theorem down_w (k : Fin 2816) (j : Fin 1024) : val_main_v4 (F := Ideal) x3 (ix2 k j) = x3 (ix3 0 k j) := dropUnit2 x3 _ k j
theorem gain (j : Fin 1024) : val_main_v13 (F := Ideal) x4 (ix1 j) = x4 (ix2 0 j) := dropUnit1 x4 _ j
theorem offset (j : Fin 1024) : val_main_v14 (F := Ideal) x5 (ix1 j) = x5 (ix2 0 j) := dropUnit1 x5 _ j

/-- The gated activation of row `r`. -/
theorem act (r : Fin 16384) (j : Fin 2816) : val_main_v8 (F := Ideal) x0 x1 x2 (ix2 r j)
    = gated (fun k => x0 (ix2 r k)) (fun k j => x1 (ix3 0 k j)) (fun k j => x2 (ix3 0 k j)) j := by
  pointwise [val_main_v8, val_main_v6, val_main_v7, val_main_v5, val_main_call0_v5, val_main_call0_v4, val_main_call0_v3,
    val_main_call0_v2, val_main_call0_v1, val_main_call0_v0, val_main_call0_cst, val_main_call0_cst_0]
  simp only [gate_w, up_w, Ideal.ofBits_one_f32]
  rfl

/-- The residual sum of row `r`. -/
theorem resid (r : Fin 16384) (j : Fin 1024) : val_main_v12 (F := Ideal) x0 x1 x2 x3 (ix2 r j)
    = halfStep (fun k => x0 (ix2 r k)) (fun k j => x1 (ix3 0 k j)) (fun k j => x2 (ix3 0 k j)) (fun k j => x3 (ix3 0 k j)) j := by
  pointwise [val_main_v12, val_main_v11, val_main_v10, val_main_v9, val_main_v1, val_main_v0, val_main_cst, val_main_cst_0]
  simp only [act, down_w]
  rfl

/-- Each row of the result is the half-step of the argument's row. -/
theorem val_eq (r : Fin 16384) (l : Fin 1024) : val_main_v38 (F := Ideal) x0 x1 x2 x3 x4 x5 (ix2 r l)
    = ffnRow (fun k => x0 (ix2 r k)) (fun k j => x1 (ix3 0 k j)) (fun k j => x2 (ix3 0 k j)) (fun k j => x3 (ix3 0 k j))
      (fun j => x4 (ix2 0 j)) (fun j => x5 (ix2 0 j)) l := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_cst_1,
    val_main_cst_2, val_main_cst_3, val_main_cst_4, val_main_cst_5]
  simp only [resid, gain, offset]
  rfl

variable (x6 : Vec Ideal S1x1024x2560 .f32)

theorem proj_w (k : Fin 1024) (j : Fin 2560) : val_main_v39 (F := Ideal) x6 (ix2 k j) = x6 (ix3 0 k j) := dropUnit2 x6 _ k j

/-- Each row of the projected array is the result's row times the projection. -/
theorem proj_eq (r : Fin 16384) (l : Fin 2560) : val_main_v40 (F := Ideal) x0 x1 x2 x3 x4 x5 x6 (ix2 r l)
    = mulRow (ffnRow (fun k => x0 (ix2 r k)) (fun k j => x1 (ix3 0 k j)) (fun k j => x2 (ix3 0 k j)) (fun k j => x3 (ix3 0 k j))
      (fun j => x4 (ix2 0 j)) (fun j => x5 (ix2 0 j))) (fun k j => x6 (ix3 0 k j)) l := by
  pointwise [val_main_v40]
  simp only [val_eq, proj_w]
  rfl

end Cert.Ffn2Ref

end
-- ==== Proof.Ffn3.lean ====
/- The feed-forward call on the prompt's rows: what the kernel's result array holds after the run, and that the
   reference's array holds the same. One grid point writes one block of 512 rows; eleven column chunks of the gated
   activation go through the scratch buffer and come back whole, then the down projection, the residual and the
   normalisation are stored. Each row is `Rows.ffnRow` of the same row of the argument. -/
module

public import proofs.«01_k».proof.Proof.Gen.Kernel3Ideal.Value
public import proofs.«01_k».proof.Proof.Tile

@[expose] public section

noncomputable section

namespace Cert.Ffn3

open Idealize.ShloMosaic Idealize.ShloMosaic.TcCoe Idealize.SL.Sem Cert.Rows Cert.Tile
open Cert.Kernel3Ideal Cert.Kernel3Ideal.Gen Cert.Kernel3Ideal.Value

theorem out_eq (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) :
    out0_A_6 c i arg1 harg1 arg2 harg2 arg3 harg3 arg4 harg4 arg5 harg5 arg6 harg6 arg7 harg7 arg8 harg8 x0 x1 x2 x3 x4 x5
      = tile x0 x1 x2 x3 x4 x5 := by
  have l0 : ∀ inb, View.ld x0 (Rect.unit ![0, 0] ![512, 1024] inb) = x0 := fun inb => View.ld_unit_zero hz inb x0
  have l3 : ∀ inb, View.ld x3 (Rect.unit ![0, 0] ![2816, 1024] inb) = x3 := fun inb => View.ld_unit_zero hz inb x3
  have l4 : ∀ inb, View.ld x4 (Rect.unit ![0, 0] ![1, 1024] inb) = x4 := fun inb => View.ld_unit_zero hz inb x4
  have l5 : ∀ inb, View.ld x5 (Rect.unit ![0, 0] ![1, 1024] inb) = x5 := fun inb => View.ld_unit_zero hz inb x5
  unfold out0_A_6
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread,
    l0, l3, l4, l5]
  have hidx : ∀ inb, (fun j => hidden x0 x1 x2 ((Rect.unit (s := S512x2816) ![0, 0] ![512, 2816] inb).toLoadRect.idx j)) = hidden x0 x1 x2 :=
    fun inb => View.ld_unit_zero (Val := Elt Ideal) (e := .bf16) hz inb (hidden x0 x1 x2)
  have scratch : ∀ (L : List (View.Piece (Elt Ideal) S512x2816 .bf16)) inb,
      (∀ y, ∃ p ∈ L, y ∈ p.1.set) → (∀ p ∈ L, ∀ x : p.1.shape.Idx, p.2 x = hidden x0 x1 x2 (p.1.emb x)) →
      arg8.view.readCov L (Rect.unit (s := S512x2816) ![0, 0] ![512, 2816] inb).toLoadRect = hidden x0 x1 x2 := fun L inb hc hp => by
    rw [View.readCov_eq_canon']
    rw [canon_hidden x0 x1 x2 L hc hp]
    exact hidx inb
  refine Eq.trans (congrArg (fun h => k0_pay17 x0 h x3 x4 x5) (scratch _ _ ?_ ?_)) ?_
  · intro y
    exact View.cover_of_tiledL (s := S512x2816) _ S512x256.size (by sl_kernel_rfl) y
  · simp only [List.forall_mem_cons, List.not_mem_nil, false_imp_iff, implies_true, and_true]
    refine ⟨?_, ?_, ?_, ?_, ?_, ?_, ?_, ?_, ?_, ?_, ?_⟩ <;>
      refine chunk x0 x1 x2 _ _ (by norm_num) _ fun r l => ?_ <;>
      · pointwise [k0_pay1, k0_pay2, k0_pay3, k0_pay4, k0_pay5, k0_pay6, k0_pay7, k0_pay8, k0_pay9, k0_pay10, k0_pay11,
          k0_pay12, k0_pay13, k0_pay14, k0_pay15, k0_pay16]
        rfl
  · funext y
    obtain ⟨r, l, rfl⟩ : ∃ r l, y = ix2 r l := ⟨y 0, y 1, ValueIdx.eq_ix2 y⟩
    pointwise [k0_pay17]
    rfl

variable (m : (ℓ : Loc nD τ sig) → Buf (Elt Ideal) ℓ) (ρ : Dev nD → PrngReg)

theorem V1 (c : Dev nD) (k : Fin 1024) (j : Fin 2816) : V m c main_v1 (ix2 k j) = m ((c : Thread nD τ).loc main_arg1) (ix3 0 k j) := by
  have h : @Eq (Vec Ideal S1024x2816 .bf16) (V m c main_v1) (truncf (F := Ideal) .bf16 (shapeCast S1024x2816 (m ((c : Thread nD τ).loc main_arg1) : Vec Ideal S1x1024x2816 .f32) shapeCasts_S1x1024x2816_S1024x2816) bitsLt_bf16_f32) := by
    unfold_abbrev_sides; after_results_simp <;> rfl
  rw [h]; exact dropUnit2 _ _ k j
theorem V3 (c : Dev nD) (k : Fin 1024) (j : Fin 2816) : V m c main_v3 (ix2 k j) = m ((c : Thread nD τ).loc main_arg2) (ix3 0 k j) := by
  have h : @Eq (Vec Ideal S1024x2816 .bf16) (V m c main_v3) (truncf (F := Ideal) .bf16 (shapeCast S1024x2816 (m ((c : Thread nD τ).loc main_arg2) : Vec Ideal S1x1024x2816 .f32) shapeCasts_S1x1024x2816_S1024x2816) bitsLt_bf16_f32) := by
    unfold_abbrev_sides; after_results_simp <;> rfl
  rw [h]; exact dropUnit2 _ _ k j
theorem V5 (c : Dev nD) (k : Fin 2816) (j : Fin 1024) : V m c main_v5 (ix2 k j) = m ((c : Thread nD τ).loc main_arg3) (ix3 0 k j) := by
  have h : @Eq (Vec Ideal S2816x1024 .bf16) (V m c main_v5) (truncf (F := Ideal) .bf16 (shapeCast S2816x1024 (m ((c : Thread nD τ).loc main_arg3) : Vec Ideal S1x2816x1024 .f32) shapeCasts_S1x2816x1024_S2816x1024) bitsLt_bf16_f32) := by
    unfold_abbrev_sides; after_results_simp <;> rfl
  rw [h]; exact dropUnit2 _ _ k j
theorem V7 (c : Dev nD) (j : Fin 1024) : V m c main_v7 (ix2 0 j) = m ((c : Thread nD τ).loc main_arg4) (ix2 0 j) := by
  have h : V m c main_v7 = shapeCast S1x1024 (shapeCast S1024 (m ((c : Thread nD τ).loc main_arg4)) shapeCasts_S1x1024_S1024) shapeCasts_S1024_S1x1024 := by
    unfold_abbrev_sides; after_results_simp <;> rfl
  rw [h, shapeCast_shapeCast]
theorem V9 (c : Dev nD) (j : Fin 1024) : V m c main_v9 (ix2 0 j) = m ((c : Thread nD τ).loc main_arg5) (ix2 0 j) := by
  have h : V m c main_v9 = shapeCast S1x1024 (shapeCast S1024 (m ((c : Thread nD τ).loc main_arg5)) shapeCasts_S1x1024_S1024) shapeCasts_S1024_S1x1024 := by
    unfold_abbrev_sides; after_results_simp <;> rfl
  rw [h, shapeCast_shapeCast]

theorem idx0 : ∀ t : Fin cfg0.N, win0_0.index t (0 : Fin 2) = t.val ∧ win0_0.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

/-- The row of the array that row `r` of block `t` is. -/
def rowOf (t : Fin cfg0.N) (r : Fin 512) : Fin 16384 := ⟨t.val * 512 + r.val, by have := t.isLt; have h := N_0; have := r.isLt; simp only [Pipeline.Cfg.N] at *; omega⟩

theorem iblk0_eq (c : Dev nD) (t : Fin cfg0.N) (r : Fin 512) (k : Fin 1024) :
    iblk m c 0 t (ix2 r k) = m ((c : Thread nD τ).loc main_arg0) (ix2 (rowOf t r) k) := by
  refine Eq.trans ?_ (congrFun (V_main_arg0 m c) (ix2 (rowOf t r) k))
  show V m c main_arg0 (((cfg0.win 0).blk t).view.emb (ix2 r k)) = _
  refine congrArg _ (funext fun a => Fin.ext ?_)
  obtain ⟨e0, e1⟩ := idx0 t
  match a with
  | ⟨0, _⟩ => show win0_0.index t (0 : Fin 2) * 512 + 1 * r.val = t.val * 512 + r.val; omega
  | ⟨1, _⟩ => show win0_0.index t (1 : Fin 2) * 1024 + 1 * k.val = k.val; omega
theorem iblk1_eq (c : Dev nD) (t : Fin cfg0.N) (k : Fin 1024) (j : Fin 2816) :
    iblk m c 1 t (ix2 k j) = m ((c : Thread nD τ).loc main_arg1) (ix3 0 k j) := by
  refine Eq.trans ?_ (V1 m c k j)
  show V m c main_v1 (((cfg0.win 1).blk t).view.emb (ix2 k j)) = _
  refine congrArg _ (funext fun a => Fin.ext ?_)
  obtain ⟨e0, e1⟩ := idx1 t
  match a with
  | ⟨0, _⟩ => show win0_1.index t (0 : Fin 2) * 1024 + 1 * k.val = k.val; omega
  | ⟨1, _⟩ => show win0_1.index t (1 : Fin 2) * 2816 + 1 * j.val = j.val; omega
theorem iblk2_eq (c : Dev nD) (t : Fin cfg0.N) (k : Fin 1024) (j : Fin 2816) :
    iblk m c 2 t (ix2 k j) = m ((c : Thread nD τ).loc main_arg2) (ix3 0 k j) := by
  refine Eq.trans ?_ (V3 m c k j)
  show V m c main_v3 (((cfg0.win 2).blk t).view.emb (ix2 k j)) = _
  refine congrArg _ (funext fun a => Fin.ext ?_)
  obtain ⟨e0, e1⟩ := idx2 t
  match a with
  | ⟨0, _⟩ => show win0_2.index t (0 : Fin 2) * 1024 + 1 * k.val = k.val; omega
  | ⟨1, _⟩ => show win0_2.index t (1 : Fin 2) * 2816 + 1 * j.val = j.val; omega
theorem iblk3_eq (c : Dev nD) (t : Fin cfg0.N) (k : Fin 2816) (j : Fin 1024) :
    iblk m c 3 t (ix2 k j) = m ((c : Thread nD τ).loc main_arg3) (ix3 0 k j) := by
  refine Eq.trans ?_ (V5 m c k j)
  show V m c main_v5 (((cfg0.win 3).blk t).view.emb (ix2 k j)) = _
  refine congrArg _ (funext fun a => Fin.ext ?_)
  obtain ⟨e0, e1⟩ := idx3 t
  match a with
  | ⟨0, _⟩ => show win0_3.index t (0 : Fin 2) * 2816 + 1 * k.val = k.val; omega
  | ⟨1, _⟩ => show win0_3.index t (1 : Fin 2) * 1024 + 1 * j.val = j.val; omega
theorem iblk4_eq (c : Dev nD) (t : Fin cfg0.N) (j : Fin 1024) :
    iblk m c 4 t (ix2 0 j) = m ((c : Thread nD τ).loc main_arg4) (ix2 0 j) := by
  refine Eq.trans ?_ (V7 m c j)
  show V m c main_v7 (((cfg0.win 4).blk t).view.emb (ix2 0 j)) = _
  refine congrArg _ (funext fun a => Fin.ext ?_)
  obtain ⟨e0, e1⟩ := idx4 t
  match a with
  | ⟨0, _⟩ => show win0_4.index t (0 : Fin 2) * 1 + 1 * 0 = 0; omega
  | ⟨1, _⟩ => show win0_4.index t (1 : Fin 2) * 1024 + 1 * j.val = j.val; omega
theorem iblk5_eq (c : Dev nD) (t : Fin cfg0.N) (j : Fin 1024) :
    iblk m c 5 t (ix2 0 j) = m ((c : Thread nD τ).loc main_arg5) (ix2 0 j) := by
  refine Eq.trans ?_ (V9 m c j)
  show V m c main_v9 (((cfg0.win 5).blk t).view.emb (ix2 0 j)) = _
  refine congrArg _ (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * j.val = j.val; omega

theorem emb6 (t : Fin cfg0.N) (r : Fin 512) (l : Fin 1024) : ((cfg0.win 6).blk t).view.emb (ix2 r l) = ix2 (rowOf t r) l := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 1024 + 1 * l.val = l.val; omega

/-- The result array of the launch arguments. -/
abbrev GV (c : Dev nD) : Vec Ideal S16384x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point writes back is its block of the result. -/
theorem flushed6_eq (c : Dev nD) (t : Fin cfg0.N) :
    (dats m 0 c).flushed 6 t = ((cfg0.win 6).blk t).view.read (Elt Ideal) (GV m c) := by
  rw [flushed6_A, out_eq]
  funext j
  obtain ⟨r, l, rfl⟩ : ∃ (r : Fin 512) (l : Fin 1024), j = ix2 r l := ⟨j 0, j 1, ValueIdx.eq_ix2 j⟩
  show tile (iblk m c 0 t) (iblk m c 1 t) (iblk m c 2 t) (iblk m c 3 t) (iblk m c 4 t) (iblk m c 5 t) (ix2 r l)
    = GV m c (((cfg0.win 6).blk t).view.emb (ix2 r l))
  rw [emb6]
  unfold tile GV G
  have h0 : (fun k => iblk m c 0 t (ix2 r k)) = fun k => m ((c : Thread nD τ).loc main_arg0) (ix2 (rowOf t r) k) := funext fun k => iblk0_eq m c t r k
  have h1 : (fun k j => iblk m c 1 t (ix2 k j)) = fun k j => m ((c : Thread nD τ).loc main_arg1) (ix3 0 k j) := funext fun k => funext fun j => iblk1_eq m c t k j
  have h2 : (fun k j => iblk m c 2 t (ix2 k j)) = fun k j => m ((c : Thread nD τ).loc main_arg2) (ix3 0 k j) := funext fun k => funext fun j => iblk2_eq m c t k j
  have h3 : (fun k j => iblk m c 3 t (ix2 k j)) = fun k j => m ((c : Thread nD τ).loc main_arg3) (ix3 0 k j) := funext fun k => funext fun j => iblk3_eq m c t k j
  have h4 : (fun j => iblk m c 4 t (ix2 0 j)) = fun j => m ((c : Thread nD τ).loc main_arg4) (ix2 0 j) := funext fun j => iblk4_eq m c t j
  have h5 : (fun j => iblk m c 5 t (ix2 0 j)) = fun j => m ((c : Thread nD τ).loc main_arg5) (ix2 0 j) := funext fun j => iblk5_eq m c t j
  show ffnRow (fun k => iblk m c 0 t (ix2 r k)) (fun k j => iblk m c 1 t (ix2 k j)) (fun k j => iblk m c 2 t (ix2 k j))
    (fun k j => iblk m c 3 t (ix2 k j)) (fun j => iblk m c 4 t (ix2 0 j)) (fun j => iblk m c 5 t (ix2 0 j)) l = _
  rw [h0, h1, h2, h3, h4, h5]
  rfl

/-- Every row is in the block of its quotient by 512. -/
theorem covered6 (i : S16384x1024.Idx) :
    ∃ t : Fin cfg0.N, (cfg0.win 6).flush t = true ∧ i ∈ ((cfg0.win 6).blk t).view.set := by
  have hi : (i 0).val < 16384 := (i 0).isLt
  let t : Fin cfg0.N := ⟨(i 0).val / 512, by show _ < grid0.N; rw [N_0]; omega⟩
  let r : Fin 512 := ⟨(i 0).val % 512, by omega⟩
  refine ⟨t, flush0_6 _, ?_⟩
  have e : ((cfg0.win 6).blk t).view.emb (ix2 r (i 1)) = i := (emb6 t r (i 1)).trans (by
    funext a; apply Fin.ext
    match a with
    | ⟨0, _⟩ => show (i 0).val / 512 * 512 + (i 0).val % 512 = (i 0).val; omega
    | ⟨1, _⟩ => rfl)
  exact e ▸ ((cfg0.win 6).blk t).view.emb_mem_set (ix2 r (i 1))

/-- The result array after the run. -/
theorem final6 (c : Dev nD) : (dats m 0 c).arrAt 6 cfg0.N = GV m c :=
  (dats m 0 c).arrAt_eq_of_cover 6 (GV m c) (fun t _ => flushed6_eq m c t) covered6

end Cert.Ffn3

end
-- ==== Proof.Ffn3Ref.lean ====
/- The plain feed-forward program's result array, row by row. -/
module

public import proofs.«01_k».proof.Proof.Gen.Reference3Ideal.Read
public import proofs.«01_k».proof.Proof.Rows

@[expose] public section

noncomputable section

namespace Cert.Ffn3Ref

open Idealize.ShloMosaic Idealize.ShloMosaic.TcCoe Idealize.SL.Sem Cert.Rows
open Cert.Reference3Ideal Cert.Reference3Ideal.Gen Cert.Reference3Ideal.Read

variable (x0 : Vec Ideal S16384x1024 .f32) (x1 x2 : Vec Ideal S1x1024x2816 .f32) (x3 : Vec Ideal S1x2816x1024 .f32)
  (x4 x5 : Vec Ideal S1x1024 .f32)

theorem gate_w (k : Fin 1024) (j : Fin 2816) : val_main_v2 (F := Ideal) x1 (ix2 k j) = x1 (ix3 0 k j) := dropUnit2 x1 _ k j
theorem up_w (k : Fin 1024) (j : Fin 2816) : val_main_v3 (F := Ideal) x2 (ix2 k j) = x2 (ix3 0 k j) := dropUnit2 x2 _ k j
theorem down_w (k : Fin 2816) (j : Fin 1024) : val_main_v4 (F := Ideal) x3 (ix2 k j) = x3 (ix3 0 k j) := dropUnit2 x3 _ k j
theorem gain (j : Fin 1024) : val_main_v13 (F := Ideal) x4 (ix1 j) = x4 (ix2 0 j) := dropUnit1 x4 _ j
theorem offset (j : Fin 1024) : val_main_v14 (F := Ideal) x5 (ix1 j) = x5 (ix2 0 j) := dropUnit1 x5 _ j

/-- The gated activation of row `r`. -/
theorem act (r : Fin 16384) (j : Fin 2816) : val_main_v8 (F := Ideal) x0 x1 x2 (ix2 r j)
    = gated (fun k => x0 (ix2 r k)) (fun k j => x1 (ix3 0 k j)) (fun k j => x2 (ix3 0 k j)) j := by
  pointwise [val_main_v8, val_main_v6, val_main_v7, val_main_v5, val_main_call0_v5, val_main_call0_v4, val_main_call0_v3,
    val_main_call0_v2, val_main_call0_v1, val_main_call0_v0, val_main_call0_cst, val_main_call0_cst_0]
  simp only [gate_w, up_w, Ideal.ofBits_one_f32]
  rfl

/-- The residual sum of row `r`. -/
theorem resid (r : Fin 16384) (j : Fin 1024) : val_main_v12 (F := Ideal) x0 x1 x2 x3 (ix2 r j)
    = halfStep (fun k => x0 (ix2 r k)) (fun k j => x1 (ix3 0 k j)) (fun k j => x2 (ix3 0 k j)) (fun k j => x3 (ix3 0 k j)) j := by
  pointwise [val_main_v12, val_main_v11, val_main_v10, val_main_v9, val_main_v1, val_main_v0, val_main_cst, val_main_cst_0]
  simp only [act, down_w]
  rfl

/-- Each row of the result is the half-step of the argument's row. -/
theorem val_eq (r : Fin 16384) (l : Fin 1024) : val_main_v38 (F := Ideal) x0 x1 x2 x3 x4 x5 (ix2 r l)
    = ffnRow (fun k => x0 (ix2 r k)) (fun k j => x1 (ix3 0 k j)) (fun k j => x2 (ix3 0 k j)) (fun k j => x3 (ix3 0 k j))
      (fun j => x4 (ix2 0 j)) (fun j => x5 (ix2 0 j)) l := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_cst_1,
    val_main_cst_2, val_main_cst_3, val_main_cst_4, val_main_cst_5]
  simp only [resid, gain, offset]
  rfl

end Cert.Ffn3Ref

end
-- ==== Proof.Ffn4.lean ====
/- The feed-forward call on the sampled tokens' rows: what the kernel's result array holds after the run, and that the
   reference's array holds the same. One grid point writes one block of 512 rows; eleven column chunks of the gated
   activation go through the scratch buffer and come back whole, then the down projection, the residual and the
   normalisation are stored. Each row is `Rows.ffnRow` of the same row of the argument. -/
module

public import proofs.«01_k».proof.Proof.Gen.Kernel4Ideal.Value
public import proofs.«01_k».proof.Proof.Tile

@[expose] public section

noncomputable section

namespace Cert.Ffn4

open Idealize.ShloMosaic Idealize.ShloMosaic.TcCoe Idealize.SL.Sem Cert.Rows Cert.Tile
open Cert.Kernel4Ideal Cert.Kernel4Ideal.Gen Cert.Kernel4Ideal.Value

theorem out_eq (c : Dev nD) (i : grid0.Coords) (arg1 : Memref sig .tc .vmem S512x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) :
    out0_A_6 c i arg1 harg1 arg2 harg2 arg3 harg3 arg4 harg4 arg5 harg5 arg6 harg6 arg7 harg7 arg8 harg8 x0 x1 x2 x3 x4 x5
      = tile x0 x1 x2 x3 x4 x5 := by
  have l0 : ∀ inb, View.ld x0 (Rect.unit ![0, 0] ![512, 1024] inb) = x0 := fun inb => View.ld_unit_zero hz inb x0
  have l3 : ∀ inb, View.ld x3 (Rect.unit ![0, 0] ![2816, 1024] inb) = x3 := fun inb => View.ld_unit_zero hz inb x3
  have l4 : ∀ inb, View.ld x4 (Rect.unit ![0, 0] ![1, 1024] inb) = x4 := fun inb => View.ld_unit_zero hz inb x4
  have l5 : ∀ inb, View.ld x5 (Rect.unit ![0, 0] ![1, 1024] inb) = x5 := fun inb => View.ld_unit_zero hz inb x5
  unfold out0_A_6
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread,
    l0, l3, l4, l5]
  have hidx : ∀ inb, (fun j => hidden x0 x1 x2 ((Rect.unit (s := S512x2816) ![0, 0] ![512, 2816] inb).toLoadRect.idx j)) = hidden x0 x1 x2 :=
    fun inb => View.ld_unit_zero (Val := Elt Ideal) (e := .bf16) hz inb (hidden x0 x1 x2)
  have scratch : ∀ (L : List (View.Piece (Elt Ideal) S512x2816 .bf16)) inb,
      (∀ y, ∃ p ∈ L, y ∈ p.1.set) → (∀ p ∈ L, ∀ x : p.1.shape.Idx, p.2 x = hidden x0 x1 x2 (p.1.emb x)) →
      arg8.view.readCov L (Rect.unit (s := S512x2816) ![0, 0] ![512, 2816] inb).toLoadRect = hidden x0 x1 x2 := fun L inb hc hp => by
    rw [View.readCov_eq_canon']
    rw [canon_hidden x0 x1 x2 L hc hp]
    exact hidx inb
  refine Eq.trans (congrArg (fun h => k0_pay17 x0 h x3 x4 x5) (scratch _ _ ?_ ?_)) ?_
  · intro y
    exact View.cover_of_tiledL (s := S512x2816) _ S512x256.size (by sl_kernel_rfl) y
  · simp only [List.forall_mem_cons, List.not_mem_nil, false_imp_iff, implies_true, and_true]
    refine ⟨?_, ?_, ?_, ?_, ?_, ?_, ?_, ?_, ?_, ?_, ?_⟩ <;>
      refine chunk x0 x1 x2 _ _ (by norm_num) _ fun r l => ?_ <;>
      · pointwise [k0_pay1, k0_pay2, k0_pay3, k0_pay4, k0_pay5, k0_pay6, k0_pay7, k0_pay8, k0_pay9, k0_pay10, k0_pay11,
          k0_pay12, k0_pay13, k0_pay14, k0_pay15, k0_pay16]
        rfl
  · funext y
    obtain ⟨r, l, rfl⟩ : ∃ r l, y = ix2 r l := ⟨y 0, y 1, ValueIdx.eq_ix2 y⟩
    pointwise [k0_pay17]
    rfl

variable (m : (ℓ : Loc nD τ sig) → Buf (Elt Ideal) ℓ) (ρ : Dev nD → PrngReg)

theorem V1 (c : Dev nD) (k : Fin 1024) (j : Fin 2816) : V m c main_v1 (ix2 k j) = m ((c : Thread nD τ).loc main_arg1) (ix3 0 k j) := by
  have h : @Eq (Vec Ideal S1024x2816 .bf16) (V m c main_v1) (truncf (F := Ideal) .bf16 (shapeCast S1024x2816 (m ((c : Thread nD τ).loc main_arg1) : Vec Ideal S1x1024x2816 .f32) shapeCasts_S1x1024x2816_S1024x2816) bitsLt_bf16_f32) := by
    unfold_abbrev_sides; after_results_simp <;> rfl
  rw [h]; exact dropUnit2 _ _ k j
theorem V3 (c : Dev nD) (k : Fin 1024) (j : Fin 2816) : V m c main_v3 (ix2 k j) = m ((c : Thread nD τ).loc main_arg2) (ix3 0 k j) := by
  have h : @Eq (Vec Ideal S1024x2816 .bf16) (V m c main_v3) (truncf (F := Ideal) .bf16 (shapeCast S1024x2816 (m ((c : Thread nD τ).loc main_arg2) : Vec Ideal S1x1024x2816 .f32) shapeCasts_S1x1024x2816_S1024x2816) bitsLt_bf16_f32) := by
    unfold_abbrev_sides; after_results_simp <;> rfl
  rw [h]; exact dropUnit2 _ _ k j
theorem V5 (c : Dev nD) (k : Fin 2816) (j : Fin 1024) : V m c main_v5 (ix2 k j) = m ((c : Thread nD τ).loc main_arg3) (ix3 0 k j) := by
  have h : @Eq (Vec Ideal S2816x1024 .bf16) (V m c main_v5) (truncf (F := Ideal) .bf16 (shapeCast S2816x1024 (m ((c : Thread nD τ).loc main_arg3) : Vec Ideal S1x2816x1024 .f32) shapeCasts_S1x2816x1024_S2816x1024) bitsLt_bf16_f32) := by
    unfold_abbrev_sides; after_results_simp <;> rfl
  rw [h]; exact dropUnit2 _ _ k j
theorem V7 (c : Dev nD) (j : Fin 1024) : V m c main_v7 (ix2 0 j) = m ((c : Thread nD τ).loc main_arg4) (ix2 0 j) := by
  have h : V m c main_v7 = shapeCast S1x1024 (shapeCast S1024 (m ((c : Thread nD τ).loc main_arg4)) shapeCasts_S1x1024_S1024) shapeCasts_S1024_S1x1024 := by
    unfold_abbrev_sides; after_results_simp <;> rfl
  rw [h, shapeCast_shapeCast]
theorem V9 (c : Dev nD) (j : Fin 1024) : V m c main_v9 (ix2 0 j) = m ((c : Thread nD τ).loc main_arg5) (ix2 0 j) := by
  have h : V m c main_v9 = shapeCast S1x1024 (shapeCast S1024 (m ((c : Thread nD τ).loc main_arg5)) shapeCasts_S1x1024_S1024) shapeCasts_S1024_S1x1024 := by
    unfold_abbrev_sides; after_results_simp <;> rfl
  rw [h, shapeCast_shapeCast]

theorem idx0 : ∀ t : Fin cfg0.N, win0_0.index t (0 : Fin 2) = t.val ∧ win0_0.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

/-- The row of the array that row `r` of block `t` is. -/
def rowOf (t : Fin cfg0.N) (r : Fin 512) : Fin 512 := ⟨t.val * 512 + r.val, by have := t.isLt; have h := N_0; have := r.isLt; simp only [Pipeline.Cfg.N] at *; omega⟩

theorem iblk0_eq (c : Dev nD) (t : Fin cfg0.N) (r : Fin 512) (k : Fin 1024) :
    iblk m c 0 t (ix2 r k) = m ((c : Thread nD τ).loc main_arg0) (ix2 (rowOf t r) k) := by
  refine Eq.trans ?_ (congrFun (V_main_arg0 m c) (ix2 (rowOf t r) k))
  show V m c main_arg0 (((cfg0.win 0).blk t).view.emb (ix2 r k)) = _
  refine congrArg _ (funext fun a => Fin.ext ?_)
  obtain ⟨e0, e1⟩ := idx0 t
  match a with
  | ⟨0, _⟩ => show win0_0.index t (0 : Fin 2) * 512 + 1 * r.val = t.val * 512 + r.val; omega
  | ⟨1, _⟩ => show win0_0.index t (1 : Fin 2) * 1024 + 1 * k.val = k.val; omega
theorem iblk1_eq (c : Dev nD) (t : Fin cfg0.N) (k : Fin 1024) (j : Fin 2816) :
    iblk m c 1 t (ix2 k j) = m ((c : Thread nD τ).loc main_arg1) (ix3 0 k j) := by
  refine Eq.trans ?_ (V1 m c k j)
  show V m c main_v1 (((cfg0.win 1).blk t).view.emb (ix2 k j)) = _
  refine congrArg _ (funext fun a => Fin.ext ?_)
  obtain ⟨e0, e1⟩ := idx1 t
  match a with
  | ⟨0, _⟩ => show win0_1.index t (0 : Fin 2) * 1024 + 1 * k.val = k.val; omega
  | ⟨1, _⟩ => show win0_1.index t (1 : Fin 2) * 2816 + 1 * j.val = j.val; omega
theorem iblk2_eq (c : Dev nD) (t : Fin cfg0.N) (k : Fin 1024) (j : Fin 2816) :
    iblk m c 2 t (ix2 k j) = m ((c : Thread nD τ).loc main_arg2) (ix3 0 k j) := by
  refine Eq.trans ?_ (V3 m c k j)
  show V m c main_v3 (((cfg0.win 2).blk t).view.emb (ix2 k j)) = _
  refine congrArg _ (funext fun a => Fin.ext ?_)
  obtain ⟨e0, e1⟩ := idx2 t
  match a with
  | ⟨0, _⟩ => show win0_2.index t (0 : Fin 2) * 1024 + 1 * k.val = k.val; omega
  | ⟨1, _⟩ => show win0_2.index t (1 : Fin 2) * 2816 + 1 * j.val = j.val; omega
theorem iblk3_eq (c : Dev nD) (t : Fin cfg0.N) (k : Fin 2816) (j : Fin 1024) :
    iblk m c 3 t (ix2 k j) = m ((c : Thread nD τ).loc main_arg3) (ix3 0 k j) := by
  refine Eq.trans ?_ (V5 m c k j)
  show V m c main_v5 (((cfg0.win 3).blk t).view.emb (ix2 k j)) = _
  refine congrArg _ (funext fun a => Fin.ext ?_)
  obtain ⟨e0, e1⟩ := idx3 t
  match a with
  | ⟨0, _⟩ => show win0_3.index t (0 : Fin 2) * 2816 + 1 * k.val = k.val; omega
  | ⟨1, _⟩ => show win0_3.index t (1 : Fin 2) * 1024 + 1 * j.val = j.val; omega
theorem iblk4_eq (c : Dev nD) (t : Fin cfg0.N) (j : Fin 1024) :
    iblk m c 4 t (ix2 0 j) = m ((c : Thread nD τ).loc main_arg4) (ix2 0 j) := by
  refine Eq.trans ?_ (V7 m c j)
  show V m c main_v7 (((cfg0.win 4).blk t).view.emb (ix2 0 j)) = _
  refine congrArg _ (funext fun a => Fin.ext ?_)
  obtain ⟨e0, e1⟩ := idx4 t
  match a with
  | ⟨0, _⟩ => show win0_4.index t (0 : Fin 2) * 1 + 1 * 0 = 0; omega
  | ⟨1, _⟩ => show win0_4.index t (1 : Fin 2) * 1024 + 1 * j.val = j.val; omega
theorem iblk5_eq (c : Dev nD) (t : Fin cfg0.N) (j : Fin 1024) :
    iblk m c 5 t (ix2 0 j) = m ((c : Thread nD τ).loc main_arg5) (ix2 0 j) := by
  refine Eq.trans ?_ (V9 m c j)
  show V m c main_v9 (((cfg0.win 5).blk t).view.emb (ix2 0 j)) = _
  refine congrArg _ (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * j.val = j.val; omega

theorem emb6 (t : Fin cfg0.N) (r : Fin 512) (l : Fin 1024) : ((cfg0.win 6).blk t).view.emb (ix2 r l) = ix2 (rowOf t r) l := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 1024 + 1 * l.val = l.val; omega

/-- The result array of the launch arguments. -/
abbrev GV (c : Dev nD) : Vec Ideal S512x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point writes back is its block of the result. -/
theorem flushed6_eq (c : Dev nD) (t : Fin cfg0.N) :
    (dats m 0 c).flushed 6 t = ((cfg0.win 6).blk t).view.read (Elt Ideal) (GV m c) := by
  rw [flushed6_A, out_eq]
  funext j
  obtain ⟨r, l, rfl⟩ : ∃ (r : Fin 512) (l : Fin 1024), j = ix2 r l := ⟨j 0, j 1, ValueIdx.eq_ix2 j⟩
  show tile (iblk m c 0 t) (iblk m c 1 t) (iblk m c 2 t) (iblk m c 3 t) (iblk m c 4 t) (iblk m c 5 t) (ix2 r l)
    = GV m c (((cfg0.win 6).blk t).view.emb (ix2 r l))
  rw [emb6]
  unfold tile GV G
  have h0 : (fun k => iblk m c 0 t (ix2 r k)) = fun k => m ((c : Thread nD τ).loc main_arg0) (ix2 (rowOf t r) k) := funext fun k => iblk0_eq m c t r k
  have h1 : (fun k j => iblk m c 1 t (ix2 k j)) = fun k j => m ((c : Thread nD τ).loc main_arg1) (ix3 0 k j) := funext fun k => funext fun j => iblk1_eq m c t k j
  have h2 : (fun k j => iblk m c 2 t (ix2 k j)) = fun k j => m ((c : Thread nD τ).loc main_arg2) (ix3 0 k j) := funext fun k => funext fun j => iblk2_eq m c t k j
  have h3 : (fun k j => iblk m c 3 t (ix2 k j)) = fun k j => m ((c : Thread nD τ).loc main_arg3) (ix3 0 k j) := funext fun k => funext fun j => iblk3_eq m c t k j
  have h4 : (fun j => iblk m c 4 t (ix2 0 j)) = fun j => m ((c : Thread nD τ).loc main_arg4) (ix2 0 j) := funext fun j => iblk4_eq m c t j
  have h5 : (fun j => iblk m c 5 t (ix2 0 j)) = fun j => m ((c : Thread nD τ).loc main_arg5) (ix2 0 j) := funext fun j => iblk5_eq m c t j
  show ffnRow (fun k => iblk m c 0 t (ix2 r k)) (fun k j => iblk m c 1 t (ix2 k j)) (fun k j => iblk m c 2 t (ix2 k j))
    (fun k j => iblk m c 3 t (ix2 k j)) (fun j => iblk m c 4 t (ix2 0 j)) (fun j => iblk m c 5 t (ix2 0 j)) l = _
  rw [h0, h1, h2, h3, h4, h5]
  rfl

/-- Every row is in the block of its quotient by 512. -/
theorem covered6 (i : S512x1024.Idx) :
    ∃ t : Fin cfg0.N, (cfg0.win 6).flush t = true ∧ i ∈ ((cfg0.win 6).blk t).view.set := by
  have hi : (i 0).val < 512 := (i 0).isLt
  let t : Fin cfg0.N := ⟨(i 0).val / 512, by show _ < grid0.N; rw [N_0]; omega⟩
  let r : Fin 512 := ⟨(i 0).val % 512, by omega⟩
  refine ⟨t, flush0_6 _, ?_⟩
  have e : ((cfg0.win 6).blk t).view.emb (ix2 r (i 1)) = i := (emb6 t r (i 1)).trans (by
    funext a; apply Fin.ext
    match a with
    | ⟨0, _⟩ => show (i 0).val / 512 * 512 + (i 0).val % 512 = (i 0).val; omega
    | ⟨1, _⟩ => rfl)
  exact e ▸ ((cfg0.win 6).blk t).view.emb_mem_set (ix2 r (i 1))

/-- The result array after the run. -/
theorem final6 (c : Dev nD) : (dats m 0 c).arrAt 6 cfg0.N = GV m c :=
  (dats m 0 c).arrAt_eq_of_cover 6 (GV m c) (fun t _ => flushed6_eq m c t) covered6

end Cert.Ffn4

end
-- ==== Proof.Ffn4Ref.lean ====
/- The plain feed-forward program's result array, row by row. -/
module

public import proofs.«01_k».proof.Proof.Gen.Reference4Ideal.Read
public import proofs.«01_k».proof.Proof.Rows

@[expose] public section

noncomputable section

namespace Cert.Ffn4Ref

open Idealize.ShloMosaic Idealize.ShloMosaic.TcCoe Idealize.SL.Sem Cert.Rows
open Cert.Reference4Ideal Cert.Reference4Ideal.Gen Cert.Reference4Ideal.Read

variable (x0 : Vec Ideal S512x1024 .f32) (x1 x2 : Vec Ideal S1x1024x2816 .f32) (x3 : Vec Ideal S1x2816x1024 .f32)
  (x4 x5 : Vec Ideal S1x1024 .f32)

theorem gate_w (k : Fin 1024) (j : Fin 2816) : val_main_v2 (F := Ideal) x1 (ix2 k j) = x1 (ix3 0 k j) := dropUnit2 x1 _ k j
theorem up_w (k : Fin 1024) (j : Fin 2816) : val_main_v3 (F := Ideal) x2 (ix2 k j) = x2 (ix3 0 k j) := dropUnit2 x2 _ k j
theorem down_w (k : Fin 2816) (j : Fin 1024) : val_main_v4 (F := Ideal) x3 (ix2 k j) = x3 (ix3 0 k j) := dropUnit2 x3 _ k j
theorem gain (j : Fin 1024) : val_main_v13 (F := Ideal) x4 (ix1 j) = x4 (ix2 0 j) := dropUnit1 x4 _ j
theorem offset (j : Fin 1024) : val_main_v14 (F := Ideal) x5 (ix1 j) = x5 (ix2 0 j) := dropUnit1 x5 _ j

/-- The gated activation of row `r`. -/
theorem act (r : Fin 512) (j : Fin 2816) : val_main_v8 (F := Ideal) x0 x1 x2 (ix2 r j)
    = gated (fun k => x0 (ix2 r k)) (fun k j => x1 (ix3 0 k j)) (fun k j => x2 (ix3 0 k j)) j := by
  pointwise [val_main_v8, val_main_v6, val_main_v7, val_main_v5, val_main_call0_v5, val_main_call0_v4, val_main_call0_v3,
    val_main_call0_v2, val_main_call0_v1, val_main_call0_v0, val_main_call0_cst, val_main_call0_cst_0]
  simp only [gate_w, up_w, Ideal.ofBits_one_f32]
  rfl

/-- The residual sum of row `r`. -/
theorem resid (r : Fin 512) (j : Fin 1024) : val_main_v12 (F := Ideal) x0 x1 x2 x3 (ix2 r j)
    = halfStep (fun k => x0 (ix2 r k)) (fun k j => x1 (ix3 0 k j)) (fun k j => x2 (ix3 0 k j)) (fun k j => x3 (ix3 0 k j)) j := by
  pointwise [val_main_v12, val_main_v11, val_main_v10, val_main_v9, val_main_v1, val_main_v0, val_main_cst, val_main_cst_0]
  simp only [act, down_w]
  rfl

/-- Each row of the result is the half-step of the argument's row. -/
theorem val_eq (r : Fin 512) (l : Fin 1024) : val_main_v38 (F := Ideal) x0 x1 x2 x3 x4 x5 (ix2 r l)
    = ffnRow (fun k => x0 (ix2 r k)) (fun k j => x1 (ix3 0 k j)) (fun k j => x2 (ix3 0 k j)) (fun k j => x3 (ix3 0 k j))
      (fun j => x4 (ix2 0 j)) (fun j => x5 (ix2 0 j)) l := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_cst_1,
    val_main_cst_2, val_main_cst_3, val_main_cst_4, val_main_cst_5]
  simp only [resid, gain, offset]
  rfl

end Cert.Ffn4Ref

end
-- ==== Proof.Ffn6.lean ====
/- The first half-step's feed-forward call, with the input projection, on the small rows: one grid point and one block of 528
   rows, otherwise as on the prompt's rows. -/
module

public import proofs.«01_k».proof.Proof.Gen.Kernel6Ideal.Value
public import proofs.«01_k».proof.Proof.Tile

@[expose] public section

noncomputable section

namespace Cert.Ffn6

open Idealize.ShloMosaic Idealize.ShloMosaic.TcCoe Idealize.SL.Sem Cert.Rows Cert.Tile
open Cert.Kernel6Ideal Cert.Kernel6Ideal.Gen Cert.Kernel6Ideal.Value

theorem out_eq (c : Dev nD) (i : grid0.Coords) (arg1 : Memref sig .tc .vmem S528x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2560 .bf16) (harg7 : arg7.IsWhole) (arg8 : Memref sig .tc .vmem S528x1024 .f32) (harg8 : arg8.IsWhole) (arg9 : Memref sig .tc .vmem S528x2560 .f32) (harg9 : arg9.IsWhole) (arg10 : Memref sig .tc .vmem S528x2816 .bf16) (harg10 : arg10.IsWhole)
    (x0 : Vec Ideal S528x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (x6 : Vec Ideal S1024x2560 .bf16) :
    out0_A_7 c i arg1 harg1 arg2 harg2 arg3 harg3 arg4 harg4 arg5 harg5 arg6 harg6 arg7 harg7 arg8 harg8 arg9 harg9 arg10 harg10 x0 x1 x2 x3 x4 x5 x6
      = tile x0 x1 x2 x3 x4 x5 := by
  have l0 : ∀ inb, View.ld x0 (Rect.unit ![0, 0] ![528, 1024] inb) = x0 := fun inb => View.ld_unit_zero hz inb x0
  have l3 : ∀ inb, View.ld x3 (Rect.unit ![0, 0] ![2816, 1024] inb) = x3 := fun inb => View.ld_unit_zero hz inb x3
  have l4 : ∀ inb, View.ld x4 (Rect.unit ![0, 0] ![1, 1024] inb) = x4 := fun inb => View.ld_unit_zero hz inb x4
  have l5 : ∀ inb, View.ld x5 (Rect.unit ![0, 0] ![1, 1024] inb) = x5 := fun inb => View.ld_unit_zero hz inb x5
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    l0, l3, l4, l5]
  have hidx : ∀ inb, (fun j => hidden x0 x1 x2 ((Rect.unit (s := S528x2816) ![0, 0] ![528, 2816] inb).toLoadRect.idx j)) = hidden x0 x1 x2 :=
    fun inb => View.ld_unit_zero (Val := Elt Ideal) (e := .bf16) hz inb (hidden x0 x1 x2)
  have scratch : ∀ (L : List (View.Piece (Elt Ideal) S528x2816 .bf16)) inb,
      (∀ y, ∃ p ∈ L, y ∈ p.1.set) → (∀ p ∈ L, ∀ x : p.1.shape.Idx, p.2 x = hidden x0 x1 x2 (p.1.emb x)) →
      arg10.view.readCov L (Rect.unit (s := S528x2816) ![0, 0] ![528, 2816] inb).toLoadRect = hidden x0 x1 x2 := fun L inb hc hp => by
    rw [View.readCov_eq_canon']
    rw [canon_hidden x0 x1 x2 L hc hp]
    exact hidx inb
  refine Eq.trans (congrArg (fun h => k0_pay18 x0 h x3 x4 x5) (scratch _ _ ?_ ?_)) ?_
  · intro y
    exact View.cover_of_tiledL (s := S528x2816) _ S528x256.size (by sl_kernel_rfl) y
  · simp only [List.forall_mem_cons, List.not_mem_nil, false_imp_iff, implies_true, and_true]
    refine ⟨?_, ?_, ?_, ?_, ?_, ?_, ?_, ?_, ?_, ?_, ?_⟩ <;>
      refine chunk x0 x1 x2 _ _ (by norm_num) _ fun r l => ?_ <;>
      · pointwise [k0_pay2, k0_pay3, k0_pay4, k0_pay5, k0_pay6, k0_pay7, k0_pay8, k0_pay9, k0_pay10, k0_pay11, k0_pay12,
          k0_pay13, k0_pay14, k0_pay15, k0_pay16, k0_pay17]
        rfl
  · funext y
    obtain ⟨r, l, rfl⟩ : ∃ r l, y = ix2 r l := ⟨y 0, y 1, ValueIdx.eq_ix2 y⟩
    pointwise [k0_pay18]
    rfl

theorem proj_eq (c : Dev nD) (i : grid0.Coords) (arg1 : Memref sig .tc .vmem S528x1024 .f32) (harg1 : arg1.IsWhole) (arg2 : Memref sig .tc .vmem S1024x2816 .bf16) (harg2 : arg2.IsWhole) (arg3 : Memref sig .tc .vmem S1024x2816 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2560 .bf16) (harg7 : arg7.IsWhole) (arg8 : Memref sig .tc .vmem S528x1024 .f32) (harg8 : arg8.IsWhole) (arg9 : Memref sig .tc .vmem S528x2560 .f32) (harg9 : arg9.IsWhole) (arg10 : Memref sig .tc .vmem S528x2816 .bf16) (harg10 : arg10.IsWhole)
    (x0 : Vec Ideal S528x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (x6 : Vec Ideal S1024x2560 .bf16) :
    out0_A_8 c i arg1 harg1 arg2 harg2 arg3 harg3 arg4 harg4 arg5 harg5 arg6 harg6 arg7 harg7 arg8 harg8 arg9 harg9 arg10 harg10 x0 x1 x2 x3 x4 x5 x6
      = projTile x0 x1 x2 x3 x4 x5 x6 := by
  have l0 : ∀ inb, View.ld x0 (Rect.unit ![0, 0] ![528, 1024] inb) = x0 := fun inb => View.ld_unit_zero hz inb x0
  have l3 : ∀ inb, View.ld x3 (Rect.unit ![0, 0] ![2816, 1024] inb) = x3 := fun inb => View.ld_unit_zero hz inb x3
  have l4 : ∀ inb, View.ld x4 (Rect.unit ![0, 0] ![1, 1024] inb) = x4 := fun inb => View.ld_unit_zero hz inb x4
  have l5 : ∀ inb, View.ld x5 (Rect.unit ![0, 0] ![1, 1024] inb) = x5 := fun inb => View.ld_unit_zero hz inb x5
  have l6 : ∀ inb, View.ld x6 (Rect.unit ![0, 0] ![1024, 2560] inb) = x6 := fun inb => View.ld_unit_zero hz inb x6
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    l0, l3, l4, l5, l6]
  have hidx : ∀ inb, (fun j => hidden x0 x1 x2 ((Rect.unit (s := S528x2816) ![0, 0] ![528, 2816] inb).toLoadRect.idx j)) = hidden x0 x1 x2 :=
    fun inb => View.ld_unit_zero (Val := Elt Ideal) (e := .bf16) hz inb (hidden x0 x1 x2)
  have scratch : ∀ (L : List (View.Piece (Elt Ideal) S528x2816 .bf16)) inb,
      (∀ y, ∃ p ∈ L, y ∈ p.1.set) → (∀ p ∈ L, ∀ x : p.1.shape.Idx, p.2 x = hidden x0 x1 x2 (p.1.emb x)) →
      arg10.view.readCov L (Rect.unit (s := S528x2816) ![0, 0] ![528, 2816] inb).toLoadRect = hidden x0 x1 x2 := fun L inb hc hp => by
    rw [View.readCov_eq_canon']
    rw [canon_hidden x0 x1 x2 L hc hp]
    exact hidx inb
  refine Eq.trans (congrArg (fun h => k0_pay1 (k0_pay18 x0 h x3 x4 x5) x6) (scratch _ _ ?_ ?_)) ?_
  · intro y
    exact View.cover_of_tiledL (s := S528x2816) _ S528x256.size (by sl_kernel_rfl) y
  · simp only [List.forall_mem_cons, List.not_mem_nil, false_imp_iff, implies_true, and_true]
    refine ⟨?_, ?_, ?_, ?_, ?_, ?_, ?_, ?_, ?_, ?_, ?_⟩ <;>
      refine chunk x0 x1 x2 _ _ (by norm_num) _ fun r l => ?_ <;>
      · pointwise [k0_pay2, k0_pay3, k0_pay4, k0_pay5, k0_pay6, k0_pay7, k0_pay8, k0_pay9, k0_pay10, k0_pay11, k0_pay12,
          k0_pay13, k0_pay14, k0_pay15, k0_pay16, k0_pay17]
        rfl
  · funext y
    obtain ⟨r, l, rfl⟩ : ∃ r l, y = ix2 r l := ⟨y 0, y 1, ValueIdx.eq_ix2 y⟩
    pointwise [k0_pay1, k0_pay18]
    rfl

variable (m : (ℓ : Loc nD τ sig) → Buf (Elt Ideal) ℓ) (ρ : Dev nD → PrngReg)

theorem V1 (c : Dev nD) (k : Fin 1024) (j : Fin 2816) : V m c main_v1 (ix2 k j) = m ((c : Thread nD τ).loc main_arg1) (ix3 0 k j) := by
  have h : @Eq (Vec Ideal S1024x2816 .bf16) (V m c main_v1) (truncf (F := Ideal) .bf16 (shapeCast S1024x2816 (m ((c : Thread nD τ).loc main_arg1) : Vec Ideal S1x1024x2816 .f32) shapeCasts_S1x1024x2816_S1024x2816) bitsLt_bf16_f32) := by
    unfold_abbrev_sides; after_results_simp <;> rfl
  rw [h]; exact dropUnit2 _ _ k j
theorem V3 (c : Dev nD) (k : Fin 1024) (j : Fin 2816) : V m c main_v3 (ix2 k j) = m ((c : Thread nD τ).loc main_arg2) (ix3 0 k j) := by
  have h : @Eq (Vec Ideal S1024x2816 .bf16) (V m c main_v3) (truncf (F := Ideal) .bf16 (shapeCast S1024x2816 (m ((c : Thread nD τ).loc main_arg2) : Vec Ideal S1x1024x2816 .f32) shapeCasts_S1x1024x2816_S1024x2816) bitsLt_bf16_f32) := by
    unfold_abbrev_sides; after_results_simp <;> rfl
  rw [h]; exact dropUnit2 _ _ k j
theorem V5 (c : Dev nD) (k : Fin 2816) (j : Fin 1024) : V m c main_v5 (ix2 k j) = m ((c : Thread nD τ).loc main_arg3) (ix3 0 k j) := by
  have h : @Eq (Vec Ideal S2816x1024 .bf16) (V m c main_v5) (truncf (F := Ideal) .bf16 (shapeCast S2816x1024 (m ((c : Thread nD τ).loc main_arg3) : Vec Ideal S1x2816x1024 .f32) shapeCasts_S1x2816x1024_S2816x1024) bitsLt_bf16_f32) := by
    unfold_abbrev_sides; after_results_simp <;> rfl
  rw [h]; exact dropUnit2 _ _ k j
theorem V7 (c : Dev nD) (j : Fin 1024) : V m c main_v7 (ix2 0 j) = m ((c : Thread nD τ).loc main_arg4) (ix2 0 j) := by
  have h : V m c main_v7 = shapeCast S1x1024 (shapeCast S1024 (m ((c : Thread nD τ).loc main_arg4)) shapeCasts_S1x1024_S1024) shapeCasts_S1024_S1x1024 := by
    unfold_abbrev_sides; after_results_simp <;> rfl
  rw [h, shapeCast_shapeCast]
theorem V9 (c : Dev nD) (j : Fin 1024) : V m c main_v9 (ix2 0 j) = m ((c : Thread nD τ).loc main_arg5) (ix2 0 j) := by
  have h : V m c main_v9 = shapeCast S1x1024 (shapeCast S1024 (m ((c : Thread nD τ).loc main_arg5)) shapeCasts_S1x1024_S1024) shapeCasts_S1024_S1x1024 := by
    unfold_abbrev_sides; after_results_simp <;> rfl
  rw [h, shapeCast_shapeCast]

theorem V11 (c : Dev nD) (k : Fin 1024) (j : Fin 2560) : V m c main_v11 (ix2 k j) = m ((c : Thread nD τ).loc main_arg6) (ix3 0 k j) := by
  have h : @Eq (Vec Ideal S1024x2560 .bf16) (V m c main_v11) (truncf (F := Ideal) .bf16 (shapeCast S1024x2560 (m ((c : Thread nD τ).loc main_arg6) : Vec Ideal S1x1024x2560 .f32) shapeCasts_S1x1024x2560_S1024x2560) bitsLt_bf16_f32) := by
    unfold_abbrev_sides; after_results_simp <;> rfl
  rw [h]; exact dropUnit2 _ _ k j
theorem idx0 : ∀ t : Fin cfg0.N, win0_0.index t (0 : Fin 2) = t.val ∧ win0_0.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

/-- The row of the array that row `r` of block `t` is. -/
def rowOf (t : Fin cfg0.N) (r : Fin 528) : Fin 528 := ⟨t.val * 528 + r.val, by have := t.isLt; have h := N_0; have := r.isLt; simp only [Pipeline.Cfg.N] at *; omega⟩

theorem iblk0_eq (c : Dev nD) (t : Fin cfg0.N) (r : Fin 528) (k : Fin 1024) :
    iblk m c 0 t (ix2 r k) = m ((c : Thread nD τ).loc main_arg0) (ix2 (rowOf t r) k) := by
  refine Eq.trans ?_ (congrFun (V_main_arg0 m c) (ix2 (rowOf t r) k))
  show V m c main_arg0 (((cfg0.win 0).blk t).view.emb (ix2 r k)) = _
  refine congrArg _ (funext fun a => Fin.ext ?_)
  obtain ⟨e0, e1⟩ := idx0 t
  match a with
  | ⟨0, _⟩ => show win0_0.index t (0 : Fin 2) * 528 + 1 * r.val = t.val * 528 + r.val; omega
  | ⟨1, _⟩ => show win0_0.index t (1 : Fin 2) * 1024 + 1 * k.val = k.val; omega
theorem iblk1_eq (c : Dev nD) (t : Fin cfg0.N) (k : Fin 1024) (j : Fin 2816) :
    iblk m c 1 t (ix2 k j) = m ((c : Thread nD τ).loc main_arg1) (ix3 0 k j) := by
  refine Eq.trans ?_ (V1 m c k j)
  show V m c main_v1 (((cfg0.win 1).blk t).view.emb (ix2 k j)) = _
  refine congrArg _ (funext fun a => Fin.ext ?_)
  obtain ⟨e0, e1⟩ := idx1 t
  match a with
  | ⟨0, _⟩ => show win0_1.index t (0 : Fin 2) * 1024 + 1 * k.val = k.val; omega
  | ⟨1, _⟩ => show win0_1.index t (1 : Fin 2) * 2816 + 1 * j.val = j.val; omega
theorem iblk2_eq (c : Dev nD) (t : Fin cfg0.N) (k : Fin 1024) (j : Fin 2816) :
    iblk m c 2 t (ix2 k j) = m ((c : Thread nD τ).loc main_arg2) (ix3 0 k j) := by
  refine Eq.trans ?_ (V3 m c k j)
  show V m c main_v3 (((cfg0.win 2).blk t).view.emb (ix2 k j)) = _
  refine congrArg _ (funext fun a => Fin.ext ?_)
  obtain ⟨e0, e1⟩ := idx2 t
  match a with
  | ⟨0, _⟩ => show win0_2.index t (0 : Fin 2) * 1024 + 1 * k.val = k.val; omega
  | ⟨1, _⟩ => show win0_2.index t (1 : Fin 2) * 2816 + 1 * j.val = j.val; omega
theorem iblk3_eq (c : Dev nD) (t : Fin cfg0.N) (k : Fin 2816) (j : Fin 1024) :
    iblk m c 3 t (ix2 k j) = m ((c : Thread nD τ).loc main_arg3) (ix3 0 k j) := by
  refine Eq.trans ?_ (V5 m c k j)
  show V m c main_v5 (((cfg0.win 3).blk t).view.emb (ix2 k j)) = _
  refine congrArg _ (funext fun a => Fin.ext ?_)
  obtain ⟨e0, e1⟩ := idx3 t
  match a with
  | ⟨0, _⟩ => show win0_3.index t (0 : Fin 2) * 2816 + 1 * k.val = k.val; omega
  | ⟨1, _⟩ => show win0_3.index t (1 : Fin 2) * 1024 + 1 * j.val = j.val; omega
theorem iblk4_eq (c : Dev nD) (t : Fin cfg0.N) (j : Fin 1024) :
    iblk m c 4 t (ix2 0 j) = m ((c : Thread nD τ).loc main_arg4) (ix2 0 j) := by
  refine Eq.trans ?_ (V7 m c j)
  show V m c main_v7 (((cfg0.win 4).blk t).view.emb (ix2 0 j)) = _
  refine congrArg _ (funext fun a => Fin.ext ?_)
  obtain ⟨e0, e1⟩ := idx4 t
  match a with
  | ⟨0, _⟩ => show win0_4.index t (0 : Fin 2) * 1 + 1 * 0 = 0; omega
  | ⟨1, _⟩ => show win0_4.index t (1 : Fin 2) * 1024 + 1 * j.val = j.val; omega
theorem iblk5_eq (c : Dev nD) (t : Fin cfg0.N) (j : Fin 1024) :
    iblk m c 5 t (ix2 0 j) = m ((c : Thread nD τ).loc main_arg5) (ix2 0 j) := by
  refine Eq.trans ?_ (V9 m c j)
  show V m c main_v9 (((cfg0.win 5).blk t).view.emb (ix2 0 j)) = _
  refine congrArg _ (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * j.val = j.val; omega

theorem iblk6_eq (c : Dev nD) (t : Fin cfg0.N) (k : Fin 1024) (j : Fin 2560) :
    iblk m c 6 t (ix2 k j) = m ((c : Thread nD τ).loc main_arg6) (ix3 0 k j) := by
  refine Eq.trans ?_ (V11 m c k j)
  show V m c main_v11 (((cfg0.win 6).blk t).view.emb (ix2 k j)) = _
  refine congrArg _ (funext fun a => Fin.ext ?_)
  obtain ⟨e0, e1⟩ := idx6 t
  match a with
  | ⟨0, _⟩ => show win0_6.index t (0 : Fin 2) * 1024 + 1 * k.val = k.val; omega
  | ⟨1, _⟩ => show win0_6.index t (1 : Fin 2) * 2560 + 1 * j.val = j.val; omega

theorem emb7 (t : Fin cfg0.N) (r : Fin 528) (l : Fin 1024) : ((cfg0.win 7).blk t).view.emb (ix2 r l) = ix2 (rowOf t r) l := by
  obtain ⟨e0, e1⟩ := idx7 t
  funext a; apply Fin.ext
  match a with
  | ⟨0, _⟩ => show win0_7.index t (0 : Fin 2) * 528 + 1 * r.val = t.val * 528 + r.val; omega
  | ⟨1, _⟩ => show win0_7.index t (1 : Fin 2) * 1024 + 1 * l.val = l.val; omega

/-- The result array of the launch arguments. -/
abbrev GV (c : Dev nD) : Vec Ideal S528x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The result tile of a grid point is the result array's own row there. -/
theorem tile_eq (c : Dev nD) (t : Fin cfg0.N) (r : Fin 528) (l : Fin 1024) :
    tile (iblk m c 0 t) (iblk m c 1 t) (iblk m c 2 t) (iblk m c 3 t) (iblk m c 4 t) (iblk m c 5 t) (ix2 r l)
      = GV m c (ix2 (rowOf t r) l) := by
  unfold tile GV G
  have h0 : (fun k => iblk m c 0 t (ix2 r k)) = fun k => m ((c : Thread nD τ).loc main_arg0) (ix2 (rowOf t r) k) := funext fun k => iblk0_eq m c t r k
  have h1 : (fun k j => iblk m c 1 t (ix2 k j)) = fun k j => m ((c : Thread nD τ).loc main_arg1) (ix3 0 k j) := funext fun k => funext fun j => iblk1_eq m c t k j
  have h2 : (fun k j => iblk m c 2 t (ix2 k j)) = fun k j => m ((c : Thread nD τ).loc main_arg2) (ix3 0 k j) := funext fun k => funext fun j => iblk2_eq m c t k j
  have h3 : (fun k j => iblk m c 3 t (ix2 k j)) = fun k j => m ((c : Thread nD τ).loc main_arg3) (ix3 0 k j) := funext fun k => funext fun j => iblk3_eq m c t k j
  have h4 : (fun j => iblk m c 4 t (ix2 0 j)) = fun j => m ((c : Thread nD τ).loc main_arg4) (ix2 0 j) := funext fun j => iblk4_eq m c t j
  have h5 : (fun j => iblk m c 5 t (ix2 0 j)) = fun j => m ((c : Thread nD τ).loc main_arg5) (ix2 0 j) := funext fun j => iblk5_eq m c t j
  show ffnRow (fun k => iblk m c 0 t (ix2 r k)) (fun k j => iblk m c 1 t (ix2 k j)) (fun k j => iblk m c 2 t (ix2 k j))
    (fun k j => iblk m c 3 t (ix2 k j)) (fun j => iblk m c 4 t (ix2 0 j)) (fun j => iblk m c 5 t (ix2 0 j)) l = _
  rw [h0, h1, h2, h3, h4, h5]
  rfl

/-- What a grid point writes back is its block of the result. -/
theorem flushed7_eq (c : Dev nD) (t : Fin cfg0.N) :
    (dats m 0 c).flushed 7 t = ((cfg0.win 7).blk t).view.read (Elt Ideal) (GV m c) := by
  rw [flushed7_A, out_eq]
  funext j
  obtain ⟨r, l, rfl⟩ : ∃ (r : Fin 528) (l : Fin 1024), j = ix2 r l := ⟨j 0, j 1, ValueIdx.eq_ix2 j⟩
  show tile (iblk m c 0 t) (iblk m c 1 t) (iblk m c 2 t) (iblk m c 3 t) (iblk m c 4 t) (iblk m c 5 t) (ix2 r l)
    = GV m c (((cfg0.win 7).blk t).view.emb (ix2 r l))
  rw [emb7]
  exact tile_eq m c t r l

/-- Every row is in the one block. -/
theorem covered7 (i : S528x1024.Idx) :
    ∃ t : Fin cfg0.N, (cfg0.win 7).flush t = true ∧ i ∈ ((cfg0.win 7).blk t).view.set := by
  have hi : (i 0).val < 528 := (i 0).isLt
  let t : Fin cfg0.N := ⟨(i 0).val / 528, by show _ < grid0.N; rw [N_0]; omega⟩
  let r : Fin 528 := ⟨(i 0).val % 528, by omega⟩
  refine ⟨t, flush0_7 _, ?_⟩
  have e : ((cfg0.win 7).blk t).view.emb (ix2 r (i 1)) = i := (emb7 t r (i 1)).trans (by
    funext a; apply Fin.ext
    match a with
    | ⟨0, _⟩ => show (i 0).val / 528 * 528 + (i 0).val % 528 = (i 0).val; omega
    | ⟨1, _⟩ => rfl)
  exact e ▸ ((cfg0.win 7).blk t).view.emb_mem_set (ix2 r (i 1))

/-- The result array after the run. -/
theorem final7 (c : Dev nD) : (dats m 0 c).arrAt 7 cfg0.N = GV m c :=
  (dats m 0 c).arrAt_eq_of_cover 7 (GV m c) (fun t _ => flushed7_eq m c t) covered7

theorem emb8 (t : Fin cfg0.N) (r : Fin 528) (l : Fin 2560) : ((cfg0.win 8).blk t).view.emb (ix2 r l) = ix2 (rowOf t r) l := by
  obtain ⟨e0, e1⟩ := idx8 t
  funext a; apply Fin.ext
  match a with
  | ⟨0, _⟩ => show win0_8.index t (0 : Fin 2) * 528 + 1 * r.val = t.val * 528 + r.val; omega
  | ⟨1, _⟩ => show win0_8.index t (1 : Fin 2) * 2560 + 1 * l.val = l.val; omega

/-- The projected array of the launch arguments. -/
abbrev GP (c : Dev nD) : Vec Ideal S528x2560 .f32 := fun y =>
  mulRow (fun l => GV m c (ix2 (y 0) l)) (fun l j => m ((c : Thread nD τ).loc main_arg6) (ix3 0 l j)) (y 1)

/-- What a grid point writes back is its block of the projected array. -/
theorem flushed8_eq (c : Dev nD) (t : Fin cfg0.N) :
    (dats m 0 c).flushed 8 t = ((cfg0.win 8).blk t).view.read (Elt Ideal) (GP m c) := by
  rw [flushed8_A, proj_eq]
  funext j
  obtain ⟨r, l, rfl⟩ : ∃ (r : Fin 528) (l : Fin 2560), j = ix2 r l := ⟨j 0, j 1, ValueIdx.eq_ix2 j⟩
  show projTile (iblk m c 0 t) (iblk m c 1 t) (iblk m c 2 t) (iblk m c 3 t) (iblk m c 4 t) (iblk m c 5 t) (iblk m c 6 t) (ix2 r l)
    = GP m c (((cfg0.win 8).blk t).view.emb (ix2 r l))
  rw [emb8]
  have h6 : (fun k j => iblk m c 6 t (ix2 k j)) = fun k j => m ((c : Thread nD τ).loc main_arg6) (ix3 0 k j) := funext fun k => funext fun j => iblk6_eq m c t k j
  have hx : (fun l => tile (iblk m c 0 t) (iblk m c 1 t) (iblk m c 2 t) (iblk m c 3 t) (iblk m c 4 t) (iblk m c 5 t) (ix2 r l))
      = fun l => GV m c (ix2 (rowOf t r) l) := funext fun l => tile_eq m c t r l
  show mulRow (fun l => tile (iblk m c 0 t) (iblk m c 1 t) (iblk m c 2 t) (iblk m c 3 t) (iblk m c 4 t) (iblk m c 5 t) (ix2 r l))
    (fun k j => iblk m c 6 t (ix2 k j)) l = _
  rw [hx, h6]
  rfl

/-- Every row is in the one block. -/
theorem covered8 (i : S528x2560.Idx) :
    ∃ t : Fin cfg0.N, (cfg0.win 8).flush t = true ∧ i ∈ ((cfg0.win 8).blk t).view.set := by
  have hi : (i 0).val < 528 := (i 0).isLt
  let t : Fin cfg0.N := ⟨(i 0).val / 528, by show _ < grid0.N; rw [N_0]; omega⟩
  let r : Fin 528 := ⟨(i 0).val % 528, by omega⟩
  refine ⟨t, flush0_8 _, ?_⟩
  have e : ((cfg0.win 8).blk t).view.emb (ix2 r (i 1)) = i := (emb8 t r (i 1)).trans (by
    funext a; apply Fin.ext
    match a with
    | ⟨0, _⟩ => show (i 0).val / 528 * 528 + (i 0).val % 528 = (i 0).val; omega
    | ⟨1, _⟩ => rfl)
  exact e ▸ ((cfg0.win 8).blk t).view.emb_mem_set (ix2 r (i 1))

/-- The result array after the run. -/
theorem final8 (c : Dev nD) : (dats m 0 c).arrAt 8 cfg0.N = GP m c :=
  (dats m 0 c).arrAt_eq_of_cover 8 (GP m c) (fun t _ => flushed8_eq m c t) covered8

end Cert.Ffn6

end
-- ==== Proof.Ffn6Ref.lean ====
/- The plain feed-forward program's result arrays on the small rows, row by row. -/
module

public import proofs.«01_k».proof.Proof.Gen.Reference6Ideal.Read
public import proofs.«01_k».proof.Proof.Rows

@[expose] public section

noncomputable section

namespace Cert.Ffn6Ref

open Idealize.ShloMosaic Idealize.ShloMosaic.TcCoe Idealize.SL.Sem Cert.Rows
open Cert.Reference6Ideal Cert.Reference6Ideal.Gen Cert.Reference6Ideal.Read

variable (x0 : Vec Ideal S528x1024 .f32) (x1 x2 : Vec Ideal S1x1024x2816 .f32) (x3 : Vec Ideal S1x2816x1024 .f32)
  (x4 x5 : Vec Ideal S1x1024 .f32)

theorem gate_w (k : Fin 1024) (j : Fin 2816) : val_main_v2 (F := Ideal) x1 (ix2 k j) = x1 (ix3 0 k j) := dropUnit2 x1 _ k j
theorem up_w (k : Fin 1024) (j : Fin 2816) : val_main_v3 (F := Ideal) x2 (ix2 k j) = x2 (ix3 0 k j) := dropUnit2 x2 _ k j
theorem down_w (k : Fin 2816) (j : Fin 1024) : val_main_v4 (F := Ideal) x3 (ix2 k j) = x3 (ix3 0 k j) := dropUnit2 x3 _ k j
theorem gain (j : Fin 1024) : val_main_v13 (F := Ideal) x4 (ix1 j) = x4 (ix2 0 j) := dropUnit1 x4 _ j
theorem offset (j : Fin 1024) : val_main_v14 (F := Ideal) x5 (ix1 j) = x5 (ix2 0 j) := dropUnit1 x5 _ j

/-- The gated activation of row `r`. -/
theorem act (r : Fin 528) (j : Fin 2816) : val_main_v8 (F := Ideal) x0 x1 x2 (ix2 r j)
    = gated (fun k => x0 (ix2 r k)) (fun k j => x1 (ix3 0 k j)) (fun k j => x2 (ix3 0 k j)) j := by
  pointwise [val_main_v8, val_main_v6, val_main_v7, val_main_v5, val_main_call0_v5, val_main_call0_v4, val_main_call0_v3,
    val_main_call0_v2, val_main_call0_v1, val_main_call0_v0, val_main_call0_cst, val_main_call0_cst_0]
  simp only [gate_w, up_w, Ideal.ofBits_one_f32]
  rfl

/-- The residual sum of row `r`. -/
theorem resid (r : Fin 528) (j : Fin 1024) : val_main_v12 (F := Ideal) x0 x1 x2 x3 (ix2 r j)
    = halfStep (fun k => x0 (ix2 r k)) (fun k j => x1 (ix3 0 k j)) (fun k j => x2 (ix3 0 k j)) (fun k j => x3 (ix3 0 k j)) j := by
  pointwise [val_main_v12, val_main_v11, val_main_v10, val_main_v9, val_main_v1, val_main_v0, val_main_cst, val_main_cst_0]
  simp only [act, down_w]
  rfl

/-- Each row of the result is the half-step of the argument's row. -/
theorem val_eq (r : Fin 528) (l : Fin 1024) : val_main_v38 (F := Ideal) x0 x1 x2 x3 x4 x5 (ix2 r l)
    = ffnRow (fun k => x0 (ix2 r k)) (fun k j => x1 (ix3 0 k j)) (fun k j => x2 (ix3 0 k j)) (fun k j => x3 (ix3 0 k j))
      (fun j => x4 (ix2 0 j)) (fun j => x5 (ix2 0 j)) l := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_cst_1,
    val_main_cst_2, val_main_cst_3, val_main_cst_4, val_main_cst_5]
  simp only [resid, gain, offset]
  rfl

variable (x6 : Vec Ideal S1x1024x2560 .f32)

theorem proj_w (k : Fin 1024) (j : Fin 2560) : val_main_v39 (F := Ideal) x6 (ix2 k j) = x6 (ix3 0 k j) := dropUnit2 x6 _ k j

/-- Each row of the projected array is the result's row times the projection. -/
theorem proj_eq (r : Fin 528) (l : Fin 2560) : val_main_v40 (F := Ideal) x0 x1 x2 x3 x4 x5 x6 (ix2 r l)
    = mulRow (ffnRow (fun k => x0 (ix2 r k)) (fun k j => x1 (ix3 0 k j)) (fun k j => x2 (ix3 0 k j)) (fun k j => x3 (ix3 0 k j))
      (fun j => x4 (ix2 0 j)) (fun j => x5 (ix2 0 j))) (fun k j => x6 (ix3 0 k j)) l := by
  pointwise [val_main_v40]
  simp only [val_eq, proj_w]
  rfl

end Cert.Ffn6Ref

end
-- ==== Proof.FfnClaims.lean ====
/- The claims about the feed-forward calls: each kernel's result arrays and each plain program's are the same functions of
   the arguments, row by row. -/
module

public import proofs.«01_k».proof.Defs
public import proofs.«01_k».proof.Proof.Ffn2
public import proofs.«01_k».proof.Proof.Ffn2Ref
public import proofs.«01_k».proof.Proof.Ffn3
public import proofs.«01_k».proof.Proof.Ffn3Ref
public import proofs.«01_k».proof.Proof.Ffn4
public import proofs.«01_k».proof.Proof.Ffn4Ref
public import proofs.«01_k».proof.Proof.Ffn6
public import proofs.«01_k».proof.Proof.Ffn6Ref
public import Idealize.ShloMosaic.Lib.Claim

@[expose] public section

noncomputable section

namespace Cert.Proof

open Idealize.ShloMosaic Idealize.SL.Sem Cert.Rows

/-- The plain program 2 leaves its arguments and has no semaphore. -/
theorem frame_ref2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The plain program 3 leaves its arguments and has no semaphore. -/
theorem frame_ref3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The plain program 4 leaves its arguments and has no semaphore. -/
theorem frame_ref4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The plain program 6 leaves its arguments and has no semaphore. -/
theorem frame_ref6 : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

/-- The result arrays of call 2: the normalised half-step and its projection. -/
theorem algebraic2 : Cert.algebraic_Kernel2Ideal_Reference2Ideal := by
  intro m g m' g' _ hag
  refine ⟨fun c => Ffn2.GV m c, fun c => Ffn2.GP m c, (θ_run Cert.Kernel2Ideal.defs _ _).mono (fun r h c => ⟨(h c).1.trans (Ffn2.final7 m c), (h c).2.1.trans (Ffn2.final8 m c), (h c).2.2⟩)
    (Cert.Kernel2Ideal.Value.run_blocks (F := Ideal) m g), ?_⟩
  refine (θ_run Cert.Reference2Ideal.defs _ _).mono (fun r h c => ⟨(h c).1.trans ?_, (h c).2.1.trans ?_, (h c).2.2⟩)
    (Cert.Reference2Ideal.Value.run (F := Ideal) m' g')
  · obtain ⟨e0, e1, e2, e3, e4, e5, e6⟩ := hag c
    refine (Cert.Reference2Ideal.Read.val_main_v38_eq m' c).trans ?_
    rw [e0, e1, e2, e3, e4, e5]
    funext y
    obtain ⟨r, l, rfl⟩ : ∃ (r : Fin 16384) (l : Fin 1024), y = ix2 r l := ⟨y 0, y 1, ValueIdx.eq_ix2 y⟩
    exact Ffn2Ref.val_eq _ _ _ _ _ _ r l
  · obtain ⟨e0, e1, e2, e3, e4, e5, e6⟩ := hag c
    refine (Cert.Reference2Ideal.Read.val_main_v40_eq m' c).trans ?_
    rw [e0, e1, e2, e3, e4, e5, e6]
    funext y
    obtain ⟨r, l, rfl⟩ : ∃ (r : Fin 16384) (l : Fin 2560), y = ix2 r l := ⟨y 0, y 1, ValueIdx.eq_ix2 y⟩
    exact Ffn2Ref.proj_eq _ _ _ _ _ _ _ r l

/-- The result array of call 3. -/
theorem algebraic3 : Cert.algebraic_Kernel3Ideal_Reference3Ideal := by
  intro m g m' g' _ hag
  refine ⟨fun c => Ffn3.GV m c, (θ_run Cert.Kernel3Ideal.defs _ _).mono (fun r h c => ⟨(h c).1.trans (Ffn3.final6 m c), (h c).2⟩)
    (Cert.Kernel3Ideal.Value.run_blocks (F := Ideal) m g), ?_⟩
  refine (θ_run Cert.Reference3Ideal.defs _ _).mono (fun r h c => ⟨(h c).1.trans ?_, (h c).2⟩)
    (Cert.Reference3Ideal.Value.run (F := Ideal) m' g')
  obtain ⟨e0, e1, e2, e3, e4, e5⟩ := hag c
  refine (Cert.Reference3Ideal.Read.val_main_v38_eq m' c).trans ?_
  rw [e0, e1, e2, e3, e4, e5]
  funext y
  obtain ⟨r, l, rfl⟩ : ∃ (r : Fin 16384) (l : Fin 1024), y = ix2 r l := ⟨y 0, y 1, ValueIdx.eq_ix2 y⟩
  exact Ffn3Ref.val_eq _ _ _ _ _ _ r l

/-- The result array of call 4. -/
theorem algebraic4 : Cert.algebraic_Kernel4Ideal_Reference4Ideal := by
  intro m g m' g' _ hag
  refine ⟨fun c => Ffn4.GV m c, (θ_run Cert.Kernel4Ideal.defs _ _).mono (fun r h c => ⟨(h c).1.trans (Ffn4.final6 m c), (h c).2⟩)
    (Cert.Kernel4Ideal.Value.run_blocks (F := Ideal) m g), ?_⟩
  refine (θ_run Cert.Reference4Ideal.defs _ _).mono (fun r h c => ⟨(h c).1.trans ?_, (h c).2⟩)
    (Cert.Reference4Ideal.Value.run (F := Ideal) m' g')
  obtain ⟨e0, e1, e2, e3, e4, e5⟩ := hag c
  refine (Cert.Reference4Ideal.Read.val_main_v38_eq m' c).trans ?_
  rw [e0, e1, e2, e3, e4, e5]
  funext y
  obtain ⟨r, l, rfl⟩ : ∃ (r : Fin 512) (l : Fin 1024), y = ix2 r l := ⟨y 0, y 1, ValueIdx.eq_ix2 y⟩
  exact Ffn4Ref.val_eq _ _ _ _ _ _ r l

/-- The result arrays of call 6, the same on the small rows: the normalised half-step and its projection. -/
theorem algebraic6 : Cert.algebraic_Kernel6Ideal_Reference6Ideal := by
  intro m g m' g' _ hag
  refine ⟨fun c => Ffn6.GV m c, fun c => Ffn6.GP m c, (θ_run Cert.Kernel6Ideal.defs _ _).mono (fun r h c => ⟨(h c).1.trans (Ffn6.final7 m c), (h c).2.1.trans (Ffn6.final8 m c), (h c).2.2⟩)
    (Cert.Kernel6Ideal.Value.run_blocks (F := Ideal) m g), ?_⟩
  refine (θ_run Cert.Reference6Ideal.defs _ _).mono (fun r h c => ⟨(h c).1.trans ?_, (h c).2.1.trans ?_, (h c).2.2⟩)
    (Cert.Reference6Ideal.Value.run (F := Ideal) m' g')
  · obtain ⟨e0, e1, e2, e3, e4, e5, e6⟩ := hag c
    refine (Cert.Reference6Ideal.Read.val_main_v38_eq m' c).trans ?_
    rw [e0, e1, e2, e3, e4, e5]
    funext y
    obtain ⟨r, l, rfl⟩ : ∃ (r : Fin 528) (l : Fin 1024), y = ix2 r l := ⟨y 0, y 1, ValueIdx.eq_ix2 y⟩
    exact Ffn6Ref.val_eq _ _ _ _ _ _ r l
  · obtain ⟨e0, e1, e2, e3, e4, e5, e6⟩ := hag c
    refine (Cert.Reference6Ideal.Read.val_main_v40_eq m' c).trans ?_
    rw [e0, e1, e2, e3, e4, e5, e6]
    funext y
    obtain ⟨r, l, rfl⟩ : ∃ (r : Fin 528) (l : Fin 2560), y = ix2 r l := ⟨y 0, y 1, ValueIdx.eq_ix2 y⟩
    exact Ffn6Ref.proj_eq _ _ _ _ _ _ _ r l

end Cert.Proof

end
-- ==== Proof.lean ====
/- The claims about the calls of the layer, assembled: the frames, the idealizations and the equations with the plain
   programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.ReferenceIdeal.Run
public import proofs.«01_k».proof.Proof.Gen.ReferenceIdeal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Mixer.Claims
public import proofs.«01_k».proof.Proof.Decode.Claims
public import proofs.«01_k».proof.Proof.FfnClaims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Mixer.frame_kernel, Cert.Mixer.frame_kernelIdeal, Cert.Mixer.frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  Cert.Decode.frame_kernel, Cert.Decode.frame_kernelIdeal, Cert.Decode.frame_ref,
  fun m ρ _ => Cert.Kernel6.Gen.frame m ρ, fun m ρ _ => Cert.Kernel6Ideal.Gen.frame m ρ, frame_ref6,
  Cert.Mixer.named, Cert.Mixer.states, trivial, algebraic2, trivial, algebraic3, trivial, algebraic4,
  Cert.Decode.named, Cert.Decode.sample_states, trivial, algebraic6⟩

end Cert.Proof

end
